-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_1)) (v1 : (c : Dev Cert.Kernel4Ideal.nD) → Buf (Elt Ideal) ((c.tc : Thread Cert.Kernel4Ideal.nD Cert.Kernel4Ideal.τ).loc Cert.Kernel4Ideal.main_v0_2)) (v2 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_1) = v0 c
          ∧ r.2.mem ((c.tc : Thread Cert.Kernel4Ideal.nD Cert.Kernel4Ideal.τ).loc Cert.Kernel4Ideal.main_v0_2) = v1 c
          ∧ r.2.mem ((c.tc : Thread Cert.Kernel4Ideal.nD Cert.Kernel4Ideal.τ).loc Cert.Kernel4Ideal.main_v0_3) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_v98) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S2x4096x13312 : Shape := ⟨3, ![2, 4096, 13312]⟩
abbrev S4x64 : Shape := ⟨2, ![4, 64]⟩
abbrev S1x1024 : Shape := ⟨2, ![1, 1024]⟩
abbrev S2x4096x3072 : Shape := ⟨3, ![2, 4096, 3072]⟩
abbrev S_ : Shape := ⟨0, ![]⟩

class Facts : Prop where
  slices_S2x4096x13312_S2x4096x3072_0_0_5120 : S2x4096x13312.Slices ![0, 0, 5120] S2x4096x3072
  bcast_S_S2x4096x3072 : S_.BroadcastsInDim S2x4096x3072 (![] : Fin 0 → Fin S2x4096x3072.rank)
  bcast_S_S4x64 : S_.BroadcastsInDim S4x64 (![] : Fin 0 → Fin S4x64.rank)

variable [Facts]

def fn {F : FTy → Type} [FloatOps F] (main_arg0 : FVec F S2x4096x13312 .f32) (main_arg1 : FVec F S4x64 .f32) (main_arg2 : FVec F S1x1024 .f32) : IVec S2x4096x3072 1 × IVec S4x64 1 :=
  let main_v0 : FVec F S2x4096x3072 .f32 := (extractStridedSlice S2x4096x3072 ![0, 0, 5120] · slices_S2x4096x13312_S2x4096x3072_0_0_5120) main_arg0
  let main_v1 : FVec F S2x4096x3072 .f32 := Host.absf main_v0
  let main_cst : FVec F S_ .f32 := constant S_ .f32 0x7F800000#32
  let main_v2 : FVec F S2x4096x3072 .f32 := broadcastInDim S2x4096x3072 ![] bcast_S_S2x4096x3072 main_cst
  let main_v3 : IVec S2x4096x3072 1 := cmpf .olt main_v1 main_v2
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  (main_v3, main_v6)
-- ==== Pre_finite4.lean ====
abbrev S512x13312 : Shape := ⟨2, ![512, 13312]⟩
abbrev S512x256 : Shape := ⟨2, ![512, 256]⟩
abbrev S128x8x1024 : Shape := ⟨3, ![128, 8, 1024]⟩
abbrev S2x128x4x256x256 : Shape := ⟨5, ![2, 128, 4, 256, 256]⟩
abbrev S2x128x4x256 : Shape := ⟨4, ![2, 128, 4, 256]⟩
abbrev S128x1x128 : Shape := ⟨3, ![128, 1, 128]⟩
abbrev S4x2048 : Shape := ⟨2, ![4, 2048]⟩
abbrev S1x2048 : Shape := ⟨2, ![1, 2048]⟩
abbrev S1x256 : Shape := ⟨2, ![1, 256]⟩
abbrev S1x1024 : Shape := ⟨2, ![1, 1024]⟩
abbrev S512x128 : Shape := ⟨2, ![512, 128]⟩
abbrev S_ : Shape := ⟨0, ![]⟩
abbrev S1x128 : Shape := ⟨2, ![1, 128]⟩

class Facts : Prop where
  slices_S512x256_S512x128_0_128 : S512x256.Slices ![0, 128] S512x128
  bcast_S_S512x128 : S_.BroadcastsInDim S512x128 (![] : Fin 0 → Fin S512x128.rank)
  slices_S1x256_S1x128_0_128 : S1x256.Slices ![0, 128] S1x128
  bcast_S_S1x128 : S_.BroadcastsInDim S1x128 (![] : Fin 0 → Fin S1x128.rank)

variable [Facts]

def fn {F : FTy → Type} [FloatOps F] (main_arg0 : FVec F S512x13312 .f32) (main_arg1 : FVec F S512x256 .f32) (main_arg2 : FVec F S128x8x1024 .f32) (main_arg3 : FVec F S128x8x1024 .f32) (main_arg4 : FVec F S2x128x4x256x256 .f32) (main_arg5 : FVec F S2x128x4x256 .f32) (main_arg6 : FVec F S128x1x128 .f32) (main_arg7 : FVec F S2x128x4x256x256 .f32) (main_arg8 : FVec F S4x2048 .f32) (main_arg9 : FVec F S1x2048 .f32) (main_arg10 : FVec F S1x256 .f32) (main_arg11 : FVec F S1x1024 .f32) : IVec S512x128 1 × IVec S1x128 1 :=
  let main_v0 : FVec F S512x128 .f32 := (extractStridedSlice S512x128 ![0, 128] · slices_S512x256_S512x128_0_128) main_arg1
  let main_v1 : FVec F S512x128 .f32 := Host.absf main_v0
  let main_cst : FVec F S_ .f32 := constant S_ .f32 0x7F800000#32
  let main_v2 : FVec F S512x128 .f32 := broadcastInDim S512x128 ![] bcast_S_S512x128 main_cst
  let main_v3 : IVec S512x128 1 := cmpf .olt main_v1 main_v2
  let main_v4 : FVec F S1x128 .f32 := (extractStridedSlice S1x128 ![0, 128] · slices_S1x256_S1x128_0_128) main_arg10
  let main_v5 : FVec F S1x128 .f32 := Host.absf main_v4
  let main_cst_0 : FVec F S_ .f32 := constant S_ .f32 0x7F800000#32
  let main_v6 : FVec F S1x128 .f32 := broadcastInDim S1x128 ![] bcast_S_S1x128 main_cst_0
  let main_v7 : IVec S1x128 1 := cmpf .olt main_v5 main_v6
  (main_v3, main_v7)
-- ==== Kernel.lean ====
abbrev S2x4096x13312 : Shape := ⟨3, ![2, 4096, 13312]⟩
abbrev S4x64 : Shape := ⟨2, ![4, 64]⟩
abbrev S1x1024 : Shape := ⟨2, ![1, 1024]⟩
abbrev S2x4096x1024 : Shape := ⟨3, ![2, 4096, 1024]⟩
abbrev S1x4096x128 : Shape := ⟨3, ![1, 4096, 128]⟩
abbrev S1x128 : Shape := ⟨2, ![1, 128]⟩
abbrev S8x512x128 : Shape := ⟨3, ![8, 512, 128]⟩
abbrev S8x128x512 : Shape := ⟨3, ![8, 128, 512]⟩
abbrev S2x1024x128 : Shape := ⟨3, ![2, 1024, 128]⟩
abbrev S2x512x1024 : Shape := ⟨3, ![2, 512, 1024]⟩
abbrev S2x1x1024 : Shape := ⟨3, ![2, 1, 1024]⟩
abbrev S2x128x1024 : Shape := ⟨3, ![2, 128, 1024]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S1x64 : Shape := ⟨2, ![1, 64]⟩
abbrev S1 : Shape := ⟨1, ![1]⟩
abbrev S1x1 : Shape := ⟨2, ![1, 1]⟩
abbrev S1024x128 : Shape := ⟨2, ![1024, 128]⟩
abbrev S1x1024x128 : Shape := ⟨3, ![1, 1024, 128]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S128x1024 : Shape := ⟨2, ![128, 1024]⟩
abbrev S512 : Shape := ⟨1, ![512]⟩
abbrev S512x1 : Shape := ⟨2, ![512, 1]⟩
abbrev S1x128x1024 : Shape := ⟨3, ![1, 128, 1024]⟩

abbrev nBuf : Space → Nat
  | .hbm => 4
  | .vmem => 22
  | .smem => 0
  | _ => 0

abbrev bufTy : (tb : Table) → Fin (tcTables nBuf tb) → BufTy
  | .hbm, ⟨0, _⟩ => ⟨S2x4096x13312, .f32⟩
  | .hbm, ⟨1, _⟩ => ⟨S4x64, .f32⟩
  | .hbm, ⟨2, _⟩ => ⟨S1x1024, .f32⟩
  | .hbm, ⟨3, _⟩ => ⟨S2x4096x1024, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S4x64, .f32⟩
  | .local _ .vmem, ⟨9, _⟩ => ⟨S1x128, .f32⟩
  | .local _ .vmem, ⟨10, _⟩ => ⟨S1x128, .f32⟩
  | .local _ .vmem, ⟨11, _⟩ => ⟨S1x4096x128, .bf16⟩
  | .local _ .vmem, ⟨12, _⟩ => ⟨S1x4096x128, .bf16⟩
  | .local _ .vmem, ⟨13, _⟩ => ⟨S8x512x128, .bf16⟩
  | .local _ .vmem, ⟨14, _⟩ => ⟨S8x128x512, .bf16⟩
  | .local _ .vmem, ⟨15, _⟩ => ⟨S2x1024x128, .bf16⟩
  | .local _ .vmem, ⟨16, _⟩ => ⟨S2x512x1024, .f32⟩
  | .local _ .vmem, ⟨17, _⟩ => ⟨S2x512x1024, .bf16⟩
  | .local _ .vmem, ⟨18, _⟩ => ⟨S2x1x1024, .f32⟩
  | .local _ .vmem, ⟨19, _⟩ => ⟨S2x1x1024, .f32⟩
  | .local _ .vmem, ⟨20, _⟩ => ⟨S2x1x1024, .f32⟩
  | .local _ .vmem, ⟨21, _⟩ => ⟨S2x128x1024, .f32⟩
  | _, _ => ⟨S2x4096x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S2x4096x13312 : Shape := ⟨3, ![2, 4096, 13312]⟩
abbrev S4x64 : Shape := ⟨2, ![4, 64]⟩
abbrev S1x1024 : Shape := ⟨2, ![1, 1024]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S1x64 : Shape := ⟨2, ![1, 64]⟩
abbrev S64 : Shape := ⟨1, ![64]⟩
abbrev S_ : Shape := ⟨0, ![]⟩
abbrev S2x8x2x4096x4096 : Shape := ⟨5, ![2, 8, 2, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1024 : Shape := ⟨3, ![1, 1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x4096x13312, .f32⟩
  | .hbm, ⟨1, _⟩ => ⟨S4x64, .f32⟩
  | .hbm, ⟨2, _⟩ => ⟨S1x1024, .f32⟩
  | .hbm, ⟨3, _⟩ => ⟨S2x4096x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8x2x64, .f32⟩
  | .hbm, ⟨8, _⟩ => ⟨S2x4096x8x2x64, .f32⟩
  | .hbm, ⟨9, _⟩ => ⟨S2x4096x8x128, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8x2x4096x4096, .f32⟩
  | .hbm, ⟨30, _⟩ => ⟨S_, .f32⟩
  | .hbm, ⟨31, _⟩ => ⟨S2x8x2x4096x4096, .f32⟩
  | .hbm, ⟨32, _⟩ => ⟨S2x8x2x4096x4096, .f32⟩
  | .hbm, ⟨33, _⟩ => ⟨S4096, .i32⟩
  | .hbm, ⟨34, _⟩ => ⟨S4096x1, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i1⟩
  | .hbm, ⟨39, _⟩ => ⟨S_, .f32⟩
  | .hbm, ⟨40, _⟩ => ⟨S_, .f32⟩
  | .hbm, ⟨41, _⟩ => ⟨S2x8x2x4096x4096, .i1⟩
  | .hbm, ⟨42, _⟩ => ⟨S2x8x2x4096x4096, .f32⟩
  | .hbm, ⟨43, _⟩ => ⟨S2x8x2x4096x4096, .f32⟩
  | .hbm, ⟨44, _⟩ => ⟨S_, .f32⟩
  | .hbm, ⟨45, _⟩ => ⟨S2x8x2x4096, .f32⟩
  | .hbm, ⟨46, _⟩ => ⟨S_, .f32⟩
  | .hbm, ⟨47, _⟩ => ⟨S2x8x2x4096, .f32⟩
  | .hbm, ⟨48, _⟩ => ⟨S2x8x2x4096, .f32⟩
  | .hbm, ⟨49, _⟩ => ⟨S2x8x2x4096x1, .f32⟩
  | .hbm, ⟨50, _⟩ => ⟨S2x8x2x4096x4096, .f32⟩
  | .hbm, ⟨51, _⟩ => ⟨S2x8x2x4096x4096, .f32⟩
  | .hbm, ⟨52, _⟩ => ⟨S2x8x2x4096x4096, .f32⟩
  | .hbm, ⟨53, _⟩ => ⟨S_, .f32⟩
  | .hbm, ⟨54, _⟩ => ⟨S2x8x2x4096, .f32⟩
  | .hbm, ⟨55, _⟩ => ⟨S2x8x2x4096x1, .f32⟩
  | .hbm, ⟨56, _⟩ => ⟨S2x8x2x4096x4096, .f32⟩
  | .hbm, ⟨57, _⟩ => ⟨S2x8x2x4096x4096, .f32⟩
  | .hbm, ⟨58, _⟩ => ⟨S2x8x1x4096x4096, .f32⟩
  | .hbm, ⟨59, _⟩ => ⟨S2x8x4096x4096, .f32⟩
  | .hbm, ⟨60, _⟩ => ⟨S2x8x1x4096x4096, .f32⟩
  | .hbm, ⟨61, _⟩ => ⟨S2x8x4096x4096, .f32⟩
  | .hbm, ⟨62, _⟩ => ⟨S2x8x4096x4096, .f32⟩
  | .hbm, ⟨63, _⟩ => ⟨S2x8x4096x4096, .f32⟩
  | .hbm, ⟨64, _⟩ => ⟨S2x8x4096x4096, .f32⟩
  | .hbm, ⟨65, _⟩ => ⟨S2x8x128x4096, .f32⟩
  | .hbm, ⟨66, _⟩ => ⟨S2x4096x8x128, .f32⟩
  | .hbm, ⟨67, _⟩ => ⟨S2x4096x8x128, .f32⟩
  | .hbm, ⟨68, _⟩ => ⟨S_, .f32⟩
  | .hbm, ⟨69, _⟩ => ⟨S2x4096x8, .f32⟩
  | .hbm, ⟨70, _⟩ => ⟨S2x4096x8x1, .f32⟩
  | .hbm, ⟨71, _⟩ => ⟨S_, .f32⟩
  | .hbm, ⟨72, _⟩ => ⟨S2x4096x8x1, .f32⟩
  | .hbm, ⟨73, _⟩ => ⟨S2x4096x8x1, .f32⟩
  | .hbm, ⟨74, _⟩ => ⟨S_, .f32⟩
  | .hbm, ⟨75, _⟩ => ⟨S2x4096x8x1, .f32⟩
  | .hbm, ⟨76, _⟩ => ⟨S2x4096x8x1, .f32⟩
  | .hbm, ⟨77, _⟩ => ⟨S2x4096x8x1, .f32⟩
  | .hbm, ⟨78, _⟩ => ⟨S2x4096x8x128, .f32⟩
  | .hbm, ⟨79, _⟩ => ⟨S2x4096x8x128, .f32⟩
  | .hbm, ⟨80, _⟩ => ⟨S2x4096x1024, .f32⟩
  | .hbm, ⟨81, _⟩ => ⟨S1x1x1024, .f32⟩
  | .hbm, ⟨82, _⟩ => ⟨S2x4096x1024, .f32⟩
  | .hbm, ⟨83, _⟩ => ⟨S2x4096x1024, .f32⟩
  | .hbm, ⟨84, _⟩ => ⟨S_, .f32⟩
  | .hbm, ⟨85, _⟩ => ⟨S2x4096x1024, .f32⟩
  | .hbm, ⟨86, _⟩ => ⟨S2x4096x1024, .f32⟩
  | .hbm, ⟨87, _⟩ => ⟨S2x4096x1024, .f32⟩
  | .hbm, ⟨88, _⟩ => ⟨S2x4096x1024, .f32⟩
  | .hbm, ⟨89, _⟩ => ⟨S_, .f32⟩
  | .hbm, ⟨90, _⟩ => ⟨S2x4096x1024, .f32⟩
  | .hbm, ⟨91, _⟩ => ⟨S2x4096x1024, .f32⟩
  | .hbm, ⟨92, _⟩ => ⟨S_, .f32⟩
  | .hbm, ⟨93, _⟩ => ⟨S2x4096x1024, .f32⟩
  | .hbm, ⟨94, _⟩ => ⟨S2x4096x1024, .f32⟩
  | .hbm, ⟨95, _⟩ => ⟨S2x4096x1024, .f32⟩
  | .hbm, ⟨96, _⟩ => ⟨S2x4096x1024, .f32⟩
  | .hbm, ⟨97, _⟩ => ⟨S2x4096x1024, .bf16⟩
  | _, _ => ⟨S2x4096x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S8192x13312 : Shape := ⟨2, ![8192, 13312]⟩
abbrev S1024x2048 : Shape := ⟨2, ![1024, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x13312, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8192x2048 : Shape := ⟨2, ![8192, 2048]⟩
abbrev S8192x1024 : Shape := ⟨2, ![8192, 1024]⟩
abbrev S8192x13312 : Shape := ⟨2, ![8192, 13312]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x13312, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S1024x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x1024, .f32⟩
  | .hbm, ⟨31, _⟩ => ⟨S1024x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S2048x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel3.lean ====
abbrev S8192x2048 : Shape := ⟨2, ![8192, 2048]⟩
abbrev S1x2048 : Shape := ⟨2, ![1, 2048]⟩
abbrev S13312x2048 : Shape := ⟨2, ![13312, 2048]⟩
abbrev S256x2048 : Shape := ⟨2, ![256, 2048]⟩
abbrev S2x65536x128 : Shape := ⟨3, ![2, 65536, 128]⟩
abbrev S8192x13312 : Shape := ⟨2, ![8192, 13312]⟩
abbrev S8192x256 : Shape := ⟨2, ![8192, 256]⟩
abbrev S1024x2048 : Shape := ⟨2, ![1024, 2048]⟩
abbrev S1024x1024 : Shape := ⟨2, ![1024, 1024]⟩
abbrev S1024x256 : Shape := ⟨2, ![1024, 256]⟩
abbrev S1x8192x128 : Shape := ⟨3, ![1, 8192, 128]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S13312x2048, .bf16⟩
  | .hbm, ⟨3, _⟩ => ⟨S256x2048, .f32⟩
  | .hbm, ⟨4, _⟩ => ⟨S2x65536x128, .f32⟩
  | .hbm, ⟨5, _⟩ => ⟨S2x65536x128, .f32⟩
  | .hbm, ⟨6, _⟩ => ⟨S8192x13312, .f32⟩
  | .hbm, ⟨7, _⟩ => ⟨S8192x256, .f32⟩
  | .hbm, ⟨8, _⟩ => ⟨S2x65536x128, .f32⟩
  | .hbm, ⟨9, _⟩ => ⟨S2x65536x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S256x2048, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S1x8192x128, .f32⟩
  | .local _ .vmem, ⟨11, _⟩ => ⟨S1x8192x128, .f32⟩
  | .local _ .vmem, ⟨12, _⟩ => ⟨S1x8192x128, .f32⟩
  | .local _ .vmem, ⟨13, _⟩ => ⟨S1x8192x128, .f32⟩
  | .local _ .vmem, ⟨14, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 13], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8192x2048 : Shape := ⟨2, ![8192, 2048]⟩
abbrev S1x2048 : Shape := ⟨2, ![1, 2048]⟩
abbrev S13312x2048 : Shape := ⟨2, ![13312, 2048]⟩
abbrev S256x2048 : Shape := ⟨2, ![256, 2048]⟩
abbrev S2x65536x128 : Shape := ⟨3, ![2, 65536, 128]⟩
abbrev S_ : Shape := ⟨0, ![]⟩
abbrev S8192 : Shape := ⟨1, ![8192]⟩
abbrev S8192x1 : Shape := ⟨2, ![8192, 1]⟩
abbrev S2048x13312 : Shape := ⟨2, ![2048, 13312]⟩
abbrev S8192x13312 : Shape := ⟨2, ![8192, 13312]⟩
abbrev S8192x1024 : Shape := ⟨2, ![8192, 1024]⟩
abbrev S65536x128 : Shape := ⟨2, ![65536, 128]⟩
abbrev S2048x256 : Shape := ⟨2, ![2048, 256]⟩
abbrev S8192x256 : Shape := ⟨2, ![8192, 256]⟩
abbrev S1x65536x128 : Shape := ⟨3, ![1, 65536, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S13312x2048, .bf16⟩
  | .hbm, ⟨3, _⟩ => ⟨S256x2048, .f32⟩
  | .hbm, ⟨4, _⟩ => ⟨S2x65536x128, .f32⟩
  | .hbm, ⟨5, _⟩ => ⟨S2x65536x128, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S13312x2048, .f32⟩
  | .hbm, ⟨22, _⟩ => ⟨S2048x13312, .f32⟩
  | .hbm, ⟨23, _⟩ => ⟨S8192x13312, .f32⟩
  | .hbm, ⟨24, _⟩ => ⟨S8192x1024, .f32⟩
  | .hbm, ⟨25, _⟩ => ⟨S65536x128, .f32⟩
  | .hbm, ⟨26, _⟩ => ⟨S8192x1024, .f32⟩
  | .hbm, ⟨27, _⟩ => ⟨S65536x128, .f32⟩
  | .hbm, ⟨28, _⟩ => ⟨S2048x256, .f32⟩
  | .hbm, ⟨29, _⟩ => ⟨S8192x256, .f32⟩
  | .hbm, ⟨30, _⟩ => ⟨S1x65536x128, .f32⟩
  | .hbm, ⟨31, _⟩ => ⟨S65536x128, .f32⟩
  | .hbm, ⟨32, _⟩ => ⟨S1x65536x128, .f32⟩
  | .hbm, ⟨33, _⟩ => ⟨S1x65536x128, .f32⟩
  | .hbm, ⟨34, _⟩ => ⟨S2x65536x128, .f32⟩
  | .hbm, ⟨35, _⟩ => ⟨S1x65536x128, .f32⟩
  | .hbm, ⟨36, _⟩ => ⟨S65536x128, .f32⟩
  | .hbm, ⟨37, _⟩ => ⟨S1x65536x128, .f32⟩
  | .hbm, ⟨38, _⟩ => ⟨S1x65536x128, .f32⟩
  | .hbm, ⟨39, _⟩ => ⟨S2x65536x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel4.lean ====
abbrev S512x13312 : Shape := ⟨2, ![512, 13312]⟩
abbrev S512x256 : Shape := ⟨2, ![512, 256]⟩
abbrev S128x8x1024 : Shape := ⟨3, ![128, 8, 1024]⟩
abbrev S2x128x4x256x256 : Shape := ⟨5, ![2, 128, 4, 256, 256]⟩
abbrev S2x128x4x256 : Shape := ⟨4, ![2, 128, 4, 256]⟩
abbrev S128x1x128 : Shape := ⟨3, ![128, 1, 128]⟩
abbrev S4x2048 : Shape := ⟨2, ![4, 2048]⟩
abbrev S1x2048 : Shape := ⟨2, ![1, 2048]⟩
abbrev S1x256 : Shape := ⟨2, ![1, 256]⟩
abbrev S1x1024 : Shape := ⟨2, ![1, 1024]⟩
abbrev S512x1024 : Shape := ⟨2, ![512, 1024]⟩
abbrev S128x4x256 : Shape := ⟨3, ![128, 4, 256]⟩
abbrev S4x8x1024 : Shape := ⟨3, ![4, 8, 1024]⟩
abbrev S16x1024 : Shape := ⟨2, ![16, 1024]⟩
abbrev S16x256 : Shape := ⟨2, ![16, 256]⟩
abbrev S1x4x4x256x256 : Shape := ⟨5, ![1, 4, 4, 256, 256]⟩
abbrev S1x4x4x256 : Shape := ⟨4, ![1, 4, 4, 256]⟩
abbrev S4x1x128 : Shape := ⟨3, ![4, 1, 128]⟩
abbrev S4x4x256 : Shape := ⟨3, ![4, 4, 256]⟩
abbrev S4x1024 : Shape := ⟨2, ![4, 1024]⟩
abbrev S8x1 : Shape := ⟨2, ![8, 1]⟩
abbrev S1x8x1024 : Shape := ⟨3, ![1, 8, 1024]⟩
abbrev S8x1024 : Shape := ⟨2, ![8, 1024]⟩
abbrev S4x256 : Shape := ⟨2, ![4, 256]⟩
abbrev S4x128 : Shape := ⟨2, ![4, 128]⟩
abbrev S1x1x128 : Shape := ⟨3, ![1, 1, 128]⟩
abbrev S1x128 : Shape := ⟨2, ![1, 128]⟩
abbrev S8x128 : Shape := ⟨2, ![8, 128]⟩
abbrev S8x256 : Shape := ⟨2, ![8, 256]⟩
abbrev S1x1 : Shape := ⟨2, ![1, 1]⟩
abbrev S1x1x1x256x256 : Shape := ⟨5, ![1, 1, 1, 256, 256]⟩
abbrev S256x256 : Shape := ⟨2, ![256, 256]⟩
abbrev S1x1x1x256 : Shape := ⟨4, ![1, 1, 1, 256]⟩
abbrev S8 : Shape := ⟨1, ![8]⟩
abbrev S256 : Shape := ⟨1, ![256]⟩
abbrev S1x1x256 : Shape := ⟨3, ![1, 1, 256]⟩
abbrev S4 : Shape := ⟨1, ![4]⟩
abbrev S4x1 : Shape := ⟨2, ![4, 1]⟩

abbrev nBuf : Space → Nat
  | .hbm => 16
  | .vmem => 30
  | .smem => 0
  | _ => 0

abbrev bufTy : (tb : Table) → Fin (tcTables nBuf tb) → BufTy
  | .hbm, ⟨0, _⟩ => ⟨S512x13312, .f32⟩
  | .hbm, ⟨1, _⟩ => ⟨S512x256, .f32⟩
  | .hbm, ⟨2, _⟩ => ⟨S128x8x1024, .f32⟩
  | .hbm, ⟨3, _⟩ => ⟨S128x8x1024, .f32⟩
  | .hbm, ⟨4, _⟩ => ⟨S2x128x4x256x256, .f32⟩
  | .hbm, ⟨5, _⟩ => ⟨S2x128x4x256, .f32⟩
  | .hbm, ⟨6, _⟩ => ⟨S128x1x128, .f32⟩
  | .hbm, ⟨7, _⟩ => ⟨S2x128x4x256x256, .f32⟩
  | .hbm, ⟨8, _⟩ => ⟨S4x2048, .f32⟩
  | .hbm, ⟨9, _⟩ => ⟨S1x2048, .f32⟩
  | .hbm, ⟨10, _⟩ => ⟨S1x256, .f32⟩
  | .hbm, ⟨11, _⟩ => ⟨S1x1024, .f32⟩
  | .hbm, ⟨12, _⟩ => ⟨S512x1024, .f32⟩
  | .hbm, ⟨13, _⟩ => ⟨S2x128x4x256x256, .f32⟩
  | .hbm, ⟨14, _⟩ => ⟨S128x4x256, .f32⟩
  | .hbm, ⟨15, _⟩ => ⟨S128x1x128, .f32⟩
  | .local _ .vmem, ⟨0, _⟩ => ⟨S4x8x1024, .f32⟩
  | .local _ .vmem, ⟨1, _⟩ => ⟨S4x8x1024, .f32⟩
  | .local _ .vmem, ⟨2, _⟩ => ⟨S4x8x1024, .f32⟩
  | .local _ .vmem, ⟨3, _⟩ => ⟨S4x8x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S16x256, .f32⟩
  | .local _ .vmem, ⟨11, _⟩ => ⟨S16x256, .f32⟩
  | .local _ .vmem, ⟨12, _⟩ => ⟨S1x4x4x256x256, .f32⟩
  | .local _ .vmem, ⟨13, _⟩ => ⟨S1x4x4x256x256, .f32⟩
  | .local _ .vmem, ⟨14, _⟩ => ⟨S1x4x4x256, .f32⟩
  | .local _ .vmem, ⟨15, _⟩ => ⟨S1x4x4x256, .f32⟩
  | .local _ .vmem, ⟨16, _⟩ => ⟨S4x1x128, .f32⟩
  | .local _ .vmem, ⟨17, _⟩ => ⟨S4x1x128, .f32⟩
  | .local _ .vmem, ⟨18, _⟩ => ⟨S4x2048, .f32⟩
  | .local _ .vmem, ⟨19, _⟩ => ⟨S1x2048, .f32⟩
  | .local _ .vmem, ⟨20, _⟩ => ⟨S1x256, .f32⟩
  | .local _ .vmem, ⟨21, _⟩ => ⟨S1x1024, .f32⟩
  | .local _ .vmem, ⟨22, _⟩ => ⟨S16x1024, .f32⟩
  | .local _ .vmem, ⟨23, _⟩ => ⟨S16x1024, .f32⟩
  | .local _ .vmem, ⟨24, _⟩ => ⟨S1x4x4x256x256, .f32⟩
  | .local _ .vmem, ⟨25, _⟩ => ⟨S1x4x4x256x256, .f32⟩
  | .local _ .vmem, ⟨26, _⟩ => ⟨S4x4x256, .f32⟩
  | .local _ .vmem, ⟨27, _⟩ => ⟨S4x4x256, .f32⟩
  | .local _ .vmem, ⟨28, _⟩ => ⟨S4x1x128, .f32⟩
  | .local _ .vmem, ⟨29, _⟩ => ⟨S4x1x128, .f32⟩
  | _, _ => ⟨S512x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x4x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x4x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S512x13312 : Shape := ⟨2, ![512, 13312]⟩
abbrev S512x256 : Shape := ⟨2, ![512, 256]⟩
abbrev S128x8x1024 : Shape := ⟨3, ![128, 8, 1024]⟩
abbrev S2x128x4x256x256 : Shape := ⟨5, ![2, 128, 4, 256, 256]⟩
abbrev S2x128x4x256 : Shape := ⟨4, ![2, 128, 4, 256]⟩
abbrev S128x1x128 : Shape := ⟨3, ![128, 1, 128]⟩
abbrev S4x2048 : Shape := ⟨2, ![4, 2048]⟩
abbrev S1x2048 : Shape := ⟨2, ![1, 2048]⟩
abbrev S1x256 : Shape := ⟨2, ![1, 256]⟩
abbrev S1x1024 : Shape := ⟨2, ![1, 1024]⟩
abbrev S128x4x256 : Shape := ⟨3, ![128, 4, 256]⟩
abbrev S128x4x128 : Shape := ⟨3, ![128, 4, 128]⟩
abbrev S_ : Shape := ⟨0, ![]⟩
abbrev S128x128 : Shape := ⟨2, ![128, 128]⟩
abbrev S128x2x128 : Shape := ⟨3, ![128, 2, 128]⟩
abbrev S128x3x128 : Shape := ⟨3, ![128, 3, 128]⟩
abbrev S128x4x4 : Shape := ⟨3, ![128, 4, 4]⟩
abbrev S128x4 : Shape := ⟨2, ![128, 4]⟩
abbrev S4x1024 : Shape := ⟨2, ![4, 1024]⟩
abbrev S1024 : Shape := ⟨1, ![1024]⟩
abbrev S128x4x1024 : Shape := ⟨3, ![128, 4, 1024]⟩
abbrev S1x1x1024 : Shape := ⟨3, ![1, 1, 1024]⟩
abbrev S128x4x4x1 : Shape := ⟨4, ![128, 4, 4, 1]⟩
abbrev S128x4x4x256 : Shape := ⟨4, ![128, 4, 4, 256]⟩
abbrev S512x1024 : Shape := ⟨2, ![512, 1024]⟩
abbrev S128x4x1x1 : Shape := ⟨4, ![128, 4, 1, 1]⟩
abbrev S1x128x4x256x256 : Shape := ⟨5, ![1, 128, 4, 256, 256]⟩
abbrev S128x4x256x256 : Shape := ⟨4, ![128, 4, 256, 256]⟩
abbrev S128x4x1 : Shape := ⟨3, ![128, 4, 1]⟩
abbrev S1x128x4x256 : Shape := ⟨4, ![1, 128, 4, 256]⟩

abbrev nBuf : Space → Nat
  | .hbm => 141
  | .vmem => 0
  | .smem => 0
  | _ => 0

abbrev hbmTy0_0 (i : Nat) : BufTy := match i % 128 with
  | 0 => ⟨S512x13312, .f32⟩
  | 1 => ⟨S512x256, .f32⟩
  | 2 => ⟨S128x8x1024, .f32⟩
  | 3 => ⟨S128x8x1024, .f32⟩
  | 4 => ⟨S2x128x4x256x256, .f32⟩
  | 5 => ⟨S2x128x4x256, .f32⟩
  | 6 => ⟨S128x1x128, .f32⟩
  | 7 => ⟨S2x128x4x256x256, .f32⟩
  | 8 => ⟨S4x2048, .f32⟩
  | 9 => ⟨S1x2048, .f32⟩
  | 10 => ⟨S1x256, .f32⟩
  | 11 => ⟨S1x1024, .f32⟩
  | 12 => ⟨S512x256, .f32⟩
  | 13 => ⟨S512x256, .f32⟩
  | 14 => ⟨S128x4x256, .f32⟩
  | 15 => ⟨S128x4x128, .f32⟩
  | 16 => ⟨S128x4x128, .f32⟩
  | 17 => ⟨S128x4x128, .f32⟩
  | 18 => ⟨S_, .f32⟩
  | 19 => ⟨S128x4x128, .f32⟩
  | 20 => ⟨S128x4x128, .f32⟩
  | 21 => ⟨S128x4x128, .f32⟩
  | 22 => ⟨S128x4x128, .f32⟩
  | 23 => ⟨S128x4x128, .i1⟩
  | 24 => ⟨S128x4x128, .f32⟩
  | 25 => ⟨S128x4x128, .f32⟩
  | 26 => ⟨S128x4x128, .f32⟩
  | 27 => ⟨S128x4x128, .f32⟩
  | 28 => ⟨S128x4x128, .f32⟩
  | 29 => ⟨S128x4x128, .f32⟩
  | 30 => ⟨S128x4x128, .f32⟩
  | 31 => ⟨S128x4x128, .f32⟩
  | 32 => ⟨S128x4x128, .f32⟩
  | 33 => ⟨S128x128, .f32⟩
  | 34 => ⟨S128x1x128, .f32⟩
  | 35 => ⟨S_, .f32⟩
  | 36 => ⟨S128x128, .f32⟩
  | 37 => ⟨S128x2x128, .f32⟩
  | 38 => ⟨S_, .f32⟩
  | 39 => ⟨S128x128, .f32⟩
  | 40 => ⟨S128x3x128, .f32⟩
  | 41 => ⟨S_, .f32⟩
  | 42 => ⟨S128x128, .f32⟩
  | 43 => ⟨S_, .f32⟩
  | 44 => ⟨S128x128, .f32⟩
  | 45 => ⟨S128x1x128, .f32⟩
  | 46 => ⟨S128x1x128, .f32⟩
  | 47 => ⟨S128x1x128, .f32⟩
  | 48 => ⟨S128x1x128, .f32⟩
  | 49 => ⟨S128x4x128, .f32⟩
  | 50 => ⟨S128x1x128, .f32⟩
  | 51 => ⟨S128x128, .f32⟩
  | 52 => ⟨S128x1x128, .f32⟩
  | 53 => ⟨S128x4x128, .f32⟩
  | 54 => ⟨S128x4x128, .f32⟩
  | 55 => ⟨S128x4x128, .f32⟩
  | 56 => ⟨S128x128, .f32⟩
  | 57 => ⟨S_, .f32⟩
  | 58 => ⟨S128x128, .f32⟩
  | 59 => ⟨S128x128, .f32⟩
  | 60 => ⟨S128x1x128, .f32⟩
  | 61 => ⟨S128x4x128, .f32⟩
  | 62 => ⟨S128x4x128, .f32⟩
  | 63 => ⟨S128x4x128, .f32⟩
  | 64 => ⟨S128x4x4, .f32⟩
  | 65 => ⟨S128x128, .f32⟩
  | 66 => ⟨S128x128, .f32⟩
  | 67 => ⟨S128x128, .f32⟩
  | 68 => ⟨S128x4, .f32⟩
  | 69 => ⟨S4x1024, .f32⟩
  | 70 => ⟨S1x1024, .f32⟩
  | 71 => ⟨S1024, .f32⟩
  | 72 => ⟨S128x4x1024, .f32⟩
  | 73 => ⟨S1x1024, .f32⟩
  | 74 => ⟨S1024, .f32⟩
  | 75 => ⟨S1x1x1024, .f32⟩
  | 76 => ⟨S128x4x1024, .f32⟩
  | 77 => ⟨S128x4x1024, .f32⟩
  | 78 => ⟨S1x1x1024, .f32⟩
  | 79 => ⟨S128x4x1024, .f32⟩
  | 80 => ⟨S128x4x1024, .f32⟩
  | 81 => ⟨S128x4x1024, .f32⟩
  | 82 => ⟨S1x1024, .f32⟩
  | 83 => ⟨S1024, .f32⟩
  | 84 => ⟨S1x1x1024, .f32⟩
  | 85 => ⟨S128x4x1024, .f32⟩
  | 86 => ⟨S128x4x1024, .f32⟩
  | 87 => ⟨S128x4x1024, .f32⟩
  | 88 => ⟨S128x4x1024, .f32⟩
  | 89 => ⟨S1x1024, .f32⟩
  | 90 => ⟨S1024, .f32⟩
  | 91 => ⟨S1x1x1024, .f32⟩
  | 92 => ⟨S128x4x1024, .f32⟩
  | 93 => ⟨S128x4x1024, .f32⟩
  | 94 => ⟨S128x4x1024, .f32⟩
  | 95 => ⟨S128x4x1024, .f32⟩
  | 96 => ⟨S1x1024, .f32⟩
  | 97 => ⟨S1024, .f32⟩
  | 98 => ⟨S1x1x1024, .f32⟩
  | 99 => ⟨S128x4x1024, .f32⟩
  | 100 => ⟨S128x4x1024, .f32⟩
  | 101 => ⟨S128x4x1024, .f32⟩
  | 102 => ⟨S128x4x1024, .f32⟩
  | 103 => ⟨S128x4x1024, .f32⟩
  | 104 => ⟨S_, .f32⟩
  | 105 => ⟨S128x4x1024, .f32⟩
  | 106 => ⟨S128x4x1024, .f32⟩
  | 107 => ⟨S_, .f32⟩
  | 108 => ⟨S128x4x1024, .f32⟩
  | 109 => ⟨S128x4x1024, .f32⟩
  | 110 => ⟨S128x4x1024, .f32⟩
  | 111 => ⟨S128x4x4x1, .f32⟩
  | 112 => ⟨S128x4x4x256, .f32⟩
  | 113 => ⟨S_, .f32⟩
  | 114 => ⟨S128x4x4x256, .f32⟩
  | 115 => ⟨S128x4x4x256, .f32⟩
  | 116 => ⟨S128x4x4x256, .f32⟩
  | 117 => ⟨S128x4x4x256, .f32⟩
  | 118 => ⟨S512x1024, .f32⟩
  | 119 => ⟨S128x4x4x256, .f32⟩
  | 120 => ⟨S128x4x1x1, .f32⟩
  | 121 => ⟨S1x128x4x256x256, .f32⟩
  | 122 => ⟨S128x4x256x256, .f32⟩
  | 123 => ⟨S128x4x256x256, .f32⟩
  | 124 => ⟨S128x4x256x256, .f32⟩
  | 125 => ⟨S128x4x256x256, .f32⟩
  | 126 => ⟨S128x4x256x256, .f32⟩
  | 127 => ⟨S128x4x1, .f32⟩
  | _ => ⟨S512x13312, .f32⟩

abbrev hbmTy0_1 (i : Nat) : BufTy := match i % 128 with
  | 0 => ⟨S1x128x4x256, .f32⟩
  | 1 => ⟨S128x4x256, .f32⟩
  | 2 => ⟨S128x4x256, .f32⟩
  | 3 => ⟨S128x4x256, .f32⟩
  | 4 => ⟨S_, .f32⟩
  | 5 => ⟨S128x4x256, .f32⟩
  | 6 => ⟨S128x4x256, .f32⟩
  | 7 => ⟨S1x128x4x256x256, .f32⟩
  | 8 => ⟨S128x4x256x256, .f32⟩
  | 9 => ⟨S1x128x4x256x256, .f32⟩
  | 10 => ⟨S1x128x4x256x256, .f32⟩
  | 11 => ⟨S2x128x4x256x256, .f32⟩
  | 12 => ⟨S128x1x128, .f32⟩
  | _ => ⟨S512x13312, .f32⟩

abbrev hbmTy (i : Nat) : BufTy := match i / 128 with
  | 0 => hbmTy0_0 i
  | 1 => hbmTy0_1 i
  | _ => ⟨S512x13312, .f32⟩

abbrev bufTy : (tb : Table) → Fin (tcTables nBuf tb) → BufTy
  | .hbm, ⟨i, _⟩ => hbmTy i
  | _, _ => ⟨S512x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_4 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_5 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩

abbrev nD : Nat := 1
abbrev τ : Topo := Topo.v7x

variable {F : FTy → Type} [FloatOps F]
-- ==== Proof.Steps.lean ====
/- The prompt attention's body as a recurrence: what one pair of a query block and a key block computes, each step
   one function of what it loads, and the whole block's run as the recurrence of those steps over the key blocks.

   The kernel keeps a score matrix with the keys down and the queries across, the two components of a head side by
   side: 1024 columns for 512 query rows. -/
module

public import proofs.«01_k».proof.Proof.Gen.KernelIdeal.Value
public import Idealize.ShloMosaic.Lib.Pipeline.ReadBack
public import Idealize.ShloMosaic.Lib.Pointwise
public import Idealize.ShloMosaic.Lib.WholeRead

@[expose] public section

set_option maxRecDepth 16384

noncomputable section

namespace Cert.KernelIdeal.Steps

open Cert.KernelIdeal Cert.KernelIdeal.Gen Idealize.ShloMosaic Idealize.ShloMosaic.TcCoe

variable {F : FTy → Type} [FloatOps F] [Named F]

/-- The row of the whole prompt that row `r` of block `k` is. -/
def rowOf (k r : ℕ) : Fin 4096 := ⟨(512 * k + r) % 4096, Nat.mod_lt _ (by norm_num)⟩

/-- Block `k` of 512 rows. -/
def rows (x : Vec F S1x4096x128 .f32) (k : ℕ) : Vec F S1x512x128 .f32 :=
  fun y => x (ix3 0 (rowOf k (y 1)) (y 2))

/-! ## The blocks the steps load -/

/-- A block of keys. -/
def keys (x : Vec F S1x512x128 .f32) : FVec F S1x512x128 .bf16 :=
  shapeCast S1x512x128 (truncf .bf16 (shapeCast S512x128 x shapeCasts_S1x512x128_S512x128) bitsLt_bf16_f32) shapeCasts_S512x128_S1x512x128

/-- A block of values, transposed. -/
def vals (x : Vec F S1x512x128 .f32) : FVec F S1x128x512 .bf16 :=
  shapeCast S1x128x512 (truncf .bf16 (transpose S128x512 [1, 0] (shapeCast S512x128 x shapeCasts_S1x512x128_S512x128)
    transposes_S512x128_p1_0_S128x512) bitsLt_bf16_f32) shapeCasts_S128x512_S1x128x512

/-- A block of queries, scaled. -/
def scaled (x : Vec F S1x512x128 .f32) : FVec F S512x128 .f32 :=
  mulf (shapeCast S512x128 x shapeCasts_S1x512x128_S512x128) (broadcast S512x128 (Named.named κ "scale_log2e" 0x3E38AA3B#32))

/-- The lanes' numbers. -/
def lane : IVec S512x128 32 := iota .tc S512x128 32 [1] iota_S512x128_d1_w32

/-- A block of queries, its two components stacked: each row twice, once with the second component's lanes zeroed and once
    with the first's. -/
def queries (x : Vec F S1x512x128 .f32) : FVec F S1x1024x128 .bf16 :=
  shapeCast S1x1024x128 (truncf .bf16 (concatenate S1024x128 0
    [⟨S512x128, select (cmpi .slt lane (broadcast S512x128 64#32)) (scaled x) (broadcast S512x128 (Scalar.ofBits .f32 0x00000000#32))⟩,
     ⟨S512x128, select (cmpi .sge lane (broadcast S512x128 64#32)) (scaled x) (broadcast S512x128 (Scalar.ofBits .f32 0x00000000#32))⟩]
    concatenates_S512x128_S512x128_S1024x128_d0) bitsLt_bf16_f32) shapeCasts_S1024x128_S1x1024x128

/-! ## One pair's steps -/

/-- The scores of a block of keys against a block of queries. -/
def stS (kb : FVec F S1x512x128 .bf16) (qq : FVec F S1x1024x128 .bf16) : FVec F S1x512x1024 .f32 :=
  shapeCast S1x512x1024 (matmul dot_S512x128_S1024x128_S512x1024_1_1_0_0_n_n none
    (shapeCast S512x128 kb shapeCasts_S1x512x128_S512x128) (shapeCast S1024x128 qq shapeCasts_S1x1024x128_S1024x128)
    (constant S512x1024 .f32 0x00000000#32)) shapeCasts_S512x1024_S1x512x1024

/-- The scores off the diagonal, as they are. -/
def plain (s : FVec F S1x512x1024 .f32) : FVec F S512x1024 .f32 := shapeCast S512x1024 s shapeCasts_S1x512x1024_S512x1024

/-- The query row a column belongs to. -/
def colRow : IVec S512x1024 32 :=
  select (cmpi .sge (iota .tc S512x1024 32 [1] iota_S512x1024_d1_w32) (broadcast S512x1024 512#32))
    (subi (iota .tc S512x1024 32 [1] iota_S512x1024_d1_w32) (broadcast S512x1024 512#32))
    (iota .tc S512x1024 32 [1] iota_S512x1024_d1_w32)

/-- The scores on the diagonal: minus infinity where the key comes after the query. -/
def msk (s : FVec F S1x512x1024 .f32) : FVec F S512x1024 .f32 :=
  select (cmpi .sge colRow (iota .tc S512x1024 32 [0] iota_S512x1024_d0_w32))
    (shapeCast S512x1024 s shapeCasts_S1x512x1024_S512x1024) (broadcast S512x1024 (Scalar.ofBits .f32 0xFF800000#32))

/-- A row vector, as the scratch holds it and as the steps compute with it. -/
def up (m : FVec F S1x1024 .f32) : FVec F S1x1x1024 .f32 := shapeCast S1x1x1024 m shapeCasts_S1x1024_S1x1x1024
/-- A row read from its slot. -/
def dn (m : FVec F S1x1x1024 .f32) : FVec F S1x1024 .f32 := shapeCast S1x1024 m shapeCasts_S1x1x1024_S1x1024

/-- The columns' maxima. -/
def rM (s : FVec F S512x1024 .f32) : FVec F S1x1024 .f32 :=
  shapeCast S1x1024 (multiReduction .maximumf [0] S1024 s 0xFF800000#32 reduces_S512x1024_S1024 (.inl rfl) rfl) shapeCasts_S1024_S1x1024

/-- The columns' sums. -/
def rL (p : FVec F S512x1024 .f32) : FVec F S1x1024 .f32 :=
  shapeCast S1x1024 (multiReduction .add [0] S1024 p 0x00000000#32 reduces_S512x1024_S1024 (.inl rfl) rfl) shapeCasts_S1024_S1x1024

/-- The exponentials of the scores less the maximum. -/
def pw (m : FVec F S1x1024 .f32) (s : FVec F S512x1024 .f32) : FVec F S512x1024 .f32 :=
  exp2 (subf s (broadcastTo S512x1024 m broadcasts_S1x1024_S512x1024))

/-- The new maximum over an old one. -/
def nM (mo : FVec F S1x1x1024 .f32) (s : FVec F S512x1024 .f32) : FVec F S1x1024 .f32 := maximumf (dn mo) (rM s)

/-- The change of the maximum, as a factor. -/
def fA (mo : FVec F S1x1x1024 .f32) (s : FVec F S512x1024 .f32) : FVec F S1x1024 .f32 := exp2 (subf (dn mo) (nM mo s))

variable (g : FVec F S1x512x1024 .f32 → FVec F S512x1024 .f32)

/-- The maximum, the normaliser and the exponentials after the first key block, … -/
def stM0 (s : FVec F S1x512x1024 .f32) : FVec F S1x1x1024 .f32 := up (rM (g s))
/-- The first block's normaliser. -/
def stL0 (s : FVec F S1x512x1024 .f32) : FVec F S1x1x1024 .f32 := up (rL (pw (rM (g s)) (g s)))
/-- The first block's weights. -/
def stP0 (s : FVec F S1x512x1024 .f32) : FVec F S1x512x1024 .bf16 :=
  shapeCast S1x512x1024 (truncf .bf16 (pw (rM (g s)) (g s)) bitsLt_bf16_f32) shapeCasts_S512x1024_S1x512x1024

/-- … and after a later one, with the factor the earlier ones are rescaled by. -/
def stM (mo : FVec F S1x1x1024 .f32) (s : FVec F S1x512x1024 .f32) : FVec F S1x1x1024 .f32 := up (nM mo (g s))
/-- The rescaling factor. -/
def stA (mo : FVec F S1x1x1024 .f32) (s : FVec F S1x512x1024 .f32) : FVec F S1x1x1024 .f32 := up (fA mo (g s))
/-- A later normaliser. -/
def stL (mo : FVec F S1x1x1024 .f32) (s : FVec F S1x512x1024 .f32) (lo : FVec F S1x1x1024 .f32) : FVec F S1x1x1024 .f32 :=
  up (addf (mulf (fA mo (g s)) (dn lo)) (rL (pw (nM mo (g s)) (g s))))
/-- A later block's weights. -/
def stP (mo : FVec F S1x1x1024 .f32) (s : FVec F S1x512x1024 .f32) : FVec F S1x512x1024 .bf16 :=
  shapeCast S1x512x1024 (truncf .bf16 (pw (nM mo (g s)) (g s)) bitsLt_bf16_f32) shapeCasts_S512x1024_S1x512x1024

/-- The weighted values of one block, … -/
def pv0 (vt : FVec F S1x128x512 .bf16) (p : FVec F S1x512x1024 .bf16) : FVec F S128x1024 .f32 :=
  matmul dot_S128x512_S512x1024_S128x1024_1_0_0_1_n_n none (shapeCast S128x512 vt shapeCasts_S1x128x512_S128x512)
    (shapeCast S512x1024 p shapeCasts_S1x512x1024_S512x1024) (constant S128x1024 .f32 0x00000000#32)

/-- … and with the rescaled earlier ones. -/
def pv (vt : FVec F S1x128x512 .bf16) (p : FVec F S1x512x1024 .bf16) (a : FVec F S1x1x1024 .f32) (acc : FVec F S1x128x1024 .f32) :
    FVec F S128x1024 .f32 :=
  addf (mulf (broadcastTo S128x1024 (dn a) broadcasts_S1x1024_S128x1024) (shapeCast S128x1024 acc shapeCasts_S1x128x1024_S128x1024))
    (pv0 vt p)

/-- The weighted values as the scratch holds them. -/
def upC (x : FVec F S128x1024 .f32) : FVec F S1x128x1024 .f32 := shapeCast S1x128x1024 x shapeCasts_S128x1024_S1x128x1024

/-! ## The end of a query block -/

/-- The weight of the second component. -/
def lam (v104 : Vec F S4x64 .f32) : FVec F S1x1 .f32 :=
  addf (subf
    (exp (shapeCast S1x1 (multiReduction .add [1] S1 (mulf (extractStridedSlice S1x64 ![0, 0] v104 slices_S4x64_o0_0_S1x64)
      (extractStridedSlice S1x64 ![1, 0] v104 slices_S4x64_o1_0_S1x64)) 0x00000000#32 reduces_S1x64_S1 (.inl rfl) rfl) shapeCasts_S1_S1x1))
    (exp (shapeCast S1x1 (multiReduction .add [1] S1 (mulf (extractStridedSlice S1x64 ![2, 0] v104 slices_S4x64_o2_0_S1x64)
      (extractStridedSlice S1x64 ![3, 0] v104 slices_S4x64_o3_0_S1x64)) 0x00000000#32 reduces_S1x64_S1 (.inl rfl) rfl) shapeCasts_S1_S1x1)))
    (broadcast S1x1 (Scalar.ofBits .f32 0x3E4CCCCD#32))

/-- The weighted values over the normaliser. -/
def quo (l : FVec F S1x1x1024 .f32) (x : FVec F S128x1024 .f32) : FVec F S128x1024 .f32 :=
  divf x (broadcastTo S128x1024 (dn l) broadcasts_S1x1024_S128x1024)

/-- The first component less the second's share, a row per query. -/
def att (la : FVec F S1x1 .f32) (o : FVec F S128x1024 .f32) : FVec F S512x128 .f32 :=
  transpose S512x128 [1, 0] (subf (extractStridedSlice S128x512 ![0, 0] o slices_S128x1024_o0_0_S128x512)
    (mulf (broadcastTo S128x512 la broadcasts_S1x1_S128x512) (extractStridedSlice S128x512 ![0, 512] o slices_S128x1024_o0_512_S128x512)))
    transposes_S128x512_p1_0_S512x128

/-- The head's norm, its weights and the layer's factor. -/
def norm (t : FVec F S512x128 .f32) (nw : Vec F S1x128 .f32) : FVec F S512x128 .f32 :=
  mulf (mulf (mulf t (broadcastTo S512x128 (rsqrt (addf (divf
      (shapeCast S512x1 (multiReduction .add [1] S512 (mulf t t) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128))
    (broadcastTo S512x128 nw broadcasts_S1x128_S512x128)) (broadcast S512x128 (Scalar.ofBits .f32 0x3F4CCCCD#32))

/-- The gate. -/
def gate (t : FVec F S512x128 .f32) (z : FVec F S512x128 .f32) : FVec F S1x512x128 .bf16 :=
  shapeCast S1x512x128 (truncf .bf16 (mulf t (mulf z (logistic z))) bitsLt_bf16_f32) shapeCasts_S512x128_S1x512x128

/-- A block of the gate's inputs. -/
def flat (x : Vec F S1x512x128 .f32) : FVec F S512x128 .f32 := shapeCast S512x128 x shapeCasts_S1x512x128_S512x128

/-- What a query block's rows of the output are, from its normaliser and its weighted values. -/
def fin (la : FVec F S1x1 .f32) (l : FVec F S1x1x1024 .f32) (x : FVec F S128x1024 .f32) (az : Vec F S1x512x128 .f32) (nw : Vec F S1x128 .f32) :
    FVec F S1x512x128 .bf16 :=
  gate (norm (att la (quo l x)) nw) (flat az)

/-! ## The recurrence -/

section
variable (x0 x1 x2 x3 : Vec F S1x4096x128 .f32) (x4 : Vec F S4x64 .f32) (x5 : Vec F S1x128 .f32)

/-- The scores of key block `j` against query block `i`. -/
def SS (i j : ℕ) : FVec F S1x512x1024 .f32 := stS (keys (rows x1 j)) (queries (rows x0 i))

/-- The mask of that pair: on the diagonal, none off it. -/
def gd (i j : ℕ) : FVec F S1x512x1024 .f32 → FVec F S512x1024 .f32 := cond (Nat.beq j i) msk plain

/-- The running maximum, … -/
def MX (i : ℕ) : ℕ → FVec F S1x1x1024 .f32
  | 0 => stM0 (gd i 0) (SS x0 x1 i 0)
  | j + 1 => stM (gd i (j + 1)) (MX i j) (SS x0 x1 i (j + 1))

/-- … the running normaliser, … -/
def LX (i : ℕ) : ℕ → FVec F S1x1x1024 .f32
  | 0 => stL0 (gd i 0) (SS x0 x1 i 0)
  | j + 1 => stL (gd i (j + 1)) (MX x0 x1 i j) (SS x0 x1 i (j + 1)) (LX i j)

/-- … the factor of the step to key block `j + 1`, … -/
def AX (i j : ℕ) : FVec F S1x1x1024 .f32 := stA (gd i (j + 1)) (MX x0 x1 i j) (SS x0 x1 i (j + 1))

/-- … the exponentials, … -/
def PX (i : ℕ) : ℕ → FVec F S1x512x1024 .bf16
  | 0 => stP0 (gd i 0) (SS x0 x1 i 0)
  | j + 1 => stP (gd i (j + 1)) (MX x0 x1 i j) (SS x0 x1 i (j + 1))

/-- … and the running weighted values. -/
def CX (i : ℕ) : ℕ → FVec F S128x1024 .f32
  | 0 => pv0 (vals (rows x2 0)) (PX x0 x1 i 0)
  | j + 1 => pv (vals (rows x2 (j + 1))) (PX x0 x1 i (j + 1)) (AX x0 x1 i j) (upC (CX i j))

/-- Block `i` of the output. -/
def OUT (i : ℕ) : FVec F S1x512x128 .bf16 := fin (lam x4) (LX x0 x1 i i) (CX x0 x1 x2 i i) (rows x3 i) x5

end

/-! ## Steps at equal operands -/

/-- Equal arguments, equal values: one argument. -/
theorem c1 {α β : Type} (f : α → β) {a a' : α} (h : a = a') : f a = f a' := h ▸ rfl
/-- Two arguments. -/
theorem c2 {α β γ : Type} (f : α → β → γ) {a a' : α} {b b' : β} (h : a = a') (hb : b = b') : f a b = f a' b' := h ▸ hb ▸ rfl
/-- Three arguments. -/
theorem c3 {α β γ δ : Type} (f : α → β → γ → δ) {a a' : α} {b b' : β} {c c' : γ} (h : a = a') (hb : b = b') (hc : c = c') :
    f a b c = f a' b' c' := h ▸ hb ▸ hc ▸ rfl
/-- Four arguments. -/
theorem c4 {α β γ δ ε : Type} (f : α → β → γ → δ → ε) {a a' : α} {b b' : β} {c c' : γ} {d d' : δ} (h : a = a') (hb : b = b') (hc : c = c')
    (hd : d = d') : f a b c d = f a' b' c' d' := h ▸ hb ▸ hc ▸ hd ▸ rfl
/-- Five arguments. -/
theorem c5 {α β γ δ ε ζ : Type} (f : α → β → γ → δ → ε → ζ) {a a' : α} {b b' : β} {c c' : γ} {d d' : δ} {e e' : ε} (h : a = a') (hb : b = b')
    (hc : c = c') (hd : d = d') (he : e = e') : f a b c d e = f a' b' c' d' e' := h ▸ hb ▸ hc ▸ hd ▸ he ▸ rfl

end Cert.KernelIdeal.Steps

end
-- ==== Proof.Loads.lean ====
/- The loads of the prompt attention's body, each one the recurrence's value: every load finds, under the stores to other
   slots of its scratch, the last store to its own slot, and what that store wrote is a step of the recurrence at loads
   before it. Then the blocks of the output the body stores. -/
module

public import proofs.«01_k».proof.Proof.Steps

@[expose] public section

set_option maxRecDepth 16384

noncomputable section

namespace Cert.KernelIdeal.Loads

open Cert.KernelIdeal Cert.KernelIdeal.Gen Cert.KernelIdeal.Gen.kernelRun0_A Cert.KernelIdeal.Steps
open Idealize.ShloMosaic Idealize.ShloMosaic.TcCoe

variable {F : FTy → Type} [FloatOps F] [Named F]

/-- A load of 512 rows of a block of the prompt. -/
theorem read_rows {m : Memref sig .tc .vmem S1x4096x128 .f32} (h : m.IsWhole) (x : Vec F S1x4096x128 .f32) (k : ℕ) (hk : k < 8)
    (inb : ∀ a, (![0, 512 * k, 0] : Fin 3 → ℕ) a + S1x512x128.size a ≤ S1x4096x128.size a) :
    View.readAt (Elt F) m.view (Rect.unit (s := S1x4096x128) ![0, 512 * k, 0] S1x512x128.size inb).toLoadRect (h.unread x) = rows x k := by
  funext y
  refine (h.readAt_unread x _ y).trans (congrArg x (funext fun a => Fin.ext ?_))
  have h1 : (y 1 : ℕ) < 512 := (y 1).isLt
  have h0 : (y 0 : ℕ) < 1 := (y 0).isLt
  match a with
  | ⟨0, _⟩ => show 0 + 1 * (y 0 : ℕ) = 0; omega
  | ⟨1, _⟩ => show 512 * k + 1 * (y 1 : ℕ) = (512 * k + (y 1 : ℕ)) % 4096; omega
  | ⟨2, _⟩ => show 0 + 1 * (y 2 : ℕ) = (y 2 : ℕ); omega

/-- A load of the four vectors of the weight. -/
theorem read_lq {m : Memref sig .tc .vmem S4x64 .f32} (h : m.IsWhole) (x : Vec F S4x64 .f32)
    (inb : ∀ a, (![0, 0] : Fin 2 → ℕ) a + S4x64.size a ≤ S4x64.size a) :
    View.readAt (Elt F) m.view (Rect.unit (s := S4x64) ![0, 0] S4x64.size inb).toLoadRect (h.unread x) = x := by
  funext y
  refine (h.readAt_unread x _ y).trans (congrArg x (funext fun a => Fin.ext ?_))
  match a with
  | ⟨0, _⟩ => show 0 + 1 * (y 0 : ℕ) = (y 0 : ℕ); omega
  | ⟨1, _⟩ => show 0 + 1 * (y 1 : ℕ) = (y 1 : ℕ); omega

/-- A load of the head's norm weights. -/
theorem read_nw {m : Memref sig .tc .vmem S1x128 .f32} (h : m.IsWhole) (x : Vec F S1x128 .f32)
    (inb : ∀ a, (![0, 0] : Fin 2 → ℕ) a + S1x128.size a ≤ S1x128.size a) :
    View.readAt (Elt F) m.view (Rect.unit (s := S1x128) ![0, 0] S1x128.size inb).toLoadRect (h.unread x) = x := by
  funext y
  refine (h.readAt_unread x _ y).trans (congrArg x (funext fun a => Fin.ext ?_))
  match a with
  | ⟨0, _⟩ => show 0 + 1 * (y 0 : ℕ) = (y 0 : ℕ); omega
  | ⟨1, _⟩ => show 0 + 1 * (y 1 : ℕ) = (y 1 : ℕ); omega

variable {c : Dev nD} {i : grid0.Coords}
variable {arg2 : Memref sig .tc .vmem S1x4096x128 .f32} {harg2 : arg2.IsWhole}
  {arg3 : Memref sig .tc .vmem S1x4096x128 .f32} {harg3 : arg3.IsWhole}
  {arg4 : Memref sig .tc .vmem S1x4096x128 .f32} {harg4 : arg4.IsWhole}
  {arg5 : Memref sig .tc .vmem S1x4096x128 .f32} {harg5 : arg5.IsWhole}
  {arg6 : Memref sig .tc .vmem S4x64 .f32} {harg6 : arg6.IsWhole}
  {arg7 : Memref sig .tc .vmem S1x128 .f32} {harg7 : arg7.IsWhole}
  {arg8 : Memref sig .tc .vmem S1x4096x128 .bf16} {harg8 : arg8.IsWhole}
  {arg9 : Memref sig .tc .vmem S8x512x128 .bf16} {harg9 : arg9.IsWhole}
  {arg10 : Memref sig .tc .vmem S8x128x512 .bf16} {harg10 : arg10.IsWhole}
  {arg11 : Memref sig .tc .vmem S2x1024x128 .bf16} {harg11 : arg11.IsWhole}
  {arg12 : Memref sig .tc .vmem S2x512x1024 .f32} {harg12 : arg12.IsWhole}
  {arg13 : Memref sig .tc .vmem S2x512x1024 .bf16} {harg13 : arg13.IsWhole}
  {arg14 : Memref sig .tc .vmem S2x1x1024 .f32} {harg14 : arg14.IsWhole}
  {arg15 : Memref sig .tc .vmem S2x1x1024 .f32} {harg15 : arg15.IsWhole}
  {arg16 : Memref sig .tc .vmem S2x1x1024 .f32} {harg16 : arg16.IsWhole}
  {arg17 : Memref sig .tc .vmem S2x128x1024 .f32} {harg17 : arg17.IsWhole}
variable {x0 x1 x2 x3 : Vec F S1x4096x128 .f32} {x4 : Vec F S4x64 .f32} {x5 : Vec F S1x128 .f32}

/-- A load under a store to another slot. -/
theorem sk {s : Shape} {e : EltTy} {sp : Space} (v : View sig .tc sp s e) (r : Rect s) (w : r.shape.Idx → Elt F e) (L : List (View.Piece (Elt F) s e))
    (B : LoadRect s) {z : B.shape.Idx → Elt F e} (h : LoadRect.disj r B = true) (hz : v.readCov L B = z) : v.readCov (⟨r, w⟩ :: L) B = z :=
  (View.readCov_skip v r w L B h).trans hz

/-- A load of the last store. -/
theorem hit {s : Shape} {e : EltTy} {sp : Space} (v : View sig .tc sp s e) (r : Rect s) (w : r.shape.Idx → Elt F e) (L : List (View.Piece (Elt F) s e))
    {z : r.shape.Idx → Elt F e} (hz : w = z) : v.readCov (⟨r, w⟩ :: L) r.toLoadRect = z :=
  (View.readCov_cons_toLoadRect v r w L).trans hz

/-- A load of key block 0. -/
theorem ld_v138 : (sl.v138 c arg3 harg3 arg9 x1) = keys (rows x1 0) :=
  sk _ _ _ _ _ (by decide) (sk _ _ _ _ _ (by decide) (sk _ _ _ _ _ (by decide) (sk _ _ _ _ _ (by decide) (sk _ _ _ _ _ (by decide) (sk _ _ _ _ _ (by decide) (sk _ _ _ _ _ (by decide) (hit _ _ _ _ (c1 keys (read_rows harg3 x1 0 (by decide) _)))))))))

/-- A load of query block 0. -/
theorem ld_v140 : (sl.v140 c arg2 harg2 arg11 x0) = queries (rows x0 0) :=
  hit _ _ _ _ (c1 queries (read_rows harg2 x0 0 (by decide) _))

/-- A load of the scores of key block 0 against query block 0. -/
theorem ld_v172 : (sl.v172 c arg2 harg2 arg3 harg3 arg9 arg11 arg12 x0 x1) = SS x0 x1 0 0 :=
  sk _ _ _ _ _ (by decide) (hit _ _ _ _ (c2 stS (ld_v138) (ld_v140)))

/-- A load of the running normaliser of key block 0 against query block 0. -/
theorem ld_v233 : (sl.v233 c arg2 harg2 arg3 harg3 arg9 arg11 arg12 arg16 x0 x1) = LX x0 x1 0 0 :=
  sk _ _ _ _ _ (by decide) (hit _ _ _ _ (c1 (stL0 msk) (ld_v172)))

/-- A load of value block 0. -/
theorem ld_v228 : (sl.v228 c arg4 harg4 arg10 x2) = vals (rows x2 0) :=
  sk _ _ _ _ _ (by decide) (sk _ _ _ _ _ (by decide) (sk _ _ _ _ _ (by decide) (sk _ _ _ _ _ (by decide) (sk _ _ _ _ _ (by decide) (sk _ _ _ _ _ (by decide) (sk _ _ _ _ _ (by decide) (hit _ _ _ _ (c1 vals (read_rows harg4 x2 0 (by decide) _)))))))))

/-- A load of the exponentials of key block 0 against query block 0. -/
theorem ld_v230 : (sl.v230 c arg2 harg2 arg3 harg3 arg9 arg11 arg12 arg13 x0 x1) = PX x0 x1 0 0 :=
  sk _ _ _ _ _ (by decide) (hit _ _ _ _ (c1 (stP0 msk) (ld_v172)))

/-- A load of key block 0. -/
theorem ld_v164 : (sl.v164 c arg3 harg3 arg9 x1) = keys (rows x1 0) :=
  sk _ _ _ _ _ (by decide) (sk _ _ _ _ _ (by decide) (sk _ _ _ _ _ (by decide) (sk _ _ _ _ _ (by decide) (sk _ _ _ _ _ (by decide) (sk _ _ _ _ _ (by decide) (sk _ _ _ _ _ (by decide) (hit _ _ _ _ (c1 keys (read_rows harg3 x1 0 (by decide) _)))))))))

/-- A load of query block 1. -/
theorem ld_v166 : (sl.v166 c arg2 harg2 arg11 x0) = queries (rows x0 1) :=
  hit _ _ _ _ (c1 queries (read_rows harg2 x0 1 (by decide) _))

/-- A load of the scores of key block 0 against query block 1. -/
theorem ld_v209 : (sl.v209 c arg2 harg2 arg3 harg3 arg9 arg11 arg12 x0 x1) = SS x0 x1 1 0 :=
  sk _ _ _ _ _ (by decide) (hit _ _ _ _ (c2 stS (ld_v164) (ld_v166)))

/-- A load of the running maximum of key block 0 against query block 1. -/
theorem ld_v307 : (sl.v307 c arg2 harg2 arg3 harg3 arg9 arg11 arg12 arg15 x0 x1) = MX x0 x1 1 0 :=
  hit _ _ _ _ (c1 (stM0 plain) (ld_v209))

/-- A load of key block 1. -/
theorem ld_v201 : (sl.v201 c arg3 harg3 arg9 x1) = keys (rows x1 1) :=
  sk _ _ _ _ _ (by decide) (sk _ _ _ _ _ (by decide) (sk _ _ _ _ _ (by decide) (sk _ _ _ _ _ (by decide) (sk _ _ _ _ _ (by decide) (sk _ _ _ _ _ (by decide) (hit _ _ _ _ (c1 keys (read_rows harg3 x1 1 (by decide) _))))))))

/-- A load of the scores of key block 1 against query block 1. -/
theorem ld_v293 : (sl.v293 c arg2 harg2 arg3 harg3 arg9 arg11 arg12 x0 x1) = SS x0 x1 1 1 :=
  sk _ _ _ _ _ (by decide) (hit _ _ _ _ (c2 stS (ld_v201) (ld_v166)))

/-- A load of the running normaliser of key block 0 against query block 1. -/
theorem ld_v320 : (sl.v320 c arg2 harg2 arg3 harg3 arg9 arg11 arg12 arg16 x0 x1) = LX x0 x1 1 0 :=
  hit _ _ _ _ (c1 (stL0 plain) (ld_v209))

/-- A load of the running normaliser of key block 1 against query block 1. -/
theorem ld_v381 : (sl.v381 c arg2 harg2 arg3 harg3 arg9 arg11 arg12 arg15 arg16 x0 x1) = LX x0 x1 1 1 :=
  sk _ _ _ _ _ (by decide) (hit _ _ _ _ (c3 (stL msk) (ld_v307) (ld_v293) (ld_v320)))

/-- A load of value block 1. -/
theorem ld_v369 : (sl.v369 c arg4 harg4 arg10 x2) = vals (rows x2 1) :=
  sk _ _ _ _ _ (by decide) (sk _ _ _ _ _ (by decide) (sk _ _ _ _ _ (by decide) (sk _ _ _ _ _ (by decide) (sk _ _ _ _ _ (by decide) (sk _ _ _ _ _ (by decide) (hit _ _ _ _ (c1 vals (read_rows harg4 x2 1 (by decide) _))))))))

/-- A load of the exponentials of key block 1 against query block 1. -/
theorem ld_v371 : (sl.v371 c arg2 harg2 arg3 harg3 arg9 arg11 arg12 arg13 arg15 x0 x1) = PX x0 x1 1 1 :=
  sk _ _ _ _ _ (by decide) (hit _ _ _ _ (c2 (stP msk) (ld_v307) (ld_v293)))

/-- A load of the factor that rescales query block 1 after key block 0. -/
theorem ld_v374 : (sl.v374 c arg2 harg2 arg3 harg3 arg9 arg11 arg12 arg14 arg15 x0 x1) = AX x0 x1 1 0 :=
  hit _ _ _ _ (c2 (stA msk) (ld_v307) (ld_v293))

/-- A load of the exponentials of key block 0 against query block 1. -/
theorem ld_v336 : (sl.v336 c arg2 harg2 arg3 harg3 arg9 arg11 arg12 arg13 arg15 x0 x1) = PX x0 x1 1 0 :=
  sk _ _ _ _ _ (by decide) (hit _ _ _ _ (c1 (stP0 plain) (ld_v209)))

/-- A load of the running weighted values of key block 0 against query block 1. -/
theorem ld_v376 : (sl.v376 c arg2 harg2 arg3 harg3 arg4 harg4 arg9 arg10 arg11 arg12 arg13 arg15 arg17 x0 x1 x2) = upC (CX x0 x1 x2 1 0) :=
  hit _ _ _ _ (c1 upC (c2 pv0 ld_v228 ld_v336))

/-- A load of query block 2. -/
theorem ld_v287 : (sl.v287 c arg2 harg2 arg11 x0) = queries (rows x0 2) :=
  hit _ _ _ _ (c1 queries (read_rows harg2 x0 2 (by decide) _))

/-- A load of the scores of key block 0 against query block 2. -/
theorem ld_v350 : (sl.v350 c arg2 harg2 arg3 harg3 arg9 arg11 arg12 x0 x1) = SS x0 x1 2 0 :=
  sk _ _ _ _ _ (by decide) (hit _ _ _ _ (c2 stS (ld_v138) (ld_v287)))

/-- A load of the running maximum of key block 0 against query block 2. -/
theorem ld_v427 : (sl.v427 c arg2 harg2 arg3 harg3 arg9 arg11 arg12 arg15 x0 x1) = MX x0 x1 2 0 :=
  hit _ _ _ _ (c1 (stM0 plain) (ld_v350))

/-- A load of the scores of key block 1 against query block 2. -/
theorem ld_v423 : (sl.v423 c arg2 harg2 arg3 harg3 arg9 arg11 arg12 x0 x1) = SS x0 x1 2 1 :=
  sk _ _ _ _ _ (by decide) (hit _ _ _ _ (c2 stS (ld_v201) (ld_v287)))

/-- A load of the running maximum of key block 1 against query block 2. -/
theorem ld_v502 : (sl.v502 c arg2 harg2 arg3 harg3 arg9 arg11 arg12 arg15 x0 x1) = MX x0 x1 2 1 :=
  hit _ _ _ _ (c2 (stM plain) (ld_v427) (ld_v423))

/-- A load of key block 2. -/
theorem ld_v415 : (sl.v415 c arg3 harg3 arg9 x1) = keys (rows x1 2) :=
  sk _ _ _ _ _ (by decide) (sk _ _ _ _ _ (by decide) (sk _ _ _ _ _ (by decide) (sk _ _ _ _ _ (by decide) (sk _ _ _ _ _ (by decide) (hit _ _ _ _ (c1 keys (read_rows harg3 x1 2 (by decide) _)))))))

/-- A load of the scores of key block 2 against query block 2. -/
theorem ld_v488 : (sl.v488 c arg2 harg2 arg3 harg3 arg9 arg11 arg12 x0 x1) = SS x0 x1 2 2 :=
  sk _ _ _ _ _ (by decide) (hit _ _ _ _ (c2 stS (ld_v415) (ld_v287)))

/-- A load of the running normaliser of key block 0 against query block 2. -/
theorem ld_v440 : (sl.v440 c arg2 harg2 arg3 harg3 arg9 arg11 arg12 arg15 arg16 x0 x1) = LX x0 x1 2 0 :=
  hit _ _ _ _ (c1 (stL0 plain) (ld_v350))

/-- A load of the running normaliser of key block 1 against query block 2. -/
theorem ld_v515 : (sl.v515 c arg2 harg2 arg3 harg3 arg9 arg11 arg12 arg15 arg16 x0 x1) = LX x0 x1 2 1 :=
  hit _ _ _ _ (c3 (stL plain) (ld_v427) (ld_v423) (ld_v440))

/-- A load of the running normaliser of key block 2 against query block 2. -/
theorem ld_v583 : (sl.v583 c arg2 harg2 arg3 harg3 arg9 arg11 arg12 arg15 arg16 x0 x1) = LX x0 x1 2 2 :=
  sk _ _ _ _ _ (by decide) (hit _ _ _ _ (c3 (stL msk) (ld_v502) (ld_v488) (ld_v515)))

/-- A load of value block 2. -/
theorem ld_v571 : (sl.v571 c arg4 harg4 arg10 x2) = vals (rows x2 2) :=
  sk _ _ _ _ _ (by decide) (sk _ _ _ _ _ (by decide) (sk _ _ _ _ _ (by decide) (sk _ _ _ _ _ (by decide) (sk _ _ _ _ _ (by decide) (hit _ _ _ _ (c1 vals (read_rows harg4 x2 2 (by decide) _)))))))

/-- A load of the exponentials of key block 2 against query block 2. -/
theorem ld_v573 : (sl.v573 c arg2 harg2 arg3 harg3 arg9 arg11 arg12 arg13 arg15 x0 x1) = PX x0 x1 2 2 :=
  sk _ _ _ _ _ (by decide) (hit _ _ _ _ (c2 (stP msk) (ld_v502) (ld_v488)))

/-- A load of the factor that rescales query block 2 after key block 1. -/
theorem ld_v576 : (sl.v576 c arg2 harg2 arg3 harg3 arg9 arg11 arg12 arg14 arg15 x0 x1) = AX x0 x1 2 1 :=
  hit _ _ _ _ (c2 (stA msk) (ld_v502) (ld_v488))

/-- A load of the exponentials of key block 1 against query block 2. -/
theorem ld_v531 : (sl.v531 c arg2 harg2 arg3 harg3 arg9 arg11 arg12 arg13 arg15 x0 x1) = PX x0 x1 2 1 :=
  sk _ _ _ _ _ (by decide) (hit _ _ _ _ (c2 (stP plain) (ld_v427) (ld_v423)))

/-- A load of the factor that rescales query block 2 after key block 0. -/
theorem ld_v534 : (sl.v534 c arg2 harg2 arg3 harg3 arg9 arg11 arg12 arg14 arg15 x0 x1) = AX x0 x1 2 0 :=
  sk _ _ _ _ _ (by decide) (hit _ _ _ _ (c2 (stA plain) (ld_v427) (ld_v423)))

/-- A load of value block 0. -/
theorem ld_v454 : (sl.v454 c arg4 harg4 arg10 x2) = vals (rows x2 0) :=
  sk _ _ _ _ _ (by decide) (sk _ _ _ _ _ (by decide) (sk _ _ _ _ _ (by decide) (sk _ _ _ _ _ (by decide) (sk _ _ _ _ _ (by decide) (sk _ _ _ _ _ (by decide) (sk _ _ _ _ _ (by decide) (hit _ _ _ _ (c1 vals (read_rows harg4 x2 0 (by decide) _)))))))))

/-- A load of the exponentials of key block 0 against query block 2. -/
theorem ld_v456 : (sl.v456 c arg2 harg2 arg3 harg3 arg9 arg11 arg12 arg13 arg15 x0 x1) = PX x0 x1 2 0 :=
  sk _ _ _ _ _ (by decide) (hit _ _ _ _ (c1 (stP0 plain) (ld_v350)))

/-- A load of the running weighted values of key block 0 against query block 2. -/
theorem ld_v536 : (sl.v536 c arg2 harg2 arg3 harg3 arg4 harg4 arg9 arg10 arg11 arg12 arg13 arg15 arg17 x0 x1 x2) = upC (CX x0 x1 x2 2 0) :=
  hit _ _ _ _ (c1 upC (c2 pv0 ld_v454 ld_v456))

/-- A load of the running weighted values of key block 1 against query block 2. -/
theorem ld_v578 : (sl.v578 c arg2 harg2 arg3 harg3 arg4 harg4 arg9 arg10 arg11 arg12 arg13 arg14 arg15 arg17 x0 x1 x2) = upC (CX x0 x1 x2 2 1) :=
  hit _ _ _ _ (c1 upC (c4 pv ld_v369 ld_v531 ld_v534 ld_v536))

/-- A load of query block 3. -/
theorem ld_v482 : (sl.v482 c arg2 harg2 arg11 x0) = queries (rows x0 3) :=
  hit _ _ _ _ (c1 queries (read_rows harg2 x0 3 (by decide) _))

/-- A load of the scores of key block 0 against query block 3. -/
theorem ld_v552 : (sl.v552 c arg2 harg2 arg3 harg3 arg9 arg11 arg12 x0 x1) = SS x0 x1 3 0 :=
  sk _ _ _ _ _ (by decide) (hit _ _ _ _ (c2 stS (ld_v164) (ld_v482)))

/-- A load of the running maximum of key block 0 against query block 3. -/
theorem ld_v629 : (sl.v629 c arg2 harg2 arg3 harg3 arg9 arg11 arg12 arg15 x0 x1) = MX x0 x1 3 0 :=
  hit _ _ _ _ (c1 (stM0 plain) (ld_v552))

/-- A load of the scores of key block 1 against query block 3. -/
theorem ld_v625 : (sl.v625 c arg2 harg2 arg3 harg3 arg9 arg11 arg12 x0 x1) = SS x0 x1 3 1 :=
  sk _ _ _ _ _ (by decide) (hit _ _ _ _ (c2 stS (ld_v201) (ld_v482)))

/-- A load of the running maximum of key block 1 against query block 3. -/
theorem ld_v676 : (sl.v676 c arg2 harg2 arg3 harg3 arg9 arg11 arg12 arg15 x0 x1) = MX x0 x1 3 1 :=
  hit _ _ _ _ (c2 (stM plain) (ld_v629) (ld_v625))

/-- A load of the scores of key block 2 against query block 3. -/
theorem ld_v672 : (sl.v672 c arg2 harg2 arg3 harg3 arg9 arg11 arg12 x0 x1) = SS x0 x1 3 2 :=
  sk _ _ _ _ _ (by decide) (hit _ _ _ _ (c2 stS (ld_v415) (ld_v482)))

/-- A load of the running maximum of key block 2 against query block 3. -/
theorem ld_v758 : (sl.v758 c arg2 harg2 arg3 harg3 arg9 arg11 arg12 arg15 x0 x1) = MX x0 x1 3 2 :=
  hit _ _ _ _ (c2 (stM plain) (ld_v676) (ld_v672))

/-- A load of key block 3. -/
theorem ld_v664 : (sl.v664 c arg3 harg3 arg9 x1) = keys (rows x1 3) :=
  sk _ _ _ _ _ (by decide) (sk _ _ _ _ _ (by decide) (sk _ _ _ _ _ (by decide) (sk _ _ _ _ _ (by decide) (hit _ _ _ _ (c1 keys (read_rows harg3 x1 3 (by decide) _))))))

/-- A load of the scores of key block 3 against query block 3. -/
theorem ld_v744 : (sl.v744 c arg2 harg2 arg3 harg3 arg9 arg11 arg12 x0 x1) = SS x0 x1 3 3 :=
  sk _ _ _ _ _ (by decide) (hit _ _ _ _ (c2 stS (ld_v664) (ld_v482)))

/-- A load of the running normaliser of key block 0 against query block 3. -/
theorem ld_v642 : (sl.v642 c arg2 harg2 arg3 harg3 arg9 arg11 arg12 arg15 arg16 x0 x1) = LX x0 x1 3 0 :=
  hit _ _ _ _ (c1 (stL0 plain) (ld_v552))

/-- A load of the running normaliser of key block 1 against query block 3. -/
theorem ld_v689 : (sl.v689 c arg2 harg2 arg3 harg3 arg9 arg11 arg12 arg15 arg16 x0 x1) = LX x0 x1 3 1 :=
  hit _ _ _ _ (c3 (stL plain) (ld_v629) (ld_v625) (ld_v642))

/-- A load of the running normaliser of key block 2 against query block 3. -/
theorem ld_v771 : (sl.v771 c arg2 harg2 arg3 harg3 arg9 arg11 arg12 arg15 arg16 x0 x1) = LX x0 x1 3 2 :=
  hit _ _ _ _ (c3 (stL plain) (ld_v676) (ld_v672) (ld_v689))

/-- A load of the running normaliser of key block 3 against query block 3. -/
theorem ld_v839 : (sl.v839 c arg2 harg2 arg3 harg3 arg9 arg11 arg12 arg15 arg16 x0 x1) = LX x0 x1 3 3 :=
  sk _ _ _ _ _ (by decide) (hit _ _ _ _ (c3 (stL msk) (ld_v758) (ld_v744) (ld_v771)))

/-- A load of value block 3. -/
theorem ld_v827 : (sl.v827 c arg4 harg4 arg10 x2) = vals (rows x2 3) :=
  sk _ _ _ _ _ (by decide) (sk _ _ _ _ _ (by decide) (sk _ _ _ _ _ (by decide) (sk _ _ _ _ _ (by decide) (hit _ _ _ _ (c1 vals (read_rows harg4 x2 3 (by decide) _))))))

/-- A load of the exponentials of key block 3 against query block 3. -/
theorem ld_v829 : (sl.v829 c arg2 harg2 arg3 harg3 arg9 arg11 arg12 arg13 arg15 x0 x1) = PX x0 x1 3 3 :=
  sk _ _ _ _ _ (by decide) (hit _ _ _ _ (c2 (stP msk) (ld_v758) (ld_v744)))

/-- A load of the factor that rescales query block 3 after key block 2. -/
theorem ld_v832 : (sl.v832 c arg2 harg2 arg3 harg3 arg9 arg11 arg12 arg14 arg15 x0 x1) = AX x0 x1 3 2 :=
  hit _ _ _ _ (c2 (stA msk) (ld_v758) (ld_v744))

/-- A load of the exponentials of key block 2 against query block 3. -/
theorem ld_v787 : (sl.v787 c arg2 harg2 arg3 harg3 arg9 arg11 arg12 arg13 arg15 x0 x1) = PX x0 x1 3 2 :=
  sk _ _ _ _ _ (by decide) (hit _ _ _ _ (c2 (stP plain) (ld_v676) (ld_v672)))

/-- A load of the factor that rescales query block 3 after key block 1. -/
theorem ld_v790 : (sl.v790 c arg2 harg2 arg3 harg3 arg9 arg11 arg12 arg14 arg15 x0 x1) = AX x0 x1 3 1 :=
  sk _ _ _ _ _ (by decide) (hit _ _ _ _ (c2 (stA plain) (ld_v676) (ld_v672)))

/-- A load of value block 1. -/
theorem ld_v703 : (sl.v703 c arg4 harg4 arg10 x2) = vals (rows x2 1) :=
  sk _ _ _ _ _ (by decide) (sk _ _ _ _ _ (by decide) (sk _ _ _ _ _ (by decide) (sk _ _ _ _ _ (by decide) (sk _ _ _ _ _ (by decide) (sk _ _ _ _ _ (by decide) (hit _ _ _ _ (c1 vals (read_rows harg4 x2 1 (by decide) _))))))))

/-- A load of the exponentials of key block 1 against query block 3. -/
theorem ld_v705 : (sl.v705 c arg2 harg2 arg3 harg3 arg9 arg11 arg12 arg13 arg15 x0 x1) = PX x0 x1 3 1 :=
  sk _ _ _ _ _ (by decide) (hit _ _ _ _ (c2 (stP plain) (ld_v629) (ld_v625)))

/-- A load of the factor that rescales query block 3 after key block 0. -/
theorem ld_v708 : (sl.v708 c arg2 harg2 arg3 harg3 arg9 arg11 arg12 arg14 arg15 x0 x1) = AX x0 x1 3 0 :=
  sk _ _ _ _ _ (by decide) (hit _ _ _ _ (c2 (stA plain) (ld_v629) (ld_v625)))

/-- A load of the exponentials of key block 0 against query block 3. -/
theorem ld_v658 : (sl.v658 c arg2 harg2 arg3 harg3 arg9 arg11 arg12 arg13 arg15 x0 x1) = PX x0 x1 3 0 :=
  sk _ _ _ _ _ (by decide) (hit _ _ _ _ (c1 (stP0 plain) (ld_v552)))

/-- A load of the running weighted values of key block 0 against query block 3. -/
theorem ld_v710 : (sl.v710 c arg2 harg2 arg3 harg3 arg4 harg4 arg9 arg10 arg11 arg12 arg13 arg14 arg15 arg17 x0 x1 x2) = upC (CX x0 x1 x2 3 0) :=
  hit _ _ _ _ (c1 upC (c2 pv0 ld_v228 ld_v658))

/-- A load of the running weighted values of key block 1 against query block 3. -/
theorem ld_v792 : (sl.v792 c arg2 harg2 arg3 harg3 arg4 harg4 arg9 arg10 arg11 arg12 arg13 arg14 arg15 arg17 x0 x1 x2) = upC (CX x0 x1 x2 3 1) :=
  hit _ _ _ _ (c1 upC (c4 pv ld_v703 ld_v705 ld_v708 ld_v710))

/-- A load of the running weighted values of key block 2 against query block 3. -/
theorem ld_v834 : (sl.v834 c arg2 harg2 arg3 harg3 arg4 harg4 arg9 arg10 arg11 arg12 arg13 arg14 arg15 arg17 x0 x1 x2) = upC (CX x0 x1 x2 3 2) :=
  hit _ _ _ _ (c1 upC (c4 pv ld_v571 ld_v787 ld_v790 ld_v792))

/-- A load of query block 4. -/
theorem ld_v738 : (sl.v738 c arg2 harg2 arg11 x0) = queries (rows x0 4) :=
  hit _ _ _ _ (c1 queries (read_rows harg2 x0 4 (by decide) _))

/-- A load of the scores of key block 0 against query block 4. -/
theorem ld_v808 : (sl.v808 c arg2 harg2 arg3 harg3 arg9 arg11 arg12 x0 x1) = SS x0 x1 4 0 :=
  sk _ _ _ _ _ (by decide) (hit _ _ _ _ (c2 stS (ld_v164) (ld_v738)))

/-- A load of the running maximum of key block 0 against query block 4. -/
theorem ld_v885 : (sl.v885 c arg2 harg2 arg3 harg3 arg9 arg11 arg12 arg15 x0 x1) = MX x0 x1 4 0 :=
  hit _ _ _ _ (c1 (stM0 plain) (ld_v808))

/-- A load of the scores of key block 1 against query block 4. -/
theorem ld_v881 : (sl.v881 c arg2 harg2 arg3 harg3 arg9 arg11 arg12 x0 x1) = SS x0 x1 4 1 :=
  sk _ _ _ _ _ (by decide) (hit _ _ _ _ (c2 stS (ld_v201) (ld_v738)))

/-- A load of the running maximum of key block 1 against query block 4. -/
theorem ld_v932 : (sl.v932 c arg2 harg2 arg3 harg3 arg9 arg11 arg12 arg15 x0 x1) = MX x0 x1 4 1 :=
  hit _ _ _ _ (c2 (stM plain) (ld_v885) (ld_v881))

/-- A load of the scores of key block 2 against query block 4. -/
theorem ld_v928 : (sl.v928 c arg2 harg2 arg3 harg3 arg9 arg11 arg12 x0 x1) = SS x0 x1 4 2 :=
  sk _ _ _ _ _ (by decide) (hit _ _ _ _ (c2 stS (ld_v415) (ld_v738)))

/-- A load of the running maximum of key block 2 against query block 4. -/
theorem ld_v986 : (sl.v986 c arg2 harg2 arg3 harg3 arg9 arg11 arg12 arg15 x0 x1) = MX x0 x1 4 2 :=
  hit _ _ _ _ (c2 (stM plain) (ld_v932) (ld_v928))

/-- A load of the scores of key block 3 against query block 4. -/
theorem ld_v982 : (sl.v982 c arg2 harg2 arg3 harg3 arg9 arg11 arg12 x0 x1) = SS x0 x1 4 3 :=
  sk _ _ _ _ _ (by decide) (hit _ _ _ _ (c2 stS (ld_v664) (ld_v738)))

/-- A load of the running maximum of key block 3 against query block 4. -/
theorem ld_v1068 : (sl.v1068 c arg2 harg2 arg3 harg3 arg9 arg11 arg12 arg15 x0 x1) = MX x0 x1 4 3 :=
  hit _ _ _ _ (c2 (stM plain) (ld_v986) (ld_v982))

/-- A load of key block 4. -/
theorem ld_v974 : (sl.v974 c arg3 harg3 arg9 x1) = keys (rows x1 4) :=
  sk _ _ _ _ _ (by decide) (sk _ _ _ _ _ (by decide) (sk _ _ _ _ _ (by decide) (hit _ _ _ _ (c1 keys (read_rows harg3 x1 4 (by decide) _)))))

/-- A load of the scores of key block 4 against query block 4. -/
theorem ld_v1054 : (sl.v1054 c arg2 harg2 arg3 harg3 arg9 arg11 arg12 x0 x1) = SS x0 x1 4 4 :=
  sk _ _ _ _ _ (by decide) (hit _ _ _ _ (c2 stS (ld_v974) (ld_v738)))

/-- A load of the running normaliser of key block 0 against query block 4. -/
theorem ld_v898 : (sl.v898 c arg2 harg2 arg3 harg3 arg9 arg11 arg12 arg15 arg16 x0 x1) = LX x0 x1 4 0 :=
  hit _ _ _ _ (c1 (stL0 plain) (ld_v808))

/-- A load of the running normaliser of key block 1 against query block 4. -/
theorem ld_v945 : (sl.v945 c arg2 harg2 arg3 harg3 arg9 arg11 arg12 arg15 arg16 x0 x1) = LX x0 x1 4 1 :=
  hit _ _ _ _ (c3 (stL plain) (ld_v885) (ld_v881) (ld_v898))

/-- A load of the running normaliser of key block 2 against query block 4. -/
theorem ld_v999 : (sl.v999 c arg2 harg2 arg3 harg3 arg9 arg11 arg12 arg15 arg16 x0 x1) = LX x0 x1 4 2 :=
  hit _ _ _ _ (c3 (stL plain) (ld_v932) (ld_v928) (ld_v945))

/-- A load of the running normaliser of key block 3 against query block 4. -/
theorem ld_v1081 : (sl.v1081 c arg2 harg2 arg3 harg3 arg9 arg11 arg12 arg15 arg16 x0 x1) = LX x0 x1 4 3 :=
  hit _ _ _ _ (c3 (stL plain) (ld_v986) (ld_v982) (ld_v999))

/-- A load of the running normaliser of key block 4 against query block 4. -/
theorem ld_v1149 : (sl.v1149 c arg2 harg2 arg3 harg3 arg9 arg11 arg12 arg15 arg16 x0 x1) = LX x0 x1 4 4 :=
  sk _ _ _ _ _ (by decide) (hit _ _ _ _ (c3 (stL msk) (ld_v1068) (ld_v1054) (ld_v1081)))

/-- A load of value block 4. -/
theorem ld_v1137 : (sl.v1137 c arg4 harg4 arg10 x2) = vals (rows x2 4) :=
  sk _ _ _ _ _ (by decide) (sk _ _ _ _ _ (by decide) (sk _ _ _ _ _ (by decide) (hit _ _ _ _ (c1 vals (read_rows harg4 x2 4 (by decide) _)))))

/-- A load of the exponentials of key block 4 against query block 4. -/
theorem ld_v1139 : (sl.v1139 c arg2 harg2 arg3 harg3 arg9 arg11 arg12 arg13 arg15 x0 x1) = PX x0 x1 4 4 :=
  sk _ _ _ _ _ (by decide) (hit _ _ _ _ (c2 (stP msk) (ld_v1068) (ld_v1054)))

/-- A load of the factor that rescales query block 4 after key block 3. -/
theorem ld_v1142 : (sl.v1142 c arg2 harg2 arg3 harg3 arg9 arg11 arg12 arg14 arg15 x0 x1) = AX x0 x1 4 3 :=
  hit _ _ _ _ (c2 (stA msk) (ld_v1068) (ld_v1054))

/-- A load of the exponentials of key block 3 against query block 4. -/
theorem ld_v1097 : (sl.v1097 c arg2 harg2 arg3 harg3 arg9 arg11 arg12 arg13 arg15 x0 x1) = PX x0 x1 4 3 :=
  sk _ _ _ _ _ (by decide) (hit _ _ _ _ (c2 (stP plain) (ld_v986) (ld_v982)))

/-- A load of the factor that rescales query block 4 after key block 2. -/
theorem ld_v1100 : (sl.v1100 c arg2 harg2 arg3 harg3 arg9 arg11 arg12 arg14 arg15 x0 x1) = AX x0 x1 4 2 :=
  sk _ _ _ _ _ (by decide) (hit _ _ _ _ (c2 (stA plain) (ld_v986) (ld_v982)))

/-- A load of value block 2. -/
theorem ld_v1013 : (sl.v1013 c arg4 harg4 arg10 x2) = vals (rows x2 2) :=
  sk _ _ _ _ _ (by decide) (sk _ _ _ _ _ (by decide) (sk _ _ _ _ _ (by decide) (sk _ _ _ _ _ (by decide) (sk _ _ _ _ _ (by decide) (hit _ _ _ _ (c1 vals (read_rows harg4 x2 2 (by decide) _)))))))

/-- A load of the exponentials of key block 2 against query block 4. -/
theorem ld_v1015 : (sl.v1015 c arg2 harg2 arg3 harg3 arg9 arg11 arg12 arg13 arg15 x0 x1) = PX x0 x1 4 2 :=
  sk _ _ _ _ _ (by decide) (hit _ _ _ _ (c2 (stP plain) (ld_v932) (ld_v928)))

/-- A load of the factor that rescales query block 4 after key block 1. -/
theorem ld_v1018 : (sl.v1018 c arg2 harg2 arg3 harg3 arg9 arg11 arg12 arg14 arg15 x0 x1) = AX x0 x1 4 1 :=
  sk _ _ _ _ _ (by decide) (hit _ _ _ _ (c2 (stA plain) (ld_v932) (ld_v928)))

/-- A load of the exponentials of key block 1 against query block 4. -/
theorem ld_v961 : (sl.v961 c arg2 harg2 arg3 harg3 arg9 arg11 arg12 arg13 arg15 x0 x1) = PX x0 x1 4 1 :=
  sk _ _ _ _ _ (by decide) (hit _ _ _ _ (c2 (stP plain) (ld_v885) (ld_v881)))

/-- A load of the factor that rescales query block 4 after key block 0. -/
theorem ld_v964 : (sl.v964 c arg2 harg2 arg3 harg3 arg9 arg11 arg12 arg14 arg15 x0 x1) = AX x0 x1 4 0 :=
  sk _ _ _ _ _ (by decide) (hit _ _ _ _ (c2 (stA plain) (ld_v885) (ld_v881)))

/-- A load of the exponentials of key block 0 against query block 4. -/
theorem ld_v914 : (sl.v914 c arg2 harg2 arg3 harg3 arg9 arg11 arg12 arg13 arg15 x0 x1) = PX x0 x1 4 0 :=
  sk _ _ _ _ _ (by decide) (hit _ _ _ _ (c1 (stP0 plain) (ld_v808)))

/-- A load of the running weighted values of key block 0 against query block 4. -/
theorem ld_v966 : (sl.v966 c arg2 harg2 arg3 harg3 arg4 harg4 arg9 arg10 arg11 arg12 arg13 arg14 arg15 arg17 x0 x1 x2) = upC (CX x0 x1 x2 4 0) :=
  hit _ _ _ _ (c1 upC (c2 pv0 ld_v228 ld_v914))

/-- A load of the running weighted values of key block 1 against query block 4. -/
theorem ld_v1020 : (sl.v1020 c arg2 harg2 arg3 harg3 arg4 harg4 arg9 arg10 arg11 arg12 arg13 arg14 arg15 arg17 x0 x1 x2) = upC (CX x0 x1 x2 4 1) :=
  hit _ _ _ _ (c1 upC (c4 pv ld_v369 ld_v961 ld_v964 ld_v966))

/-- A load of the running weighted values of key block 2 against query block 4. -/
theorem ld_v1102 : (sl.v1102 c arg2 harg2 arg3 harg3 arg4 harg4 arg9 arg10 arg11 arg12 arg13 arg14 arg15 arg17 x0 x1 x2) = upC (CX x0 x1 x2 4 2) :=
  hit _ _ _ _ (c1 upC (c4 pv ld_v1013 ld_v1015 ld_v1018 ld_v1020))

/-- A load of the running weighted values of key block 3 against query block 4. -/
theorem ld_v1144 : (sl.v1144 c arg2 harg2 arg3 harg3 arg4 harg4 arg9 arg10 arg11 arg12 arg13 arg14 arg15 arg17 x0 x1 x2) = upC (CX x0 x1 x2 4 3) :=
  hit _ _ _ _ (c1 upC (c4 pv ld_v827 ld_v1097 ld_v1100 ld_v1102))

/-- A load of query block 5. -/
theorem ld_v1048 : (sl.v1048 c arg2 harg2 arg11 x0) = queries (rows x0 5) :=
  hit _ _ _ _ (c1 queries (read_rows harg2 x0 5 (by decide) _))

/-- A load of the scores of key block 0 against query block 5. -/
theorem ld_v1118 : (sl.v1118 c arg2 harg2 arg3 harg3 arg9 arg11 arg12 x0 x1) = SS x0 x1 5 0 :=
  sk _ _ _ _ _ (by decide) (hit _ _ _ _ (c2 stS (ld_v164) (ld_v1048)))

/-- A load of the running maximum of key block 0 against query block 5. -/
theorem ld_v1195 : (sl.v1195 c arg2 harg2 arg3 harg3 arg9 arg11 arg12 arg15 x0 x1) = MX x0 x1 5 0 :=
  hit _ _ _ _ (c1 (stM0 plain) (ld_v1118))

/-- A load of the scores of key block 1 against query block 5. -/
theorem ld_v1191 : (sl.v1191 c arg2 harg2 arg3 harg3 arg9 arg11 arg12 x0 x1) = SS x0 x1 5 1 :=
  sk _ _ _ _ _ (by decide) (hit _ _ _ _ (c2 stS (ld_v201) (ld_v1048)))

/-- A load of the running maximum of key block 1 against query block 5. -/
theorem ld_v1242 : (sl.v1242 c arg2 harg2 arg3 harg3 arg9 arg11 arg12 arg15 x0 x1) = MX x0 x1 5 1 :=
  hit _ _ _ _ (c2 (stM plain) (ld_v1195) (ld_v1191))

/-- A load of the scores of key block 2 against query block 5. -/
theorem ld_v1238 : (sl.v1238 c arg2 harg2 arg3 harg3 arg9 arg11 arg12 x0 x1) = SS x0 x1 5 2 :=
  sk _ _ _ _ _ (by decide) (hit _ _ _ _ (c2 stS (ld_v415) (ld_v1048)))

/-- A load of the running maximum of key block 2 against query block 5. -/
theorem ld_v1296 : (sl.v1296 c arg2 harg2 arg3 harg3 arg9 arg11 arg12 arg15 x0 x1) = MX x0 x1 5 2 :=
  hit _ _ _ _ (c2 (stM plain) (ld_v1242) (ld_v1238))

/-- A load of the scores of key block 3 against query block 5. -/
theorem ld_v1292 : (sl.v1292 c arg2 harg2 arg3 harg3 arg9 arg11 arg12 x0 x1) = SS x0 x1 5 3 :=
  sk _ _ _ _ _ (by decide) (hit _ _ _ _ (c2 stS (ld_v664) (ld_v1048)))

/-- A load of the running maximum of key block 3 against query block 5. -/
theorem ld_v1350 : (sl.v1350 c arg2 harg2 arg3 harg3 arg9 arg11 arg12 arg15 x0 x1) = MX x0 x1 5 3 :=
  hit _ _ _ _ (c2 (stM plain) (ld_v1296) (ld_v1292))

/-- A load of the scores of key block 4 against query block 5. -/
theorem ld_v1346 : (sl.v1346 c arg2 harg2 arg3 harg3 arg9 arg11 arg12 x0 x1) = SS x0 x1 5 4 :=
  sk _ _ _ _ _ (by decide) (hit _ _ _ _ (c2 stS (ld_v974) (ld_v1048)))

/-- A load of the running maximum of key block 4 against query block 5. -/
theorem ld_v1432 : (sl.v1432 c arg2 harg2 arg3 harg3 arg9 arg11 arg12 arg15 x0 x1) = MX x0 x1 5 4 :=
  hit _ _ _ _ (c2 (stM plain) (ld_v1350) (ld_v1346))

/-- A load of key block 5. -/
theorem ld_v1338 : (sl.v1338 c arg3 harg3 arg9 x1) = keys (rows x1 5) :=
  sk _ _ _ _ _ (by decide) (sk _ _ _ _ _ (by decide) (hit _ _ _ _ (c1 keys (read_rows harg3 x1 5 (by decide) _))))

/-- A load of the scores of key block 5 against query block 5. -/
theorem ld_v1418 : (sl.v1418 c arg2 harg2 arg3 harg3 arg9 arg11 arg12 x0 x1) = SS x0 x1 5 5 :=
  sk _ _ _ _ _ (by decide) (hit _ _ _ _ (c2 stS (ld_v1338) (ld_v1048)))

/-- A load of the running normaliser of key block 0 against query block 5. -/
theorem ld_v1208 : (sl.v1208 c arg2 harg2 arg3 harg3 arg9 arg11 arg12 arg15 arg16 x0 x1) = LX x0 x1 5 0 :=
  hit _ _ _ _ (c1 (stL0 plain) (ld_v1118))

/-- A load of the running normaliser of key block 1 against query block 5. -/
theorem ld_v1255 : (sl.v1255 c arg2 harg2 arg3 harg3 arg9 arg11 arg12 arg15 arg16 x0 x1) = LX x0 x1 5 1 :=
  hit _ _ _ _ (c3 (stL plain) (ld_v1195) (ld_v1191) (ld_v1208))

/-- A load of the running normaliser of key block 2 against query block 5. -/
theorem ld_v1309 : (sl.v1309 c arg2 harg2 arg3 harg3 arg9 arg11 arg12 arg15 arg16 x0 x1) = LX x0 x1 5 2 :=
  hit _ _ _ _ (c3 (stL plain) (ld_v1242) (ld_v1238) (ld_v1255))

/-- A load of the running normaliser of key block 3 against query block 5. -/
theorem ld_v1363 : (sl.v1363 c arg2 harg2 arg3 harg3 arg9 arg11 arg12 arg15 arg16 x0 x1) = LX x0 x1 5 3 :=
  hit _ _ _ _ (c3 (stL plain) (ld_v1296) (ld_v1292) (ld_v1309))

/-- A load of the running normaliser of key block 4 against query block 5. -/
theorem ld_v1445 : (sl.v1445 c arg2 harg2 arg3 harg3 arg9 arg11 arg12 arg15 arg16 x0 x1) = LX x0 x1 5 4 :=
  hit _ _ _ _ (c3 (stL plain) (ld_v1350) (ld_v1346) (ld_v1363))

/-- A load of the running normaliser of key block 5 against query block 5. -/
theorem ld_v1513 : (sl.v1513 c arg2 harg2 arg3 harg3 arg9 arg11 arg12 arg15 arg16 x0 x1) = LX x0 x1 5 5 :=
  sk _ _ _ _ _ (by decide) (hit _ _ _ _ (c3 (stL msk) (ld_v1432) (ld_v1418) (ld_v1445)))

/-- A load of value block 5. -/
theorem ld_v1501 : (sl.v1501 c arg4 harg4 arg10 x2) = vals (rows x2 5) :=
  sk _ _ _ _ _ (by decide) (sk _ _ _ _ _ (by decide) (hit _ _ _ _ (c1 vals (read_rows harg4 x2 5 (by decide) _))))

/-- A load of the exponentials of key block 5 against query block 5. -/
theorem ld_v1503 : (sl.v1503 c arg2 harg2 arg3 harg3 arg9 arg11 arg12 arg13 arg15 x0 x1) = PX x0 x1 5 5 :=
  sk _ _ _ _ _ (by decide) (hit _ _ _ _ (c2 (stP msk) (ld_v1432) (ld_v1418)))

/-- A load of the factor that rescales query block 5 after key block 4. -/
theorem ld_v1506 : (sl.v1506 c arg2 harg2 arg3 harg3 arg9 arg11 arg12 arg14 arg15 x0 x1) = AX x0 x1 5 4 :=
  hit _ _ _ _ (c2 (stA msk) (ld_v1432) (ld_v1418))

/-- A load of the exponentials of key block 4 against query block 5. -/
theorem ld_v1461 : (sl.v1461 c arg2 harg2 arg3 harg3 arg9 arg11 arg12 arg13 arg15 x0 x1) = PX x0 x1 5 4 :=
  sk _ _ _ _ _ (by decide) (hit _ _ _ _ (c2 (stP plain) (ld_v1350) (ld_v1346)))

/-- A load of the factor that rescales query block 5 after key block 3. -/
theorem ld_v1464 : (sl.v1464 c arg2 harg2 arg3 harg3 arg9 arg11 arg12 arg14 arg15 x0 x1) = AX x0 x1 5 3 :=
  sk _ _ _ _ _ (by decide) (hit _ _ _ _ (c2 (stA plain) (ld_v1350) (ld_v1346)))

/-- A load of the exponentials of key block 3 against query block 5. -/
theorem ld_v1379 : (sl.v1379 c arg2 harg2 arg3 harg3 arg9 arg11 arg12 arg13 arg15 x0 x1) = PX x0 x1 5 3 :=
  sk _ _ _ _ _ (by decide) (hit _ _ _ _ (c2 (stP plain) (ld_v1296) (ld_v1292)))

/-- A load of the factor that rescales query block 5 after key block 2. -/
theorem ld_v1382 : (sl.v1382 c arg2 harg2 arg3 harg3 arg9 arg11 arg12 arg14 arg15 x0 x1) = AX x0 x1 5 2 :=
  sk _ _ _ _ _ (by decide) (hit _ _ _ _ (c2 (stA plain) (ld_v1296) (ld_v1292)))

/-- A load of the exponentials of key block 2 against query block 5. -/
theorem ld_v1325 : (sl.v1325 c arg2 harg2 arg3 harg3 arg9 arg11 arg12 arg13 arg15 x0 x1) = PX x0 x1 5 2 :=
  sk _ _ _ _ _ (by decide) (hit _ _ _ _ (c2 (stP plain) (ld_v1242) (ld_v1238)))

/-- A load of the factor that rescales query block 5 after key block 1. -/
theorem ld_v1328 : (sl.v1328 c arg2 harg2 arg3 harg3 arg9 arg11 arg12 arg14 arg15 x0 x1) = AX x0 x1 5 1 :=
  sk _ _ _ _ _ (by decide) (hit _ _ _ _ (c2 (stA plain) (ld_v1242) (ld_v1238)))

/-- A load of the exponentials of key block 1 against query block 5. -/
theorem ld_v1271 : (sl.v1271 c arg2 harg2 arg3 harg3 arg9 arg11 arg12 arg13 arg15 x0 x1) = PX x0 x1 5 1 :=
  sk _ _ _ _ _ (by decide) (hit _ _ _ _ (c2 (stP plain) (ld_v1195) (ld_v1191)))

/-- A load of the factor that rescales query block 5 after key block 0. -/
theorem ld_v1274 : (sl.v1274 c arg2 harg2 arg3 harg3 arg9 arg11 arg12 arg14 arg15 x0 x1) = AX x0 x1 5 0 :=
  sk _ _ _ _ _ (by decide) (hit _ _ _ _ (c2 (stA plain) (ld_v1195) (ld_v1191)))

/-- A load of the exponentials of key block 0 against query block 5. -/
theorem ld_v1224 : (sl.v1224 c arg2 harg2 arg3 harg3 arg9 arg11 arg12 arg13 arg15 x0 x1) = PX x0 x1 5 0 :=
  sk _ _ _ _ _ (by decide) (hit _ _ _ _ (c1 (stP0 plain) (ld_v1118)))

/-- A load of the running weighted values of key block 0 against query block 5. -/
theorem ld_v1276 : (sl.v1276 c arg2 harg2 arg3 harg3 arg4 harg4 arg9 arg10 arg11 arg12 arg13 arg14 arg15 arg17 x0 x1 x2) = upC (CX x0 x1 x2 5 0) :=
  hit _ _ _ _ (c1 upC (c2 pv0 ld_v228 ld_v1224))

/-- A load of the running weighted values of key block 1 against query block 5. -/
theorem ld_v1330 : (sl.v1330 c arg2 harg2 arg3 harg3 arg4 harg4 arg9 arg10 arg11 arg12 arg13 arg14 arg15 arg17 x0 x1 x2) = upC (CX x0 x1 x2 5 1) :=
  hit _ _ _ _ (c1 upC (c4 pv ld_v369 ld_v1271 ld_v1274 ld_v1276))

/-- A load of the running weighted values of key block 2 against query block 5. -/
theorem ld_v1384 : (sl.v1384 c arg2 harg2 arg3 harg3 arg4 harg4 arg9 arg10 arg11 arg12 arg13 arg14 arg15 arg17 x0 x1 x2) = upC (CX x0 x1 x2 5 2) :=
  hit _ _ _ _ (c1 upC (c4 pv ld_v571 ld_v1325 ld_v1328 ld_v1330))

/-- A load of the running weighted values of key block 3 against query block 5. -/
theorem ld_v1466 : (sl.v1466 c arg2 harg2 arg3 harg3 arg4 harg4 arg9 arg10 arg11 arg12 arg13 arg14 arg15 arg17 x0 x1 x2) = upC (CX x0 x1 x2 5 3) :=
  hit _ _ _ _ (c1 upC (c4 pv ld_v827 ld_v1379 ld_v1382 ld_v1384))

/-- A load of the running weighted values of key block 4 against query block 5. -/
theorem ld_v1508 : (sl.v1508 c arg2 harg2 arg3 harg3 arg4 harg4 arg9 arg10 arg11 arg12 arg13 arg14 arg15 arg17 x0 x1 x2) = upC (CX x0 x1 x2 5 4) :=
  hit _ _ _ _ (c1 upC (c4 pv ld_v1137 ld_v1461 ld_v1464 ld_v1466))

/-- A load of query block 6. -/
theorem ld_v1412 : (sl.v1412 c arg2 harg2 arg11 x0) = queries (rows x0 6) :=
  hit _ _ _ _ (c1 queries (read_rows harg2 x0 6 (by decide) _))

/-- A load of the scores of key block 0 against query block 6. -/
theorem ld_v1482 : (sl.v1482 c arg2 harg2 arg3 harg3 arg9 arg11 arg12 x0 x1) = SS x0 x1 6 0 :=
  sk _ _ _ _ _ (by decide) (hit _ _ _ _ (c2 stS (ld_v138) (ld_v1412)))

/-- A load of the running maximum of key block 0 against query block 6. -/
theorem ld_v1559 : (sl.v1559 c arg2 harg2 arg3 harg3 arg9 arg11 arg12 arg15 x0 x1) = MX x0 x1 6 0 :=
  hit _ _ _ _ (c1 (stM0 plain) (ld_v1482))

/-- A load of query block 6. -/
theorem ld_v1476 : (sl.v1476 c arg2 harg2 arg11 x0) = queries (rows x0 6) :=
  hit _ _ _ _ (c1 queries (read_rows harg2 x0 6 (by decide) _))

/-- A load of the scores of key block 1 against query block 6. -/
theorem ld_v1555 : (sl.v1555 c arg2 harg2 arg3 harg3 arg9 arg11 arg12 x0 x1) = SS x0 x1 6 1 :=
  sk _ _ _ _ _ (by decide) (hit _ _ _ _ (c2 stS (ld_v201) (ld_v1476)))

/-- A load of the running maximum of key block 1 against query block 6. -/
theorem ld_v1606 : (sl.v1606 c arg2 harg2 arg3 harg3 arg9 arg11 arg12 arg15 x0 x1) = MX x0 x1 6 1 :=
  hit _ _ _ _ (c2 (stM plain) (ld_v1559) (ld_v1555))

/-- A load of the scores of key block 2 against query block 6. -/
theorem ld_v1602 : (sl.v1602 c arg2 harg2 arg3 harg3 arg9 arg11 arg12 x0 x1) = SS x0 x1 6 2 :=
  sk _ _ _ _ _ (by decide) (hit _ _ _ _ (c2 stS (ld_v415) (ld_v1476)))

/-- A load of the running maximum of key block 2 against query block 6. -/
theorem ld_v1660 : (sl.v1660 c arg2 harg2 arg3 harg3 arg9 arg11 arg12 arg15 x0 x1) = MX x0 x1 6 2 :=
  hit _ _ _ _ (c2 (stM plain) (ld_v1606) (ld_v1602))

/-- A load of the scores of key block 3 against query block 6. -/
theorem ld_v1656 : (sl.v1656 c arg2 harg2 arg3 harg3 arg9 arg11 arg12 x0 x1) = SS x0 x1 6 3 :=
  sk _ _ _ _ _ (by decide) (hit _ _ _ _ (c2 stS (ld_v664) (ld_v1476)))

/-- A load of the running maximum of key block 3 against query block 6. -/
theorem ld_v1714 : (sl.v1714 c arg2 harg2 arg3 harg3 arg9 arg11 arg12 arg15 x0 x1) = MX x0 x1 6 3 :=
  hit _ _ _ _ (c2 (stM plain) (ld_v1660) (ld_v1656))

/-- A load of the scores of key block 4 against query block 6. -/
theorem ld_v1710 : (sl.v1710 c arg2 harg2 arg3 harg3 arg9 arg11 arg12 x0 x1) = SS x0 x1 6 4 :=
  sk _ _ _ _ _ (by decide) (hit _ _ _ _ (c2 stS (ld_v974) (ld_v1476)))

/-- A load of the running maximum of key block 4 against query block 6. -/
theorem ld_v1768 : (sl.v1768 c arg2 harg2 arg3 harg3 arg9 arg11 arg12 arg15 x0 x1) = MX x0 x1 6 4 :=
  hit _ _ _ _ (c2 (stM plain) (ld_v1714) (ld_v1710))

/-- A load of the scores of key block 5 against query block 6. -/
theorem ld_v1764 : (sl.v1764 c arg2 harg2 arg3 harg3 arg9 arg11 arg12 x0 x1) = SS x0 x1 6 5 :=
  sk _ _ _ _ _ (by decide) (hit _ _ _ _ (c2 stS (ld_v1338) (ld_v1476)))

/-- A load of the running maximum of key block 5 against query block 6. -/
theorem ld_v1850 : (sl.v1850 c arg2 harg2 arg3 harg3 arg9 arg11 arg12 arg15 x0 x1) = MX x0 x1 6 5 :=
  hit _ _ _ _ (c2 (stM plain) (ld_v1768) (ld_v1764))

/-- A load of key block 6. -/
theorem ld_v1756 : (sl.v1756 c arg3 harg3 arg9 x1) = keys (rows x1 6) :=
  sk _ _ _ _ _ (by decide) (hit _ _ _ _ (c1 keys (read_rows harg3 x1 6 (by decide) _)))

/-- A load of the scores of key block 6 against query block 6. -/
theorem ld_v1836 : (sl.v1836 c arg2 harg2 arg3 harg3 arg9 arg11 arg12 x0 x1) = SS x0 x1 6 6 :=
  sk _ _ _ _ _ (by decide) (hit _ _ _ _ (c2 stS (ld_v1756) (ld_v1476)))

/-- A load of the running normaliser of key block 0 against query block 6. -/
theorem ld_v1572 : (sl.v1572 c arg2 harg2 arg3 harg3 arg9 arg11 arg12 arg15 arg16 x0 x1) = LX x0 x1 6 0 :=
  hit _ _ _ _ (c1 (stL0 plain) (ld_v1482))

/-- A load of the running normaliser of key block 1 against query block 6. -/
theorem ld_v1619 : (sl.v1619 c arg2 harg2 arg3 harg3 arg9 arg11 arg12 arg15 arg16 x0 x1) = LX x0 x1 6 1 :=
  hit _ _ _ _ (c3 (stL plain) (ld_v1559) (ld_v1555) (ld_v1572))

/-- A load of the running normaliser of key block 2 against query block 6. -/
theorem ld_v1673 : (sl.v1673 c arg2 harg2 arg3 harg3 arg9 arg11 arg12 arg15 arg16 x0 x1) = LX x0 x1 6 2 :=
  hit _ _ _ _ (c3 (stL plain) (ld_v1606) (ld_v1602) (ld_v1619))

/-- A load of the running normaliser of key block 3 against query block 6. -/
theorem ld_v1727 : (sl.v1727 c arg2 harg2 arg3 harg3 arg9 arg11 arg12 arg15 arg16 x0 x1) = LX x0 x1 6 3 :=
  hit _ _ _ _ (c3 (stL plain) (ld_v1660) (ld_v1656) (ld_v1673))

/-- A load of the running normaliser of key block 4 against query block 6. -/
theorem ld_v1781 : (sl.v1781 c arg2 harg2 arg3 harg3 arg9 arg11 arg12 arg15 arg16 x0 x1) = LX x0 x1 6 4 :=
  hit _ _ _ _ (c3 (stL plain) (ld_v1714) (ld_v1710) (ld_v1727))

/-- A load of the running normaliser of key block 5 against query block 6. -/
theorem ld_v1863 : (sl.v1863 c arg2 harg2 arg3 harg3 arg9 arg11 arg12 arg15 arg16 x0 x1) = LX x0 x1 6 5 :=
  hit _ _ _ _ (c3 (stL plain) (ld_v1768) (ld_v1764) (ld_v1781))

/-- A load of the running normaliser of key block 6 against query block 6. -/
theorem ld_v1931 : (sl.v1931 c arg2 harg2 arg3 harg3 arg9 arg11 arg12 arg15 arg16 x0 x1) = LX x0 x1 6 6 :=
  sk _ _ _ _ _ (by decide) (hit _ _ _ _ (c3 (stL msk) (ld_v1850) (ld_v1836) (ld_v1863)))

/-- A load of value block 6. -/
theorem ld_v1919 : (sl.v1919 c arg4 harg4 arg10 x2) = vals (rows x2 6) :=
  sk _ _ _ _ _ (by decide) (hit _ _ _ _ (c1 vals (read_rows harg4 x2 6 (by decide) _)))

/-- A load of the exponentials of key block 6 against query block 6. -/
theorem ld_v1921 : (sl.v1921 c arg2 harg2 arg3 harg3 arg9 arg11 arg12 arg13 arg15 x0 x1) = PX x0 x1 6 6 :=
  sk _ _ _ _ _ (by decide) (hit _ _ _ _ (c2 (stP msk) (ld_v1850) (ld_v1836)))

/-- A load of the factor that rescales query block 6 after key block 5. -/
theorem ld_v1924 : (sl.v1924 c arg2 harg2 arg3 harg3 arg9 arg11 arg12 arg14 arg15 x0 x1) = AX x0 x1 6 5 :=
  hit _ _ _ _ (c2 (stA msk) (ld_v1850) (ld_v1836))

/-- A load of the exponentials of key block 5 against query block 6. -/
theorem ld_v1879 : (sl.v1879 c arg2 harg2 arg3 harg3 arg9 arg11 arg12 arg13 arg15 x0 x1) = PX x0 x1 6 5 :=
  sk _ _ _ _ _ (by decide) (hit _ _ _ _ (c2 (stP plain) (ld_v1768) (ld_v1764)))

/-- A load of the factor that rescales query block 6 after key block 4. -/
theorem ld_v1882 : (sl.v1882 c arg2 harg2 arg3 harg3 arg9 arg11 arg12 arg14 arg15 x0 x1) = AX x0 x1 6 4 :=
  sk _ _ _ _ _ (by decide) (hit _ _ _ _ (c2 (stA plain) (ld_v1768) (ld_v1764)))

/-- A load of value block 4. -/
theorem ld_v1795 : (sl.v1795 c arg4 harg4 arg10 x2) = vals (rows x2 4) :=
  sk _ _ _ _ _ (by decide) (sk _ _ _ _ _ (by decide) (sk _ _ _ _ _ (by decide) (hit _ _ _ _ (c1 vals (read_rows harg4 x2 4 (by decide) _)))))

/-- A load of the exponentials of key block 4 against query block 6. -/
theorem ld_v1797 : (sl.v1797 c arg2 harg2 arg3 harg3 arg9 arg11 arg12 arg13 arg15 x0 x1) = PX x0 x1 6 4 :=
  sk _ _ _ _ _ (by decide) (hit _ _ _ _ (c2 (stP plain) (ld_v1714) (ld_v1710)))

/-- A load of the factor that rescales query block 6 after key block 3. -/
theorem ld_v1800 : (sl.v1800 c arg2 harg2 arg3 harg3 arg9 arg11 arg12 arg14 arg15 x0 x1) = AX x0 x1 6 3 :=
  sk _ _ _ _ _ (by decide) (hit _ _ _ _ (c2 (stA plain) (ld_v1714) (ld_v1710)))

/-- A load of the exponentials of key block 3 against query block 6. -/
theorem ld_v1743 : (sl.v1743 c arg2 harg2 arg3 harg3 arg9 arg11 arg12 arg13 arg15 x0 x1) = PX x0 x1 6 3 :=
  sk _ _ _ _ _ (by decide) (hit _ _ _ _ (c2 (stP plain) (ld_v1660) (ld_v1656)))

/-- A load of the factor that rescales query block 6 after key block 2. -/
theorem ld_v1746 : (sl.v1746 c arg2 harg2 arg3 harg3 arg9 arg11 arg12 arg14 arg15 x0 x1) = AX x0 x1 6 2 :=
  sk _ _ _ _ _ (by decide) (hit _ _ _ _ (c2 (stA plain) (ld_v1660) (ld_v1656)))

/-- A load of the exponentials of key block 2 against query block 6. -/
theorem ld_v1689 : (sl.v1689 c arg2 harg2 arg3 harg3 arg9 arg11 arg12 arg13 arg15 x0 x1) = PX x0 x1 6 2 :=
  sk _ _ _ _ _ (by decide) (hit _ _ _ _ (c2 (stP plain) (ld_v1606) (ld_v1602)))

/-- A load of the factor that rescales query block 6 after key block 1. -/
theorem ld_v1692 : (sl.v1692 c arg2 harg2 arg3 harg3 arg9 arg11 arg12 arg14 arg15 x0 x1) = AX x0 x1 6 1 :=
  sk _ _ _ _ _ (by decide) (hit _ _ _ _ (c2 (stA plain) (ld_v1606) (ld_v1602)))

/-- A load of the exponentials of key block 1 against query block 6. -/
theorem ld_v1635 : (sl.v1635 c arg2 harg2 arg3 harg3 arg9 arg11 arg12 arg13 arg15 x0 x1) = PX x0 x1 6 1 :=
  sk _ _ _ _ _ (by decide) (hit _ _ _ _ (c2 (stP plain) (ld_v1559) (ld_v1555)))

/-- A load of the factor that rescales query block 6 after key block 0. -/
theorem ld_v1638 : (sl.v1638 c arg2 harg2 arg3 harg3 arg9 arg11 arg12 arg14 arg15 x0 x1) = AX x0 x1 6 0 :=
  sk _ _ _ _ _ (by decide) (hit _ _ _ _ (c2 (stA plain) (ld_v1559) (ld_v1555)))

/-- A load of the exponentials of key block 0 against query block 6. -/
theorem ld_v1588 : (sl.v1588 c arg2 harg2 arg3 harg3 arg9 arg11 arg12 arg13 arg15 x0 x1) = PX x0 x1 6 0 :=
  sk _ _ _ _ _ (by decide) (hit _ _ _ _ (c1 (stP0 plain) (ld_v1482)))

/-- A load of the running weighted values of key block 0 against query block 6. -/
theorem ld_v1640 : (sl.v1640 c arg2 harg2 arg3 harg3 arg4 harg4 arg9 arg10 arg11 arg12 arg13 arg14 arg15 arg17 x0 x1 x2) = upC (CX x0 x1 x2 6 0) :=
  hit _ _ _ _ (c1 upC (c2 pv0 ld_v228 ld_v1588))

/-- A load of the running weighted values of key block 1 against query block 6. -/
theorem ld_v1694 : (sl.v1694 c arg2 harg2 arg3 harg3 arg4 harg4 arg9 arg10 arg11 arg12 arg13 arg14 arg15 arg17 x0 x1 x2) = upC (CX x0 x1 x2 6 1) :=
  hit _ _ _ _ (c1 upC (c4 pv ld_v369 ld_v1635 ld_v1638 ld_v1640))

/-- A load of the running weighted values of key block 2 against query block 6. -/
theorem ld_v1748 : (sl.v1748 c arg2 harg2 arg3 harg3 arg4 harg4 arg9 arg10 arg11 arg12 arg13 arg14 arg15 arg17 x0 x1 x2) = upC (CX x0 x1 x2 6 2) :=
  hit _ _ _ _ (c1 upC (c4 pv ld_v571 ld_v1689 ld_v1692 ld_v1694))

/-- A load of the running weighted values of key block 3 against query block 6. -/
theorem ld_v1802 : (sl.v1802 c arg2 harg2 arg3 harg3 arg4 harg4 arg9 arg10 arg11 arg12 arg13 arg14 arg15 arg17 x0 x1 x2) = upC (CX x0 x1 x2 6 3) :=
  hit _ _ _ _ (c1 upC (c4 pv ld_v827 ld_v1743 ld_v1746 ld_v1748))

/-- A load of the running weighted values of key block 4 against query block 6. -/
theorem ld_v1884 : (sl.v1884 c arg2 harg2 arg3 harg3 arg4 harg4 arg9 arg10 arg11 arg12 arg13 arg14 arg15 arg17 x0 x1 x2) = upC (CX x0 x1 x2 6 4) :=
  hit _ _ _ _ (c1 upC (c4 pv ld_v1795 ld_v1797 ld_v1800 ld_v1802))

/-- A load of the running weighted values of key block 5 against query block 6. -/
theorem ld_v1926 : (sl.v1926 c arg2 harg2 arg3 harg3 arg4 harg4 arg9 arg10 arg11 arg12 arg13 arg14 arg15 arg17 x0 x1 x2) = upC (CX x0 x1 x2 6 5) :=
  hit _ _ _ _ (c1 upC (c4 pv ld_v1501 ld_v1879 ld_v1882 ld_v1884))

/-- A load of query block 7. -/
theorem ld_v1830 : (sl.v1830 c arg2 harg2 arg11 x0) = queries (rows x0 7) :=
  hit _ _ _ _ (c1 queries (read_rows harg2 x0 7 (by decide) _))

/-- A load of the scores of key block 0 against query block 7. -/
theorem ld_v1900 : (sl.v1900 c arg2 harg2 arg3 harg3 arg9 arg11 arg12 x0 x1) = SS x0 x1 7 0 :=
  sk _ _ _ _ _ (by decide) (hit _ _ _ _ (c2 stS (ld_v164) (ld_v1830)))

/-- A load of the running maximum of key block 0 against query block 7. -/
theorem ld_v1977 : (sl.v1977 c arg2 harg2 arg3 harg3 arg9 arg11 arg12 arg15 x0 x1) = MX x0 x1 7 0 :=
  hit _ _ _ _ (c1 (stM0 plain) (ld_v1900))

/-- A load of key block 1. -/
theorem ld_v1892 : (sl.v1892 c arg3 harg3 arg9 x1) = keys (rows x1 1) :=
  sk _ _ _ _ _ (by decide) (sk _ _ _ _ _ (by decide) (sk _ _ _ _ _ (by decide) (sk _ _ _ _ _ (by decide) (sk _ _ _ _ _ (by decide) (sk _ _ _ _ _ (by decide) (hit _ _ _ _ (c1 keys (read_rows harg3 x1 1 (by decide) _))))))))

/-- A load of query block 7. -/
theorem ld_v1894 : (sl.v1894 c arg2 harg2 arg11 x0) = queries (rows x0 7) :=
  hit _ _ _ _ (c1 queries (read_rows harg2 x0 7 (by decide) _))

/-- A load of the scores of key block 1 against query block 7. -/
theorem ld_v1973 : (sl.v1973 c arg2 harg2 arg3 harg3 arg9 arg11 arg12 x0 x1) = SS x0 x1 7 1 :=
  sk _ _ _ _ _ (by decide) (hit _ _ _ _ (c2 stS (ld_v1892) (ld_v1894)))

/-- A load of the running maximum of key block 1 against query block 7. -/
theorem ld_v2024 : (sl.v2024 c arg2 harg2 arg3 harg3 arg9 arg11 arg12 arg15 x0 x1) = MX x0 x1 7 1 :=
  hit _ _ _ _ (c2 (stM plain) (ld_v1977) (ld_v1973))

/-- A load of key block 2. -/
theorem ld_v1965 : (sl.v1965 c arg3 harg3 arg9 x1) = keys (rows x1 2) :=
  sk _ _ _ _ _ (by decide) (sk _ _ _ _ _ (by decide) (sk _ _ _ _ _ (by decide) (sk _ _ _ _ _ (by decide) (sk _ _ _ _ _ (by decide) (hit _ _ _ _ (c1 keys (read_rows harg3 x1 2 (by decide) _)))))))

/-- A load of the scores of key block 2 against query block 7. -/
theorem ld_v2020 : (sl.v2020 c arg2 harg2 arg3 harg3 arg9 arg11 arg12 x0 x1) = SS x0 x1 7 2 :=
  sk _ _ _ _ _ (by decide) (hit _ _ _ _ (c2 stS (ld_v1965) (ld_v1894)))

/-- A load of the running maximum of key block 2 against query block 7. -/
theorem ld_v2078 : (sl.v2078 c arg2 harg2 arg3 harg3 arg9 arg11 arg12 arg15 x0 x1) = MX x0 x1 7 2 :=
  hit _ _ _ _ (c2 (stM plain) (ld_v2024) (ld_v2020))

/-- A load of key block 3. -/
theorem ld_v2012 : (sl.v2012 c arg3 harg3 arg9 x1) = keys (rows x1 3) :=
  sk _ _ _ _ _ (by decide) (sk _ _ _ _ _ (by decide) (sk _ _ _ _ _ (by decide) (sk _ _ _ _ _ (by decide) (hit _ _ _ _ (c1 keys (read_rows harg3 x1 3 (by decide) _))))))

/-- A load of the scores of key block 3 against query block 7. -/
theorem ld_v2074 : (sl.v2074 c arg2 harg2 arg3 harg3 arg9 arg11 arg12 x0 x1) = SS x0 x1 7 3 :=
  sk _ _ _ _ _ (by decide) (hit _ _ _ _ (c2 stS (ld_v2012) (ld_v1894)))

/-- A load of the running maximum of key block 3 against query block 7. -/
theorem ld_v2132 : (sl.v2132 c arg2 harg2 arg3 harg3 arg9 arg11 arg12 arg15 x0 x1) = MX x0 x1 7 3 :=
  hit _ _ _ _ (c2 (stM plain) (ld_v2078) (ld_v2074))

/-- A load of key block 4. -/
theorem ld_v2066 : (sl.v2066 c arg3 harg3 arg9 x1) = keys (rows x1 4) :=
  sk _ _ _ _ _ (by decide) (sk _ _ _ _ _ (by decide) (sk _ _ _ _ _ (by decide) (hit _ _ _ _ (c1 keys (read_rows harg3 x1 4 (by decide) _)))))

/-- A load of the scores of key block 4 against query block 7. -/
theorem ld_v2128 : (sl.v2128 c arg2 harg2 arg3 harg3 arg9 arg11 arg12 x0 x1) = SS x0 x1 7 4 :=
  sk _ _ _ _ _ (by decide) (hit _ _ _ _ (c2 stS (ld_v2066) (ld_v1894)))

/-- A load of the running maximum of key block 4 against query block 7. -/
theorem ld_v2186 : (sl.v2186 c arg2 harg2 arg3 harg3 arg9 arg11 arg12 arg15 x0 x1) = MX x0 x1 7 4 :=
  hit _ _ _ _ (c2 (stM plain) (ld_v2132) (ld_v2128))

/-- A load of key block 5. -/
theorem ld_v2120 : (sl.v2120 c arg3 harg3 arg9 x1) = keys (rows x1 5) :=
  sk _ _ _ _ _ (by decide) (sk _ _ _ _ _ (by decide) (hit _ _ _ _ (c1 keys (read_rows harg3 x1 5 (by decide) _))))

/-- A load of the scores of key block 5 against query block 7. -/
theorem ld_v2182 : (sl.v2182 c arg2 harg2 arg3 harg3 arg9 arg11 arg12 x0 x1) = SS x0 x1 7 5 :=
  sk _ _ _ _ _ (by decide) (hit _ _ _ _ (c2 stS (ld_v2120) (ld_v1894)))

/-- A load of the running maximum of key block 5 against query block 7. -/
theorem ld_v2240 : (sl.v2240 c arg2 harg2 arg3 harg3 arg9 arg11 arg12 arg15 x0 x1) = MX x0 x1 7 5 :=
  hit _ _ _ _ (c2 (stM plain) (ld_v2186) (ld_v2182))

/-- A load of key block 6. -/
theorem ld_v2174 : (sl.v2174 c arg3 harg3 arg9 x1) = keys (rows x1 6) :=
  sk _ _ _ _ _ (by decide) (hit _ _ _ _ (c1 keys (read_rows harg3 x1 6 (by decide) _)))

/-- A load of the scores of key block 6 against query block 7. -/
theorem ld_v2236 : (sl.v2236 c arg2 harg2 arg3 harg3 arg9 arg11 arg12 x0 x1) = SS x0 x1 7 6 :=
  sk _ _ _ _ _ (by decide) (hit _ _ _ _ (c2 stS (ld_v2174) (ld_v1894)))

/-- A load of the running maximum of key block 6 against query block 7. -/
theorem ld_v2296 : (sl.v2296 c arg2 harg2 arg3 harg3 arg9 arg11 arg12 arg15 x0 x1) = MX x0 x1 7 6 :=
  hit _ _ _ _ (c2 (stM plain) (ld_v2240) (ld_v2236))

/-- A load of key block 7. -/
theorem ld_v2228 : (sl.v2228 c arg3 harg3 arg9 x1) = keys (rows x1 7) :=
  hit _ _ _ _ (c1 keys (read_rows harg3 x1 7 (by decide) _))

/-- A load of the scores of key block 7 against query block 7. -/
theorem ld_v2282 : (sl.v2282 c arg2 harg2 arg3 harg3 arg9 arg11 arg12 x0 x1) = SS x0 x1 7 7 :=
  hit _ _ _ _ (c2 stS (ld_v2228) (ld_v1894))

/-- A load of the running normaliser of key block 0 against query block 7. -/
theorem ld_v1990 : (sl.v1990 c arg2 harg2 arg3 harg3 arg9 arg11 arg12 arg15 arg16 x0 x1) = LX x0 x1 7 0 :=
  hit _ _ _ _ (c1 (stL0 plain) (ld_v1900))

/-- A load of the running normaliser of key block 1 against query block 7. -/
theorem ld_v2037 : (sl.v2037 c arg2 harg2 arg3 harg3 arg9 arg11 arg12 arg15 arg16 x0 x1) = LX x0 x1 7 1 :=
  hit _ _ _ _ (c3 (stL plain) (ld_v1977) (ld_v1973) (ld_v1990))

/-- A load of the running normaliser of key block 2 against query block 7. -/
theorem ld_v2091 : (sl.v2091 c arg2 harg2 arg3 harg3 arg9 arg11 arg12 arg15 arg16 x0 x1) = LX x0 x1 7 2 :=
  hit _ _ _ _ (c3 (stL plain) (ld_v2024) (ld_v2020) (ld_v2037))

/-- A load of the running normaliser of key block 3 against query block 7. -/
theorem ld_v2145 : (sl.v2145 c arg2 harg2 arg3 harg3 arg9 arg11 arg12 arg15 arg16 x0 x1) = LX x0 x1 7 3 :=
  hit _ _ _ _ (c3 (stL plain) (ld_v2078) (ld_v2074) (ld_v2091))

/-- A load of the running normaliser of key block 4 against query block 7. -/
theorem ld_v2199 : (sl.v2199 c arg2 harg2 arg3 harg3 arg9 arg11 arg12 arg15 arg16 x0 x1) = LX x0 x1 7 4 :=
  hit _ _ _ _ (c3 (stL plain) (ld_v2132) (ld_v2128) (ld_v2145))

/-- A load of the running normaliser of key block 5 against query block 7. -/
theorem ld_v2253 : (sl.v2253 c arg2 harg2 arg3 harg3 arg9 arg11 arg12 arg15 arg16 x0 x1) = LX x0 x1 7 5 :=
  hit _ _ _ _ (c3 (stL plain) (ld_v2186) (ld_v2182) (ld_v2199))

/-- A load of the running normaliser of key block 6 against query block 7. -/
theorem ld_v2309 : (sl.v2309 c arg2 harg2 arg3 harg3 arg9 arg11 arg12 arg15 arg16 x0 x1) = LX x0 x1 7 6 :=
  hit _ _ _ _ (c3 (stL plain) (ld_v2240) (ld_v2236) (ld_v2253))

/-- A load of the running normaliser of key block 7 against query block 7. -/
theorem ld_v2350 : (sl.v2350 c arg2 harg2 arg3 harg3 arg9 arg11 arg12 arg15 arg16 x0 x1) = LX x0 x1 7 7 :=
  hit _ _ _ _ (c3 (stL msk) (ld_v2296) (ld_v2282) (ld_v2309))

/-- A load of value block 7. -/
theorem ld_v : (sl.v c arg4 harg4 arg10 x2) = vals (rows x2 7) :=
  hit _ _ _ _ (c1 vals (read_rows harg4 x2 7 (by decide) _))

/-- A load of the exponentials of key block 7 against query block 7. -/
theorem ld_v2340 : (sl.v2340 c arg2 harg2 arg3 harg3 arg9 arg11 arg12 arg13 arg15 x0 x1) = PX x0 x1 7 7 :=
  hit _ _ _ _ (c2 (stP msk) (ld_v2296) (ld_v2282))

/-- A load of the factor that rescales query block 7 after key block 6. -/
theorem ld_v2343 : (sl.v2343 c arg2 harg2 arg3 harg3 arg9 arg11 arg12 arg14 arg15 x0 x1) = AX x0 x1 7 6 :=
  hit _ _ _ _ (c2 (stA msk) (ld_v2296) (ld_v2282))

/-- A load of the exponentials of key block 6 against query block 7. -/
theorem ld_v2325 : (sl.v2325 c arg2 harg2 arg3 harg3 arg9 arg11 arg12 arg13 arg15 x0 x1) = PX x0 x1 7 6 :=
  sk _ _ _ _ _ (by decide) (hit _ _ _ _ (c2 (stP plain) (ld_v2240) (ld_v2236)))

/-- A load of the factor that rescales query block 7 after key block 5. -/
theorem ld_v2328 : (sl.v2328 c arg2 harg2 arg3 harg3 arg9 arg11 arg12 arg14 arg15 x0 x1) = AX x0 x1 7 5 :=
  sk _ _ _ _ _ (by decide) (hit _ _ _ _ (c2 (stA plain) (ld_v2240) (ld_v2236)))

/-- A load of value block 5. -/
theorem ld_v2267 : (sl.v2267 c arg4 harg4 arg10 x2) = vals (rows x2 5) :=
  sk _ _ _ _ _ (by decide) (sk _ _ _ _ _ (by decide) (hit _ _ _ _ (c1 vals (read_rows harg4 x2 5 (by decide) _))))

/-- A load of the exponentials of key block 5 against query block 7. -/
theorem ld_v2269 : (sl.v2269 c arg2 harg2 arg3 harg3 arg9 arg11 arg12 arg13 arg15 x0 x1) = PX x0 x1 7 5 :=
  sk _ _ _ _ _ (by decide) (hit _ _ _ _ (c2 (stP plain) (ld_v2186) (ld_v2182)))

/-- A load of the factor that rescales query block 7 after key block 4. -/
theorem ld_v2272 : (sl.v2272 c arg2 harg2 arg3 harg3 arg9 arg11 arg12 arg14 arg15 x0 x1) = AX x0 x1 7 4 :=
  sk _ _ _ _ _ (by decide) (hit _ _ _ _ (c2 (stA plain) (ld_v2186) (ld_v2182)))

/-- A load of the exponentials of key block 4 against query block 7. -/
theorem ld_v2215 : (sl.v2215 c arg2 harg2 arg3 harg3 arg9 arg11 arg12 arg13 arg15 x0 x1) = PX x0 x1 7 4 :=
  sk _ _ _ _ _ (by decide) (hit _ _ _ _ (c2 (stP plain) (ld_v2132) (ld_v2128)))

/-- A load of the factor that rescales query block 7 after key block 3. -/
theorem ld_v2218 : (sl.v2218 c arg2 harg2 arg3 harg3 arg9 arg11 arg12 arg14 arg15 x0 x1) = AX x0 x1 7 3 :=
  sk _ _ _ _ _ (by decide) (hit _ _ _ _ (c2 (stA plain) (ld_v2132) (ld_v2128)))

/-- A load of value block 3. -/
theorem ld_v2159 : (sl.v2159 c arg4 harg4 arg10 x2) = vals (rows x2 3) :=
  sk _ _ _ _ _ (by decide) (sk _ _ _ _ _ (by decide) (sk _ _ _ _ _ (by decide) (sk _ _ _ _ _ (by decide) (hit _ _ _ _ (c1 vals (read_rows harg4 x2 3 (by decide) _))))))

/-- A load of the exponentials of key block 3 against query block 7. -/
theorem ld_v2161 : (sl.v2161 c arg2 harg2 arg3 harg3 arg9 arg11 arg12 arg13 arg15 x0 x1) = PX x0 x1 7 3 :=
  sk _ _ _ _ _ (by decide) (hit _ _ _ _ (c2 (stP plain) (ld_v2078) (ld_v2074)))

/-- A load of the factor that rescales query block 7 after key block 2. -/
theorem ld_v2164 : (sl.v2164 c arg2 harg2 arg3 harg3 arg9 arg11 arg12 arg14 arg15 x0 x1) = AX x0 x1 7 2 :=
  sk _ _ _ _ _ (by decide) (hit _ _ _ _ (c2 (stA plain) (ld_v2078) (ld_v2074)))

/-- A load of the exponentials of key block 2 against query block 7. -/
theorem ld_v2107 : (sl.v2107 c arg2 harg2 arg3 harg3 arg9 arg11 arg12 arg13 arg15 x0 x1) = PX x0 x1 7 2 :=
  sk _ _ _ _ _ (by decide) (hit _ _ _ _ (c2 (stP plain) (ld_v2024) (ld_v2020)))

/-- A load of the factor that rescales query block 7 after key block 1. -/
theorem ld_v2110 : (sl.v2110 c arg2 harg2 arg3 harg3 arg9 arg11 arg12 arg14 arg15 x0 x1) = AX x0 x1 7 1 :=
  sk _ _ _ _ _ (by decide) (hit _ _ _ _ (c2 (stA plain) (ld_v2024) (ld_v2020)))

/-- A load of the exponentials of key block 1 against query block 7. -/
theorem ld_v2053 : (sl.v2053 c arg2 harg2 arg3 harg3 arg9 arg11 arg12 arg13 arg15 x0 x1) = PX x0 x1 7 1 :=
  sk _ _ _ _ _ (by decide) (hit _ _ _ _ (c2 (stP plain) (ld_v1977) (ld_v1973)))

/-- A load of the factor that rescales query block 7 after key block 0. -/
theorem ld_v2056 : (sl.v2056 c arg2 harg2 arg3 harg3 arg9 arg11 arg12 arg14 arg15 x0 x1) = AX x0 x1 7 0 :=
  sk _ _ _ _ _ (by decide) (hit _ _ _ _ (c2 (stA plain) (ld_v1977) (ld_v1973)))

/-- A load of the exponentials of key block 0 against query block 7. -/
theorem ld_v2006 : (sl.v2006 c arg2 harg2 arg3 harg3 arg9 arg11 arg12 arg13 arg15 x0 x1) = PX x0 x1 7 0 :=
  sk _ _ _ _ _ (by decide) (hit _ _ _ _ (c1 (stP0 plain) (ld_v1900)))

/-- A load of the running weighted values of key block 0 against query block 7. -/
theorem ld_v2058 : (sl.v2058 c arg2 harg2 arg3 harg3 arg4 harg4 arg9 arg10 arg11 arg12 arg13 arg14 arg15 arg17 x0 x1 x2) = upC (CX x0 x1 x2 7 0) :=
  hit _ _ _ _ (c1 upC (c2 pv0 ld_v454 ld_v2006))

/-- A load of the running weighted values of key block 1 against query block 7. -/
theorem ld_v2112 : (sl.v2112 c arg2 harg2 arg3 harg3 arg4 harg4 arg9 arg10 arg11 arg12 arg13 arg14 arg15 arg17 x0 x1 x2) = upC (CX x0 x1 x2 7 1) :=
  hit _ _ _ _ (c1 upC (c4 pv ld_v703 ld_v2053 ld_v2056 ld_v2058))

/-- A load of the running weighted values of key block 2 against query block 7. -/
theorem ld_v2166 : (sl.v2166 c arg2 harg2 arg3 harg3 arg4 harg4 arg9 arg10 arg11 arg12 arg13 arg14 arg15 arg17 x0 x1 x2) = upC (CX x0 x1 x2 7 2) :=
  hit _ _ _ _ (c1 upC (c4 pv ld_v1013 ld_v2107 ld_v2110 ld_v2112))

/-- A load of the running weighted values of key block 3 against query block 7. -/
theorem ld_v2220 : (sl.v2220 c arg2 harg2 arg3 harg3 arg4 harg4 arg9 arg10 arg11 arg12 arg13 arg14 arg15 arg17 x0 x1 x2) = upC (CX x0 x1 x2 7 3) :=
  hit _ _ _ _ (c1 upC (c4 pv ld_v2159 ld_v2161 ld_v2164 ld_v2166))

/-- A load of the running weighted values of key block 4 against query block 7. -/
theorem ld_v2274 : (sl.v2274 c arg2 harg2 arg3 harg3 arg4 harg4 arg9 arg10 arg11 arg12 arg13 arg14 arg15 arg17 x0 x1 x2) = upC (CX x0 x1 x2 7 4) :=
  hit _ _ _ _ (c1 upC (c4 pv ld_v1795 ld_v2215 ld_v2218 ld_v2220))

/-- A load of the running weighted values of key block 5 against query block 7. -/
theorem ld_v2330 : (sl.v2330 c arg2 harg2 arg3 harg3 arg4 harg4 arg9 arg10 arg11 arg12 arg13 arg14 arg15 arg17 x0 x1 x2) = upC (CX x0 x1 x2 7 5) :=
  hit _ _ _ _ (c1 upC (c4 pv ld_v2267 ld_v2269 ld_v2272 ld_v2274))

/-- A load of the running weighted values of key block 6 against query block 7. -/
theorem ld_v2345 : (sl.v2345 c arg2 harg2 arg3 harg3 arg4 harg4 arg9 arg10 arg11 arg12 arg13 arg14 arg15 arg17 x0 x1 x2) = upC (CX x0 x1 x2 7 6) :=
  hit _ _ _ _ (c1 upC (c4 pv ld_v1919 ld_v2325 ld_v2328 ld_v2330))

/-- Block 0 of the output. -/
theorem out_0 : k0_pay45 (sl.v242 c arg2 harg2 arg3 harg3 arg4 harg4 arg6 harg6 arg9 arg10 arg11 arg12 arg13 arg16 x0 x1 x2 x4) (sl.v244 c arg5 harg5 x3) (sl.r_2 c arg7 harg7 x5) (sl.v248 c arg2 harg2 arg3 harg3 arg4 harg4 arg6 harg6 arg9 arg10 arg11 arg12 arg13 arg16 x0 x1 x2 x4) (sl.v249 ) = OUT x0 x1 x2 x3 x4 x5 0 :=
  c5 fin (c1 lam (read_lq harg6 x4 _)) ld_v233 (c2 pv0 ld_v228 ld_v230) (read_rows harg5 x3 0 (by decide) _) (read_nw harg7 x5 _)

/-- Block 1 of the output. -/
theorem out_1 : (sl.v414 c arg2 harg2 arg3 harg3 arg4 harg4 arg5 harg5 arg6 harg6 arg7 harg7 arg9 arg10 arg11 arg12 arg13 arg14 arg15 arg16 arg17 x0 x1 x2 x3 x4 x5) = OUT x0 x1 x2 x3 x4 x5 1 :=
  c5 fin (c1 lam (read_lq harg6 x4 _)) ld_v381 (c4 pv ld_v369 ld_v371 ld_v374 ld_v376) (read_rows harg5 x3 1 (by decide) _) (read_nw harg7 x5 _)

/-- Block 2 of the output. -/
theorem out_2 : (sl.v616 c arg2 harg2 arg3 harg3 arg4 harg4 arg5 harg5 arg6 harg6 arg7 harg7 arg9 arg10 arg11 arg12 arg13 arg14 arg15 arg16 arg17 x0 x1 x2 x3 x4 x5) = OUT x0 x1 x2 x3 x4 x5 2 :=
  c5 fin (c1 lam (read_lq harg6 x4 _)) ld_v583 (c4 pv ld_v571 ld_v573 ld_v576 ld_v578) (read_rows harg5 x3 2 (by decide) _) (read_nw harg7 x5 _)

/-- Block 3 of the output. -/
theorem out_3 : (sl.v872 c arg2 harg2 arg3 harg3 arg4 harg4 arg5 harg5 arg6 harg6 arg7 harg7 arg9 arg10 arg11 arg12 arg13 arg14 arg15 arg16 arg17 x0 x1 x2 x3 x4 x5) = OUT x0 x1 x2 x3 x4 x5 3 :=
  c5 fin (c1 lam (read_lq harg6 x4 _)) ld_v839 (c4 pv ld_v827 ld_v829 ld_v832 ld_v834) (read_rows harg5 x3 3 (by decide) _) (read_nw harg7 x5 _)

/-- Block 4 of the output. -/
theorem out_4 : (sl.v1182 c arg2 harg2 arg3 harg3 arg4 harg4 arg5 harg5 arg6 harg6 arg7 harg7 arg9 arg10 arg11 arg12 arg13 arg14 arg15 arg16 arg17 x0 x1 x2 x3 x4 x5) = OUT x0 x1 x2 x3 x4 x5 4 :=
  c5 fin (c1 lam (read_lq harg6 x4 _)) ld_v1149 (c4 pv ld_v1137 ld_v1139 ld_v1142 ld_v1144) (read_rows harg5 x3 4 (by decide) _) (read_nw harg7 x5 _)

/-- Block 5 of the output. -/
theorem out_5 : (sl.v1546 c arg2 harg2 arg3 harg3 arg4 harg4 arg5 harg5 arg6 harg6 arg7 harg7 arg9 arg10 arg11 arg12 arg13 arg14 arg15 arg16 arg17 x0 x1 x2 x3 x4 x5) = OUT x0 x1 x2 x3 x4 x5 5 :=
  c5 fin (c1 lam (read_lq harg6 x4 _)) ld_v1513 (c4 pv ld_v1501 ld_v1503 ld_v1506 ld_v1508) (read_rows harg5 x3 5 (by decide) _) (read_nw harg7 x5 _)

/-- The weighted values of block 6, over the normaliser and one component less the other. -/
theorem att_6 : (sl.r_11 c arg2 harg2 arg3 harg3 arg4 harg4 arg6 harg6 arg9 arg10 arg11 arg12 arg13 arg14 arg15 arg16 arg17 x0 x1 x2 x4) = att (lam x4) (quo (LX x0 x1 6 6) (CX x0 x1 x2 6 6)) :=
  c2 att (c1 lam (read_lq harg6 x4 _)) (c2 quo ld_v1931 (c4 pv ld_v1919 ld_v1921 ld_v1924 ld_v1926))

/-- Block 6 of the output. -/
theorem out_6 : k0_pay379 (sl.r_11 c arg2 harg2 arg3 harg3 arg4 harg4 arg6 harg6 arg9 arg10 arg11 arg12 arg13 arg14 arg15 arg16 arg17 x0 x1 x2 x4) (sl.r_12 c arg5 harg5 x3) (View.readAt (Elt F) arg7.view (Rect.unit ![0, 0] S1x128.size inb_S1x128_S1x128_0_0).toLoadRect (harg7.unread x5)) = OUT x0 x1 x2 x3 x4 x5 6 :=
  c3 (fun t z nw => gate (norm t nw) z) att_6 (c1 flat (read_rows harg5 x3 6 (by decide) _)) (read_nw harg7 x5 _)

/-- The last block's values after its norm, from what it loads. -/
theorem norm_7 (la : FVec F S1x1 .f32) (vt : FVec F S1x128x512 .bf16) (p : FVec F S1x512x1024 .bf16) (a : FVec F S1x1x1024 .f32) (acc : FVec F S1x128x1024 .f32) (l : FVec F S1x1x1024 .f32) (nw : Vec F S1x128 .f32) :
    k0_pay468 la vt p a acc l nw = norm (att la (quo l (pv vt p a acc))) nw := rfl

/-- Block 7 of the output. -/
theorem out_7 : k0_pay1 (sl.r_37 c arg5 harg5 x3) (sl.r_38 c arg2 harg2 arg3 harg3 arg4 harg4 arg6 harg6 arg7 harg7 arg9 arg10 arg11 arg12 arg13 arg14 arg15 arg16 arg17 x0 x1 x2 x4 x5) = OUT x0 x1 x2 x3 x4 x5 7 :=
  c2 gate ((norm_7 _ _ _ _ _ _ _).trans (c2 norm (c2 att (c1 lam (read_lq harg6 x4 _)) (c2 quo ld_v2350 (c4 pv ld_v ld_v2340 ld_v2343 ld_v2345))) (read_nw harg7 x5 _))) (c1 flat (read_rows harg5 x3 7 (by decide) _))

end Cert.KernelIdeal.Loads

end
-- ==== Proof.Block.lean ====
/- A grid point's block of the output: eight blocks of 512 rows, each the recurrence's. -/
module

public import proofs.«01_k».proof.Proof.Loads

@[expose] public section

set_option maxRecDepth 16384

noncomputable section

namespace Cert.KernelIdeal.Loads

open Cert.KernelIdeal Cert.KernelIdeal.Gen Cert.KernelIdeal.Steps
open Idealize.ShloMosaic Idealize.ShloMosaic.TcCoe

variable {F : FTy → Type} [FloatOps F] [Named F]

/-- The output's block, all of its rows: row `r` is row `r % 512` of block `r / 512`. -/
def whole (x0 x1 x2 x3 : Vec F S1x4096x128 .f32) (x4 : Vec F S4x64 .f32) (x5 : Vec F S1x128 .f32) : Vec F S1x4096x128 .bf16 :=
  fun y => OUT x0 x1 x2 x3 x4 x5 ((y 1 : ℕ) / 512) (ix3 0 (⟨(y 1 : ℕ) % 512, Nat.mod_lt _ (by norm_num)⟩ : Fin 512) (y 2))

/-- What is stored at rows `512 k` on is the whole's part there. -/
theorem piece (x0 x1 x2 x3 : Vec F S1x4096x128 .f32) (x4 : Vec F S4x64 .f32) (x5 : Vec F S1x128 .f32) (k : ℕ) (hk : k < 8)
    (inb : ∀ a, (![0, 512 * k, 0] : Fin 3 → ℕ) a + S1x512x128.size a ≤ S1x4096x128.size a)
    {w : S1x512x128.Idx → Elt F .bf16} (hw : w = OUT x0 x1 x2 x3 x4 x5 k) (x : S1x512x128.Idx) :
    w x = whole x0 x1 x2 x3 x4 x5 ((Rect.unit (s := S1x4096x128) ![0, 512 * k, 0] S1x512x128.size inb).emb x) := by
  have h1 : (x 1 : ℕ) < 512 := (x 1).isLt
  have h0 : (x 0 : ℕ) < 1 := (x 0).isLt
  have e1 : (((Rect.unit (s := S1x4096x128) ![0, 512 * k, 0] S1x512x128.size inb).emb x) 1 : ℕ) = 512 * k + 1 * (x 1 : ℕ) := rfl
  have e2 : (((Rect.unit (s := S1x4096x128) ![0, 512 * k, 0] S1x512x128.size inb).emb x) 2 : ℕ) = 0 + 1 * (x 2 : ℕ) := rfl
  have hd : (((Rect.unit (s := S1x4096x128) ![0, 512 * k, 0] S1x512x128.size inb).emb x) 1 : ℕ) / 512 = k := by rw [e1]; omega
  rw [hw]
  unfold whole
  rw [hd]
  refine congrArg _ (funext fun a => Fin.ext ?_)
  match a with
  | ⟨0, _⟩ => show (x 0 : ℕ) = 0; omega
  | ⟨1, _⟩ => show (x 1 : ℕ) = (512 * k + 1 * (x 1 : ℕ)) % 512; omega
  | ⟨2, _⟩ => show (x 2 : ℕ) = 0 + 1 * (x 2 : ℕ); omega

/-- A grid point leaves the whole in the output's buffer. -/
theorem block (c : Dev nD) (i : grid0.Coords)
    (arg2 : Memref sig .tc .vmem S1x4096x128 .f32) (harg2 : arg2.IsWhole) (arg3 : Memref sig .tc .vmem S1x4096x128 .f32) (harg3 : arg3.IsWhole) (arg4 : Memref sig .tc .vmem S1x4096x128 .f32) (harg4 : arg4.IsWhole) (arg5 : Memref sig .tc .vmem S1x4096x128 .f32) (harg5 : arg5.IsWhole) (arg6 : Memref sig .tc .vmem S4x64 .f32) (harg6 : arg6.IsWhole) (arg7 : Memref sig .tc .vmem S1x128 .f32) (harg7 : arg7.IsWhole) (arg8 : Memref sig .tc .vmem S1x4096x128 .bf16) (harg8 : arg8.IsWhole) (arg9 : Memref sig .tc .vmem S8x512x128 .bf16) (harg9 : arg9.IsWhole) (arg10 : Memref sig .tc .vmem S8x128x512 .bf16) (harg10 : arg10.IsWhole) (arg11 : Memref sig .tc .vmem S2x1024x128 .bf16) (harg11 : arg11.IsWhole) (arg12 : Memref sig .tc .vmem S2x512x1024 .f32) (harg12 : arg12.IsWhole) (arg13 : Memref sig .tc .vmem S2x512x1024 .bf16) (harg13 : arg13.IsWhole) (arg14 : Memref sig .tc .vmem S2x1x1024 .f32) (harg14 : arg14.IsWhole) (arg15 : Memref sig .tc .vmem S2x1x1024 .f32) (harg15 : arg15.IsWhole) (arg16 : Memref sig .tc .vmem S2x1x1024 .f32) (harg16 : arg16.IsWhole) (arg17 : Memref sig .tc .vmem S2x128x1024 .f32) (harg17 : arg17.IsWhole)
    (x0 x1 x2 x3 : Vec F S1x4096x128 .f32) (x4 : Vec F S4x64 .f32) (x5 : Vec F S1x128 .f32) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5
      = whole x0 x1 x2 x3 x4 x5 := by
  unfold out0_A_6
  rw [View.read_writes_junk_eq_canon]
  funext y
  refine View.canon_apply_of_pieces (whole x0 x1 x2 x3 x4 x5) _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 y)
  exact List.forall_mem_cons.2 ⟨piece x0 x1 x2 x3 x4 x5 7 (by decide) (by decide) out_7, List.forall_mem_cons.2 ⟨piece x0 x1 x2 x3 x4 x5 6 (by decide) (by decide) out_6, List.forall_mem_cons.2 ⟨piece x0 x1 x2 x3 x4 x5 5 (by decide) (by decide) out_5, List.forall_mem_cons.2 ⟨piece x0 x1 x2 x3 x4 x5 4 (by decide) (by decide) out_4, List.forall_mem_cons.2 ⟨piece x0 x1 x2 x3 x4 x5 3 (by decide) (by decide) out_3, List.forall_mem_cons.2 ⟨piece x0 x1 x2 x3 x4 x5 2 (by decide) (by decide) out_2, List.forall_mem_cons.2 ⟨piece x0 x1 x2 x3 x4 x5 1 (by decide) (by decide) out_1, List.forall_mem_cons.2 ⟨piece x0 x1 x2 x3 x4 x5 0 (by decide) (by decide) out_0, fun _ h => absurd h List.not_mem_nil⟩⟩⟩⟩⟩⟩⟩⟩

end Cert.KernelIdeal.Loads

end
-- ==== Proof.Softmax.lean ====
/- The softmax, block by block: the identities on the extended reals that take the running maximum, the running
   normaliser and the running weighted sum of a row of scores to the softmax of the whole row. -/
module

public import Idealize.ShloMosaic.Lib.Pointwise

@[expose] public section

noncomputable section

namespace Cert.Softmax

open Idealize.ShloMosaic

/-- The weight of a score in base two: two to its power, zero for the masked score. -/
def wt (s : EReal) : ℝ := (Ideal.exp2 s).toReal

/-- A masked score has no weight. -/
theorem wt_bot : wt ⊥ = 0 := by simp [wt]

/-- A real score's weight. -/
theorem wt_coe (x : ℝ) : wt (x : EReal) = (2 : ℝ) ^ x := by simp [wt]

/-- No weight is negative. -/
theorem wt_nonneg (s : EReal) : 0 ≤ wt s := by
  induction s with
  | bot => simp [wt]
  | top => simp [wt]
  | coe x => rw [wt_coe]; positivity

/-- A score less a real shift has the score's weight times that of the shift, negated. -/
theorem exp2_sub (s : EReal) (hs : s ≠ ⊤) (μ : ℝ) :
    Ideal.exp2 (s - (μ : EReal)) = ((wt s * (2 : ℝ) ^ (-μ) : ℝ) : EReal) := by
  induction s with
  | bot => rw [sub_eq_add_neg, EReal.bot_add, Ideal.exp2_bot, wt_bot, zero_mul, EReal.coe_zero]
  | top => exact absurd rfl hs
  | coe x =>
    rw [← EReal.coe_sub, Ideal.exp2_coe, wt_coe, ← Real.rpow_add two_pos, ← sub_eq_add_neg]; rfl

/-- The maximum of a row of scores: none is plus infinity, one is not minus infinity, so it is real. -/
theorem fold_max_real {n : ℕ} (s : Fin n → EReal) (hs : ∀ k, s k ≠ ⊤) (h0 : ∃ k, s k ≠ ⊥) :
    ∃ μ : ℝ, (Finset.univ : Finset (Fin n)).fold max ⊥ s = (μ : EReal) := by
  have ht : (Finset.univ : Finset (Fin n)).fold max ⊥ s ≠ ⊤ := by
    refine ne_of_lt (Finset.fold_max_lt _ |>.2 ⟨bot_lt_top, fun k _ => lt_top_iff_ne_top.2 (hs k)⟩)
  have hb : (Finset.univ : Finset (Fin n)).fold max ⊥ s ≠ ⊥ := by
    obtain ⟨k, hk⟩ := h0
    exact ne_of_gt (Finset.lt_fold_max _ |>.2 (Or.inr ⟨k, Finset.mem_univ k, bot_lt_iff_ne_bot.2 hk⟩))
  exact ⟨_, (EReal.coe_toReal ht hb).symm⟩

/-- A maximum of scores none of which is plus infinity is not plus infinity. -/
theorem fold_max_ne_top {n : ℕ} (s : Fin n → EReal) (hs : ∀ k, s k ≠ ⊤) :
    (Finset.univ : Finset (Fin n)).fold max ⊥ s ≠ ⊤ :=
  ne_of_lt (Finset.fold_max_lt _ |>.2 ⟨bot_lt_top, fun k _ => lt_top_iff_ne_top.2 (hs k)⟩)

/-- A finite sum of reals is the same sum over the extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- One block's normaliser over a real maximum. -/
theorem sum_exp2 {n : ℕ} (s : Fin n → EReal) (hs : ∀ k, s k ≠ ⊤) (μ : ℝ) :
    ∑ k, Ideal.exp2 (s k - (μ : EReal)) = (((∑ k, wt (s k)) * (2 : ℝ) ^ (-μ) : ℝ) : EReal) := by
  rw [Finset.sum_mul, coe_sum]
  exact Finset.sum_congr rfl fun k _ => exp2_sub _ (hs k) μ

/-- One block's weighted sum over a real maximum. -/
theorem sum_mul_exp2 {n : ℕ} (s : Fin n → EReal) (v : Fin n → ℝ) (hs : ∀ k, s k ≠ ⊤) (μ : ℝ) :
    ∑ k, (v k : EReal) * Ideal.exp2 (s k - (μ : EReal))
      = (((∑ k, v k * wt (s k)) * (2 : ℝ) ^ (-μ) : ℝ) : EReal) := by
  rw [Finset.sum_mul, coe_sum]
  refine Finset.sum_congr rfl fun k _ => ?_
  rw [exp2_sub _ (hs k) μ, ← EReal.coe_mul, mul_assoc]

section
variable {n : ℕ} (s : ℕ → Fin n → EReal) (v : ℕ → Fin n → ℝ) (M L A : ℕ → EReal)

/-- THE ONLINE SOFTMAX. A running maximum `M`, a running normaliser `L` and a running weighted sum `A`, each rescaled
    by the change of the maximum when a block of keys is taken up, are after `j` blocks the maximum, the normaliser and the weighted
    sum of all the keys so far: `L` and `A` are the sums of the weights, and of the weighted values, over one common factor. -/
theorem online (hs : ∀ j k, s j k ≠ ⊤) (h0 : ∃ k, s 0 k ≠ ⊥)
    (M0 : M 0 = (Finset.univ : Finset (Fin n)).fold max ⊥ (s 0))
    (MS : ∀ j, M (j + 1) = max (M j) ((Finset.univ : Finset (Fin n)).fold max ⊥ (s (j + 1))))
    (L0 : L 0 = ∑ k, Ideal.exp2 (s 0 k - M 0))
    (LS : ∀ j, L (j + 1) = Ideal.exp2 (M j - M (j + 1)) * L j + ∑ k, Ideal.exp2 (s (j + 1) k - M (j + 1)))
    (A0 : A 0 = ∑ k, (v 0 k : EReal) * Ideal.exp2 (s 0 k - M 0))
    (AS : ∀ j, A (j + 1) = Ideal.exp2 (M j - M (j + 1)) * A j
        + ∑ k, (v (j + 1) k : EReal) * Ideal.exp2 (s (j + 1) k - M (j + 1))) (j : ℕ) :
    ∃ μ : ℝ, M j = (μ : EReal)
      ∧ L j = (((∑ b ∈ Finset.range (j + 1), ∑ k, wt (s b k)) * (2 : ℝ) ^ (-μ) : ℝ) : EReal)
      ∧ A j = (((∑ b ∈ Finset.range (j + 1), ∑ k, v b k * wt (s b k)) * (2 : ℝ) ^ (-μ) : ℝ) : EReal) := by
  induction j with
  | zero =>
    obtain ⟨μ, hμ⟩ := fold_max_real (s 0) (hs 0) h0
    have hM : M 0 = (μ : EReal) := M0.trans hμ
    refine ⟨μ, hM, ?_, ?_⟩
    · rw [L0, hM, sum_exp2 _ (hs 0), zero_add, Finset.sum_range_one]
    · rw [A0, hM, sum_mul_exp2 _ _ (hs 0), zero_add, Finset.sum_range_one]
  | succ j ih =>
    obtain ⟨μ, hM, hL, hA⟩ := ih
    have hr : ∃ ν : ℝ, M (j + 1) = (ν : EReal) := by
      have ht : M (j + 1) ≠ ⊤ := by
        rw [MS, hM]
        exact ne_of_lt (max_lt (EReal.coe_lt_top μ) (lt_top_iff_ne_top.2 (fold_max_ne_top _ (hs _))))
      have hb : M (j + 1) ≠ ⊥ := by
        rw [MS, hM]
        exact ne_of_gt (lt_of_lt_of_le (EReal.bot_lt_coe μ) (le_max_left _ _))
      exact ⟨_, (EReal.coe_toReal ht hb).symm⟩
    obtain ⟨ν, hν⟩ := hr
    have hα : Ideal.exp2 (M j - M (j + 1)) = (((2 : ℝ) ^ μ * (2 : ℝ) ^ (-ν) : ℝ) : EReal) := by
      rw [hν, hM, exp2_sub _ (EReal.coe_ne_top μ), wt_coe]
    have hμ : ∀ x : ℝ, (2 : ℝ) ^ μ * (2 : ℝ) ^ (-ν) * (x * (2 : ℝ) ^ (-μ)) = x * (2 : ℝ) ^ (-ν) := by
      intro x
      have h1 : (2 : ℝ) ^ μ * (2 : ℝ) ^ (-μ) = 1 := by rw [← Real.rpow_add two_pos, add_neg_cancel, Real.rpow_zero]
      calc (2 : ℝ) ^ μ * (2 : ℝ) ^ (-ν) * (x * (2 : ℝ) ^ (-μ)) = ((2 : ℝ) ^ μ * (2 : ℝ) ^ (-μ)) * (x * (2 : ℝ) ^ (-ν)) := by ring
        _ = x * (2 : ℝ) ^ (-ν) := by rw [h1, one_mul]
    refine ⟨ν, hν, ?_, ?_⟩
    · rw [LS, hα, hL, ← EReal.coe_mul, hμ, hν, sum_exp2 _ (hs _), ← EReal.coe_add, ← add_mul,
        Finset.sum_range_succ _ (j + 1)]
    · rw [AS, hα, hA, ← EReal.coe_mul, hμ, hν, sum_mul_exp2 _ _ (hs _), ← EReal.coe_add, ← add_mul,
        Finset.sum_range_succ _ (j + 1)]

end

/-- The quotient of two reals, the divisor not zero. -/
theorem div_coe (x y : ℝ) (hy : y ≠ 0) : Ideal.div (x : EReal) (y : EReal) = ((x / y : ℝ) : EReal) := by
  rw [Ideal.div, if_neg (by exact_mod_cast hy), ← EReal.coe_inv, ← EReal.coe_mul, div_eq_mul_inv]

/-- The weighted sum over the normaliser does not depend on the common factor. -/
theorem div_scaled (x y c : ℝ) (hy : y ≠ 0) (hc : c ≠ 0) :
    Ideal.div ((x * c : ℝ) : EReal) ((y * c : ℝ) : EReal) = ((x / y : ℝ) : EReal) := by
  rw [div_coe _ _ (mul_ne_zero hy hc), mul_div_mul_right _ _ hc]

/-- The whole row's softmax in base e, written with the weights in base two of the scores divided by log 2. -/
theorem exp_eq_wt (x : ℝ) : Real.exp x = (2 : ℝ) ^ (x / Real.log 2) := by
  rw [Real.rpow_def_of_pos two_pos, mul_div_cancel₀ _ (Real.log_pos one_lt_two).ne']

/-- A row's probability at a key: its exponential less the row's maximum, over the sum of all of them, is the key's weight over the sum of
    the weights. -/
theorem softmax_row {n : ℕ} (t : Fin n → EReal) (w : Fin n → ℝ) (ht : ∀ k, t k ≠ ⊤) (h0 : ∃ k, t k ≠ ⊥)
    (hw : ∀ k, Ideal.exp (t k) = (w k : EReal)) (k : Fin n) :
    Ideal.div (Ideal.exp (t k - (Finset.univ : Finset (Fin n)).fold max ⊥ t))
        (∑ l, Ideal.exp (t l - (Finset.univ : Finset (Fin n)).fold max ⊥ t))
      = ((w k / ∑ l, w l : ℝ) : EReal) := by
  obtain ⟨μ, hμ⟩ := fold_max_real t ht h0
  have hsub : ∀ l, Ideal.exp (t l - (μ : EReal)) = ((w l * Real.exp (-μ) : ℝ) : EReal) := by
    intro l
    have h := hw l
    have h2 := ht l
    generalize t l = x at h h2
    induction x with
    | bot =>
      rw [Ideal.exp_bot] at h
      have : w l = 0 := by exact_mod_cast h.symm
      rw [sub_eq_add_neg, EReal.bot_add, Ideal.exp_bot, this, zero_mul, EReal.coe_zero]
    | top => exact absurd rfl h2
    | coe x =>
      rw [Ideal.exp_coe] at h
      have : w l = Real.exp x := by exact_mod_cast h.symm
      rw [← EReal.coe_sub, Ideal.exp_coe, this, ← Real.exp_add, sub_eq_add_neg]
  have hpos : 0 < ∑ l, w l := by
    obtain ⟨k0, hk0⟩ := h0
    have hnn : ∀ l, 0 ≤ w l := by
      intro l
      have h := hw l
      have h2 := ht l
      generalize t l = x at h h2
      induction x with
      | bot => rw [Ideal.exp_bot] at h; exact le_of_eq (by exact_mod_cast h)
      | top => exact absurd rfl h2
      | coe x =>
        rw [Ideal.exp_coe] at h
        have : w l = Real.exp x := by exact_mod_cast h.symm
        rw [this]; exact (Real.exp_pos x).le
    refine Finset.sum_pos' (fun l _ => hnn l) ⟨k0, Finset.mem_univ _, ?_⟩
    have h := hw k0
    have h2 := ht k0
    generalize t k0 = x at h h2 hk0
    induction x with
    | bot => exact absurd rfl hk0
    | top => exact absurd rfl h2
    | coe x =>
      rw [Ideal.exp_coe] at h
      have : w k0 = Real.exp x := by exact_mod_cast h.symm
      rw [this]; exact Real.exp_pos x
  rw [hμ, hsub, Finset.sum_congr rfl fun l _ => hsub l, ← coe_sum, ← Finset.sum_mul,
    div_scaled _ _ _ hpos.ne' (Real.exp_pos _).ne']

end Cert.Softmax

end
-- ==== Proof.Cols.lean ====
/- The recurrence's steps read at one column: one query row and one component of a head. -/
module

public import proofs.«01_k».proof.Proof.Steps
public import proofs.«01_k».proof.Proof.Softmax

@[expose] public section

set_option maxRecDepth 16384

noncomputable section

namespace Cert.KernelIdeal.Cols

open Cert.KernelIdeal Cert.KernelIdeal.Gen Cert.KernelIdeal.Steps
open Idealize.ShloMosaic Idealize.ShloMosaic.TcCoe

/-! ## The steps at an index -/

/-- A key is stored as loaded. -/
theorem keys_at (x : Vec Ideal S1x512x128 .f32) (r : Fin 512) (d : Fin 128) : keys x (ix3 0 r d) = x (ix3 0 r d) := by
  pointwise [keys]

/-- A value is stored transposed. -/
theorem vals_at (x : Vec Ideal S1x512x128 .f32) (r : Fin 512) (d : Fin 128) : vals x (ix3 0 d r) = x (ix3 0 r d) := by
  pointwise [vals]

/-- The column of row `r` of the query block in component `m`. -/
def col (m : Fin 2) (r : Fin 512) : Fin 1024 := ⟨512 * m + r, by omega⟩

/-- The scale's value. -/
theorem scale : (Named.named κ "scale_log2e" 0x3E38AA3B#32 : Ideal .f32) = (((8 * (Real.log 2))⁻¹ : ℝ) : EReal) :=
  IdealRules.named_const.ideal_named_scalar _ _ _ _ rfl

/-- The comparison that keeps the first component's lanes. -/
theorem slt_lane (d : Fin 128) : IntOp.cmpi .slt (BitVec.ofNat 32 (d : ℕ)) 64#32 = if (d : ℕ) < 64 then 1#1 else 0#1 := by
  revert d; decide
/-- The comparison that keeps the second component's lanes. -/
theorem sge_lane (d : Fin 128) : IntOp.cmpi .sge (BitVec.ofNat 32 (d : ℕ)) 64#32 = if (d : ℕ) < 64 then 0#1 else 1#1 := by
  revert d; decide

/-- A query column of the first component: the scaled query on its first 64 lanes. -/
theorem queries_at0 (x : Vec Ideal S1x512x128 .f32) (r : Fin 512) (d : Fin 128) :
    queries x (ix3 0 (col 0 r) d) = if (d : ℕ) < 64 then x (ix3 0 r d) * (((8 * (Real.log 2))⁻¹ : ℝ) : EReal) else 0 := by
  pointwise [queries, lane, scaled, col]
  rw [slt_lane, scale]
  split <;> simp [Scalar.select]

/-- A query column of the second component: the scaled query on its last 64 lanes. -/
theorem queries_at1 (x : Vec Ideal S1x512x128 .f32) (r : Fin 512) (d : Fin 128) :
    queries x (ix3 0 (col 1 r) d) = if (d : ℕ) < 64 then 0 else x (ix3 0 r d) * (((8 * (Real.log 2))⁻¹ : ℝ) : EReal) := by
  pointwise [queries, lane, scaled, col]
  rw [sge_lane, scale]
  split <;> simp [Scalar.select]

/-- A score is a product over the lanes. -/
theorem stS_at (kb : FVec Ideal S1x512x128 .bf16) (qq : FVec Ideal S1x1024x128 .bf16) (k : Fin 512) (c : Fin 1024) :
    stS kb qq (ix3 0 k c) = ∑ d : Fin 128, kb (ix3 0 k d) * qq (ix3 0 c d) := by
  pointwise [stS]

/-- Off the diagonal a score is left alone. -/
theorem plain_at (s : FVec Ideal S1x512x1024 .f32) (k : Fin 512) (c : Fin 1024) : plain s (ix2 k c) = s (ix3 0 k c) := by
  pointwise [plain]

/-- The comparison of the mask. -/
theorem mask_word (k : Fin 512) (m : Fin 2) (r : Fin 512) :
    IntOp.cmpi .sge (Scalar.select (IntOp.cmpi .sge (BitVec.ofNat 32 (512 * (m : ℕ) + r)) 512#32)
          (IntOp.subi (BitVec.ofNat 32 (512 * (m : ℕ) + r)) 512#32) (BitVec.ofNat 32 (512 * (m : ℕ) + r))) (BitVec.ofNat 32 (k : ℕ))
      = if (k : ℕ) ≤ r then 1#1 else 0#1 := by
  have hr := r.isLt
  have hk := k.isLt
  have h0 : IntOp.cmpi .sge (BitVec.ofNat 32 (r : ℕ)) 512#32 = 0#1 := by word_cmp
  have h1 : IntOp.cmpi .sge (BitVec.ofNat 32 (512 + (r : ℕ))) 512#32 = 1#1 := by word_cmp
  have h2 : IntOp.subi (BitVec.ofNat 32 (512 + (r : ℕ))) 512#32 = BitVec.ofNat 32 (r : ℕ) := by
    apply BitVec.eq_of_toNat_eq; simp [IntOp.subi]; omega
  have h3 : IntOp.cmpi .sge (BitVec.ofNat 32 (r : ℕ)) (BitVec.ofNat 32 (k : ℕ)) = if (k : ℕ) ≤ r then 1#1 else 0#1 := by
    split <;> word_cmp
  match m with
  | 0 => simp [h0, h3, Scalar.select]
  | 1 => simp [h1, h2, h3, Scalar.select]

/-- On the diagonal a key after the query scores minus infinity. -/
theorem msk_at (s : FVec Ideal S1x512x1024 .f32) (k : Fin 512) (m : Fin 2) (r : Fin 512) :
    msk s (ix2 k (col m r)) = if (k : ℕ) ≤ r then s (ix3 0 k (col m r)) else ⊥ := by
  pointwise [msk, colRow, col]
  rw [mask_word]
  split <;> simp [Scalar.select, Ideal.ofBits, Ideal.ieee]

/-- A column's maximum. -/
theorem rM_at (s : FVec Ideal S512x1024 .f32) (c : Fin 1024) :
    rM s (ix2 0 c) = (Finset.univ : Finset (Fin 512)).fold max ⊥ fun k => s (ix2 k c) := by
  pointwise [rM]
  rw [show (Ideal.ofBits .f32 0xFF800000#32 : EReal) = ⊥ by simp [Ideal.ofBits, Ideal.ieee]]

/-- A column's sum. -/
theorem rL_at (p : FVec Ideal S512x1024 .f32) (c : Fin 1024) : rL p (ix2 0 c) = ∑ k : Fin 512, p (ix2 k c) := by
  pointwise [rL]

/-- A weight: two to the score less the maximum. -/
theorem pw_at (m : FVec Ideal S1x1024 .f32) (s : FVec Ideal S512x1024 .f32) (k : Fin 512) (c : Fin 1024) :
    pw m s (ix2 k c) = Ideal.exp2 (s (ix2 k c) - m (ix2 0 c)) := by
  pointwise [pw]
  rfl

/-- A row stored in its slot. -/
theorem up_at (m : FVec Ideal S1x1024 .f32) (c : Fin 1024) : up m (ix3 0 0 c) = m (ix2 0 c) := by
  pointwise [up]

/-- A row read from its slot. -/
theorem dn_at (m : FVec Ideal S1x1x1024 .f32) (c : Fin 1024) : dn m (ix2 0 c) = m (ix3 0 0 c) := by
  pointwise [dn]

/-- The rescaling factor. -/
theorem fA_at (mo : FVec Ideal S1x1x1024 .f32) (s : FVec Ideal S512x1024 .f32) (c : Fin 1024) :
    fA mo s (ix2 0 c) = Ideal.exp2 (mo (ix3 0 0 c) - nM mo s (ix2 0 c)) := by
  rw [← dn_at mo]; rfl

/-- The new maximum. -/
theorem nM_at (mo : FVec Ideal S1x1x1024 .f32) (s : FVec Ideal S512x1024 .f32) (c : Fin 1024) :
    nM mo s (ix2 0 c) = max (mo (ix3 0 0 c)) (rM s (ix2 0 c)) := by
  rw [← dn_at mo]; rfl

/-- The first block's weights, as stored. -/
theorem stP0_at (g : FVec Ideal S1x512x1024 .f32 → FVec Ideal S512x1024 .f32) (s : FVec Ideal S1x512x1024 .f32) (k : Fin 512) (c : Fin 1024) :
    stP0 g s (ix3 0 k c) = pw (rM (g s)) (g s) (ix2 k c) := by
  unfold stP0
  generalize pw (rM (g s)) (g s) = y
  pointwise []

/-- A later block's weights, as stored. -/
theorem stP_at (g : FVec Ideal S1x512x1024 .f32 → FVec Ideal S512x1024 .f32) (mo : FVec Ideal S1x1x1024 .f32)
    (s : FVec Ideal S1x512x1024 .f32) (k : Fin 512) (c : Fin 1024) :
    stP g mo s (ix3 0 k c) = pw (nM mo (g s)) (g s) (ix2 k c) := by
  unfold stP
  generalize pw (nM mo (g s)) (g s) = y
  pointwise []

/-- The new normaliser. -/
theorem stL_at (g : FVec Ideal S1x512x1024 .f32 → FVec Ideal S512x1024 .f32) (mo : FVec Ideal S1x1x1024 .f32)
    (s : FVec Ideal S1x512x1024 .f32) (lo : FVec Ideal S1x1x1024 .f32) (c : Fin 1024) :
    stL g mo s lo (ix3 0 0 c) = fA mo (g s) (ix2 0 c) * lo (ix3 0 0 c) + rL (pw (nM mo (g s)) (g s)) (ix2 0 c) := by
  unfold stL
  rw [up_at, ← dn_at lo]; rfl

/-- The first block's weighted values. -/
theorem pv0_at (vt : FVec Ideal S1x128x512 .bf16) (p : FVec Ideal S1x512x1024 .bf16) (d : Fin 128) (c : Fin 1024) :
    pv0 vt p (ix2 d c) = ∑ k : Fin 512, vt (ix3 0 d k) * p (ix3 0 k c) := by
  pointwise [pv0]

/-- The weighted sum stored in its slot. -/
theorem upC_at (x : FVec Ideal S128x1024 .f32) (d : Fin 128) (c : Fin 1024) : upC x (ix3 0 d c) = x (ix2 d c) := by
  pointwise [upC]

/-- A later block's weighted values, over the rescaled old sum. -/
theorem pv_at (vt : FVec Ideal S1x128x512 .bf16) (p : FVec Ideal S1x512x1024 .bf16) (a : FVec Ideal S1x1x1024 .f32)
    (acc : FVec Ideal S1x128x1024 .f32) (d : Fin 128) (c : Fin 1024) :
    pv vt p a acc (ix2 d c) = a (ix3 0 0 c) * acc (ix3 0 d c) + ∑ k : Fin 512, vt (ix3 0 d k) * p (ix3 0 k c) := by
  pointwise [pv, dn, pv0]

/-- The weighted sum over the normaliser. -/
theorem quo_at (l : FVec Ideal S1x1x1024 .f32) (x : FVec Ideal S128x1024 .f32) (d : Fin 128) (c : Fin 1024) :
    quo l x (ix2 d c) = Ideal.div (x (ix2 d c)) (l (ix3 0 0 c)) := by
  pointwise [quo, dn]

/-- The difference's factor. -/
theorem lam_at (x : Vec Ideal S4x64 .f32) : lam x (ix2 0 0) =
    Ideal.exp (∑ k : Fin 64, x (ix2 0 k) * x (ix2 1 k)) - Ideal.exp (∑ k : Fin 64, x (ix2 2 k) * x (ix2 3 k)) + Ideal.ofBits .f32 0x3E4CCCCD#32 := by
  pointwise [lam]

/-- The difference of the two components, transposed back. -/
theorem att_at (la : FVec Ideal S1x1 .f32) (o : FVec Ideal S128x1024 .f32) (r : Fin 512) (d : Fin 128) :
    att la o (ix2 r d) = o (ix2 d (col 0 r)) - la (ix2 0 0) * o (ix2 d (col 1 r)) := by
  pointwise [att, col]

/-- The head's norm and gate, at one lane of a row. -/
def gated (t z nw : Fin 128 → EReal) (d : Fin 128) : EReal :=
  t d * Ideal.rsqrt (Ideal.div (∑ x, t x * t x) (Ideal.ofBits .f32 0x43000000#32) + Ideal.ofBits .f32 0x358637BD#32) * nw d
    * Ideal.ofBits .f32 0x3F4CCCCD#32 * (z d * Ideal.logistic (z d))

/-- A finished entry: the head's norm, its weight and the gate. -/
theorem fin_at (la : FVec Ideal S1x1 .f32) (l : FVec Ideal S1x1x1024 .f32) (x : FVec Ideal S128x1024 .f32) (az : Vec Ideal S1x512x128 .f32)
    (nw : Vec Ideal S1x128 .f32) (r : Fin 512) (d : Fin 128) :
    fin la l x az nw (ix3 0 r d) = gated (fun d => att la (quo l x) (ix2 r d)) (fun d => az (ix3 0 r d)) (fun d => nw (ix2 0 d)) d := by
  unfold fin
  generalize att la (quo l x) = t
  pointwise [gate, Steps.norm, flat, gated]

end Cert.KernelIdeal.Cols

end
-- ==== Proof.Attn.lean ====
/- Causal differential attention over the reals, and the kernel's recurrence equal to it. -/
module

public import proofs.«01_k».proof.Proof.Cols

@[expose] public section

set_option maxRecDepth 16384

noncomputable section

namespace Cert.Attn

open Idealize.ShloMosaic Cert.Softmax

/-- A query's product with a key in component `m`: 64 of the 128 lanes. -/
def tau (q k : Fin 4096 → Fin 128 → ℝ) (m : Fin 2) (r R : Fin 4096) : ℝ :=
  ∑ e : Fin 64, q r ⟨64 * m + e, by omega⟩ * k R ⟨64 * m + e, by omega⟩

/-- The weight of a key for a query: none for a key after it. -/
def wgt (q k : Fin 4096 → Fin 128 → ℝ) (m : Fin 2) (r R : Fin 4096) : ℝ :=
  if (R : ℕ) ≤ r then Real.exp (tau q k m r R / 8) else 0

/-- A component's attention: the values' mean under its weights. -/
def avg (q k v : Fin 4096 → Fin 128 → ℝ) (m : Fin 2) (r : Fin 4096) (d : Fin 128) : ℝ :=
  (∑ R, v R d * wgt q k m r R) / ∑ R, wgt q k m r R

/-- The weights' sum is not zero: the query's own key has one. -/
theorem sum_wgt_pos (q k : Fin 4096 → Fin 128 → ℝ) (m : Fin 2) (r : Fin 4096) : 0 < ∑ R, wgt q k m r R := by
  refine Finset.sum_pos' (fun R _ => ?_) ⟨r, Finset.mem_univ _, ?_⟩
  · unfold wgt; split
    · exact (Real.exp_pos _).le
    · exact le_rfl
  · unfold wgt; rw [if_pos le_rfl]; exact Real.exp_pos _

open Cert.KernelIdeal.Steps (rowOf)

/-- A row of a block inside the prompt is not reduced. -/
theorem rowOf_val (k r : ℕ) (h : 512 * k + r < 4096) : (rowOf k r : ℕ) = 512 * k + r := Nat.mod_eq_of_lt h

/-- A sum over the rows up to the end of block `i`, block by block. -/
theorem sum_blocks (f : Fin 4096 → ℝ) (i : ℕ) (hi : i < 8) (h : ∀ R : Fin 4096, 512 * (i + 1) ≤ (R : ℕ) → f R = 0) :
    ∑ b ∈ Finset.range (i + 1), ∑ k : Fin 512, f (rowOf b k) = ∑ R, f R := by
  rw [Fin.sum_univ_tiles 8 512 rfl f]
  have h8 : ∑ j : Fin 8, ∑ t : Fin 512, f ⟨j.val * 512 + t.val, by omega⟩ = ∑ b ∈ Finset.range 8, ∑ k : Fin 512, f (rowOf b k) := by
    rw [Finset.sum_range]
    refine Finset.sum_congr rfl fun j _ => Finset.sum_congr rfl fun t _ => congrArg f (Fin.ext ?_)
    rw [rowOf_val _ _ (by omega)]; simp only; omega
  refine Eq.trans ?_ h8.symm
  refine Finset.sum_subset (Finset.range_subset_range.2 (by omega)) fun b hb hb' => Finset.sum_eq_zero fun k _ => h _ ?_
  have h1 := Finset.mem_range.1 hb
  have h2 : ¬ b < i + 1 := fun h => hb' (Finset.mem_range.2 h)
  have hk := k.isLt
  rw [rowOf_val _ _ (by omega)]
  omega

end Cert.Attn

namespace Cert.KernelIdeal.Cols

open Cert.KernelIdeal Cert.KernelIdeal.Gen Cert.KernelIdeal.Steps Cert.Attn Cert.Softmax
open Idealize.ShloMosaic Idealize.ShloMosaic.TcCoe

section
variable {x0 x1 x2 : Vec Ideal S1x4096x128 .f32} {q k v : Fin 4096 → Fin 128 → ℝ}
  (hq : ∀ r d, x0 (ix3 0 r d) = (q r d : EReal)) (hk : ∀ r d, x1 (ix3 0 r d) = (k r d : EReal))
  (hv : ∀ r d, x2 (ix3 0 r d) = (v r d : EReal))

/-- A block's entry. -/
theorem rows_at (x : Vec Ideal S1x4096x128 .f32) (j : ℕ) (r : Fin 512) (d : Fin 128) : rows x j (ix3 0 r d) = x (ix3 0 (rowOf j r) d) := rfl

include hq hk in
/-- A score: the product of the query and the key in the column's component, scaled. -/
theorem score (i j : ℕ) (m : Fin 2) (r l : Fin 512) :
    SS x0 x1 i j (ix3 0 l (col m r)) = ((tau q k m (rowOf i r) (rowOf j l) * (8 * Real.log 2)⁻¹ : ℝ) : EReal) := by
  unfold SS
  rw [stS_at]
  match m with
  | 0 =>
    have h : ∀ d : Fin 128, keys (rows x1 j) (ix3 0 l d) * queries (rows x0 i) (ix3 0 (col 0 r) d)
        = ((if (d : ℕ) < 64 then q (rowOf i r) d * k (rowOf j l) d * (8 * Real.log 2)⁻¹ else 0 : ℝ) : EReal) := by
      intro d
      rw [keys_at, queries_at0, rows_at, rows_at, hq, hk]
      split
      · rw [← EReal.coe_mul, ← EReal.coe_mul]; congr 1; ring
      · rw [mul_zero, EReal.coe_zero]
    rw [Finset.sum_congr rfl fun d _ => h d, ← coe_sum]
    congr 1
    unfold tau
    rw [Finset.sum_mul]
    refine (Fin.sum_univ_add (a := 64) (b := 64) _).trans ?_
    refine (congrArg₂ (· + ·) rfl (Finset.sum_eq_zero fun e _ => if_neg (by simp))).trans ((add_zero _).trans ?_)
    refine Finset.sum_congr rfl fun e _ => ?_
    rw [if_pos (by simp)]
    have : (Fin.castAdd 64 e : Fin 128) = ⟨64 * ((0 : Fin 2) : ℕ) + e, by simp; omega⟩ := Fin.ext (by simp)
    rw [this]
  | 1 =>
    have h : ∀ d : Fin 128, keys (rows x1 j) (ix3 0 l d) * queries (rows x0 i) (ix3 0 (col 1 r) d)
        = ((if (d : ℕ) < 64 then 0 else q (rowOf i r) d * k (rowOf j l) d * (8 * Real.log 2)⁻¹ : ℝ) : EReal) := by
      intro d
      rw [keys_at, queries_at1, rows_at, rows_at, hq, hk]
      split
      · rw [mul_zero, EReal.coe_zero]
      · rw [← EReal.coe_mul, ← EReal.coe_mul]; congr 1; ring
    rw [Finset.sum_congr rfl fun d _ => h d, ← coe_sum]
    congr 1
    unfold tau
    rw [Finset.sum_mul]
    refine (Fin.sum_univ_add (a := 64) (b := 64) _).trans ?_
    refine (congrArg₂ (· + ·) (Finset.sum_eq_zero fun e _ => if_pos (by simp)) rfl).trans ((zero_add _).trans ?_)
    refine Finset.sum_congr rfl fun e _ => ?_
    rw [if_neg (by simp)]
    have : (Fin.natAdd 64 e : Fin 128) = ⟨64 * ((1 : Fin 2) : ℕ) + e, by simp; omega⟩ := Fin.ext (by simp; omega)
    rw [this]

/-- The diagonal block is masked. -/
theorem gd_self (i : ℕ) : gd (F := Ideal) i i = msk := by
  unfold gd; rw [Nat.beq_refl]; rfl

/-- A block off the diagonal is not. -/
theorem gd_ne (i j : ℕ) (h : j ≠ i) : gd (F := Ideal) i j = plain := by
  unfold gd; rw [Bool.eq_false_iff.2 fun hb => h (Nat.eq_of_beq_eq_true hb)]; rfl

include hq hk in
/-- A masked score, up to the diagonal. -/
theorem masked (i j : ℕ) (hi : i < 8) (hj : j ≤ i) (m : Fin 2) (r l : Fin 512) :
    gd i j (SS x0 x1 i j) (ix2 l (col m r))
      = if (rowOf j l : ℕ) ≤ rowOf i r then ((tau q k m (rowOf i r) (rowOf j l) * (8 * Real.log 2)⁻¹ : ℝ) : EReal) else ⊥ := by
  have hr := r.isLt
  have hl := l.isLt
  rw [rowOf_val i r (by omega), rowOf_val j l (by omega)]
  rcases Nat.lt_or_ge j i with h | h
  · rw [gd_ne i j (by omega), plain_at, score hq hk, if_pos (by omega)]
  · have : j = i := by omega
    subst this
    rw [gd_self, msk_at, score hq hk]
    by_cases hc : (l : ℕ) ≤ r
    · rw [if_pos hc, if_pos (by omega)]
    · rw [if_neg hc, if_neg (by omega)]

include hq hk in
/-- No score is plus infinity. -/
theorem masked_ne_top (i j : ℕ) (m : Fin 2) (r l : Fin 512) : gd i j (SS x0 x1 i j) (ix2 l (col m r)) ≠ ⊤ := by
  by_cases h : j = i
  · subst h
    rw [gd_self, msk_at, score hq hk]
    split
    · exact EReal.coe_ne_top _
    · exact bot_ne_top
  · rw [gd_ne i j h, plain_at, score hq hk]
    exact EReal.coe_ne_top _

/-- The base: two to the score over log 2 is the exponential. -/
theorem wt_masked (t : ℝ) : wt ((t * (8 * Real.log 2)⁻¹ : ℝ) : EReal) = Real.exp (t / 8) := by
  rw [wt_coe, exp_eq_wt]
  congr 1
  have := (Real.log_pos one_lt_two).ne'
  field_simp

include hq hk in
/-- The first key's score is not masked. -/
theorem masked0_ne_bot (i : ℕ) (hi : i < 8) (m : Fin 2) (r : Fin 512) : gd i 0 (SS x0 x1 i 0) (ix2 (0 : Fin 512) (col m r)) ≠ ⊥ := by
  have hr := r.isLt
  rw [masked hq hk i 0 hi (Nat.zero_le _), if_pos]
  · exact EReal.coe_ne_bot _
  · rw [rowOf_val 0 _ (by simp), rowOf_val i _ (by omega)]; simp

/-! The recurrence at a column. -/

/-- The running maximum after the first block is that block's. -/
theorem MX_zero (x0 x1 : Vec Ideal S1x4096x128 .f32) (i : ℕ) (c : Fin 1024) :
    MX x0 x1 i 0 (ix3 0 0 c) = (Finset.univ : Finset (Fin 512)).fold max ⊥ fun l => gd i 0 (SS x0 x1 i 0) (ix2 l c) :=
  (up_at _ _).trans (rM_at _ _)

/-- The running maximum after a later block, as the step writes it. -/
theorem MX_nM (x0 x1 : Vec Ideal S1x4096x128 .f32) (i j : ℕ) (c : Fin 1024) :
    MX x0 x1 i (j + 1) (ix3 0 0 c) = nM (MX x0 x1 i j) (gd i (j + 1) (SS x0 x1 i (j + 1))) (ix2 0 c) :=
  up_at _ _

/-- The running maximum after a later block is the larger of the old one and the block's. -/
theorem MX_succ (x0 x1 : Vec Ideal S1x4096x128 .f32) (i : ℕ) (c : Fin 1024) (j : ℕ) :
    MX x0 x1 i (j + 1) (ix3 0 0 c) = max (MX x0 x1 i j (ix3 0 0 c))
      ((Finset.univ : Finset (Fin 512)).fold max ⊥ fun l => gd i (j + 1) (SS x0 x1 i (j + 1)) (ix2 l c)) := by
  rw [MX_nM, nM_at, rM_at]

/-- The normaliser after the first block is the sum of its weights. -/
theorem LX_zero (x0 x1 : Vec Ideal S1x4096x128 .f32) (i : ℕ) (c : Fin 1024) :
    LX x0 x1 i 0 (ix3 0 0 c) = ∑ l : Fin 512, Ideal.exp2 (gd i 0 (SS x0 x1 i 0) (ix2 l c) - MX x0 x1 i 0 (ix3 0 0 c)) := by
  rw [show MX x0 x1 i 0 (ix3 0 0 c) = rM (gd i 0 (SS x0 x1 i 0)) (ix2 0 c) from up_at _ _]
  refine ((up_at _ _).trans (rL_at _ _)).trans (Finset.sum_congr rfl fun l _ => pw_at _ _ _ _)

/-- The normaliser after a later block: the old one rescaled, and the sum of the block's weights. -/
theorem LX_succ (x0 x1 : Vec Ideal S1x4096x128 .f32) (i : ℕ) (c : Fin 1024) (j : ℕ) :
    LX x0 x1 i (j + 1) (ix3 0 0 c) = Ideal.exp2 (MX x0 x1 i j (ix3 0 0 c) - MX x0 x1 i (j + 1) (ix3 0 0 c)) * LX x0 x1 i j (ix3 0 0 c)
      + ∑ l : Fin 512, Ideal.exp2 (gd i (j + 1) (SS x0 x1 i (j + 1)) (ix2 l c) - MX x0 x1 i (j + 1) (ix3 0 0 c)) := by
  rw [MX_nM, ← fA_at]
  refine (stL_at _ _ _ _ _).trans (congrArg₂ (· + ·) rfl ?_)
  exact (rL_at _ _).trans (Finset.sum_congr rfl fun l _ => pw_at _ _ _ _)

include hv in
/-- The weighted sum after the first block. -/
theorem CX_zero (i : ℕ) (d : Fin 128) (c : Fin 1024) :
    CX x0 x1 x2 i 0 (ix2 d c)
      = ∑ l : Fin 512, (v (rowOf 0 l) d : EReal) * Ideal.exp2 (gd i 0 (SS x0 x1 i 0) (ix2 l c) - MX x0 x1 i 0 (ix3 0 0 c)) := by
  rw [show MX x0 x1 i 0 (ix3 0 0 c) = rM (gd i 0 (SS x0 x1 i 0)) (ix2 0 c) from up_at _ _]
  refine (pv0_at _ _ _ _).trans (Finset.sum_congr rfl fun l _ => ?_)
  rw [vals_at, rows_at, hv]
  exact congrArg _ ((stP0_at _ _ _ _).trans (pw_at _ _ _ _))

include hv in
/-- The weighted sum after a later block: the old one rescaled, and the block's. -/
theorem CX_succ (i : ℕ) (d : Fin 128) (c : Fin 1024) (j : ℕ) :
    CX x0 x1 x2 i (j + 1) (ix2 d c)
      = Ideal.exp2 (MX x0 x1 i j (ix3 0 0 c) - MX x0 x1 i (j + 1) (ix3 0 0 c)) * CX x0 x1 x2 i j (ix2 d c)
      + ∑ l : Fin 512, (v (rowOf (j + 1) l) d : EReal)
          * Ideal.exp2 (gd i (j + 1) (SS x0 x1 i (j + 1)) (ix2 l c) - MX x0 x1 i (j + 1) (ix3 0 0 c)) := by
  rw [MX_nM, ← fA_at]
  refine (pv_at _ _ _ _ _ _).trans (congrArg₂ (· + ·) (congrArg₂ (· * ·) (up_at _ _) (upC_at _ _ _)) (Finset.sum_congr rfl fun l _ => ?_))
  rw [vals_at, rows_at, hv]
  exact congrArg _ ((stP_at _ _ _ _ _).trans (pw_at _ _ _ _))

include hq hk hv in
/-- The weighted values over the normaliser, after the diagonal's key block, are the component's attention. -/
theorem quo_avg (i : ℕ) (hi : i < 8) (m : Fin 2) (r : Fin 512) (d : Fin 128) :
    quo (LX x0 x1 i i) (CX x0 x1 x2 i i) (ix2 d (col m r)) = (avg q k v m (rowOf i r) d : EReal) := by
  have hr := r.isLt
  obtain ⟨μ, -, hL, hA⟩ := online (fun j l => gd i j (SS x0 x1 i j) (ix2 l (col m r))) (fun j l => v (rowOf j l) d)
    (fun j => MX x0 x1 i j (ix3 0 0 (col m r))) (fun j => LX x0 x1 i j (ix3 0 0 (col m r))) (fun j => CX x0 x1 x2 i j (ix2 d (col m r)))
    (fun j l => masked_ne_top hq hk i j m r l)
    ⟨0, masked0_ne_bot hq hk i hi m r⟩
    (MX_zero _ _ _ _) (fun j => MX_succ _ _ _ _ _) (LX_zero _ _ _ _) (fun j => LX_succ _ _ _ _ _)
    (CX_zero hv _ _ _) (fun j => CX_succ hv _ _ _ _) i
  have hw : ∀ b ∈ Finset.range (i + 1), ∀ l : Fin 512,
      wt (gd i b (SS x0 x1 i b) (ix2 l (col m r))) = wgt q k m (rowOf i r) (rowOf b l) := by
    intro b hb l
    rw [masked hq hk i b hi (by have := Finset.mem_range.1 hb; omega)]
    unfold wgt
    split
    · exact wt_masked _
    · exact wt_bot
  have hz : ∀ R : Fin 4096, 512 * (i + 1) ≤ (R : ℕ) → wgt q k m (rowOf i r) R = 0 := by
    intro R hR
    unfold wgt
    rw [if_neg]
    rw [rowOf_val _ _ (by omega)]; omega
  have e1 : ∑ b ∈ Finset.range (i + 1), ∑ l : Fin 512, wt (gd i b (SS x0 x1 i b) (ix2 l (col m r)))
      = ∑ R, wgt q k m (rowOf i r) R := by
    rw [← sum_blocks _ i hi hz]
    exact Finset.sum_congr rfl fun b hb => Finset.sum_congr rfl fun l _ => hw b hb l
  have e2 : ∑ b ∈ Finset.range (i + 1), ∑ l : Fin 512, v (rowOf b l) d * wt (gd i b (SS x0 x1 i b) (ix2 l (col m r)))
      = ∑ R, v R d * wgt q k m (rowOf i r) R := by
    rw [← sum_blocks _ i hi fun R hR => by rw [hz R hR, mul_zero]]
    exact Finset.sum_congr rfl fun b hb => Finset.sum_congr rfl fun l _ => by rw [hw b hb l]
  rw [quo_at]
  refine (congrArg₂ Ideal.div hA hL).trans ?_
  simp only [e1, e2]
  exact div_scaled _ _ _ (sum_wgt_pos q k m (rowOf i r)).ne' (Real.rpow_pos_of_pos two_pos _).ne'

include hq hk hv in
/-- A row of the output: the differential attention, its head's norm and its gate. -/
theorem out_at (x3 : Vec Ideal S1x4096x128 .f32) (x4 : Vec Ideal S4x64 .f32) (x5 : Vec Ideal S1x128 .f32) (Λ : ℝ)
    (hΛ : lam x4 (ix2 0 0) = (Λ : EReal)) (i : ℕ) (hi : i < 8) (r : Fin 512) (d : Fin 128) :
    OUT x0 x1 x2 x3 x4 x5 i (ix3 0 r d)
      = gated (fun d => ((avg q k v 0 (rowOf i r) d - Λ * avg q k v 1 (rowOf i r) d : ℝ) : EReal))
          (fun d => x3 (ix3 0 (rowOf i r) d)) (fun d => x5 (ix2 0 d)) d := by
  unfold OUT
  rw [fin_at]
  congr 1
  funext d
  rw [att_at, quo_avg hq hk hv i hi, quo_avg hq hk hv i hi, hΛ, EReal.coe_sub, EReal.coe_mul]

end

end Cert.KernelIdeal.Cols

end
-- ==== Proof.Ref.lean ====
/- The reference's stages read at an index. -/
module

public import proofs.«01_k».proof.Proof.Attn
public import proofs.«01_k».proof.Proof.Gen.ReferenceIdeal.Read

@[expose] public section

set_option maxRecDepth 16384

noncomputable section

namespace Cert.ReferenceIdeal.Stages

open Cert.ReferenceIdeal Cert.ReferenceIdeal.Gen Cert.ReferenceIdeal.Read Cert.Attn Cert.Softmax
open Idealize.ShloMosaic Idealize.ShloMosaic.TcCoe

variable (u : Vec Ideal S2x4096x13312 .f32) (lq : Vec Ideal S4x64 .f32) (nw : Vec Ideal S1x1024 .f32)

/-- The column of the projections where lane `d` of head `h` stands, in the run of 1024 columns that starts at `c`. -/
abbrev colOf (c : ℕ) (hc : c ≤ 12288) (h : Fin 8) (d : Fin 128) : Fin 13312 := ⟨c + (128 * h + d), by omega⟩

/-- A query's product with a key, in a component: the sum over its 64 lanes. -/
theorem prod_at (b : Fin 2) (h : Fin 8) (m : Fin 2) (r R : Fin 4096) :
    val_main_v23 (F := Ideal) u (ix5 b h m r R)
      = ∑ e : Fin 64, u (ix3 b r (colOf 5120 (by omega) h ⟨64 * m + e, by omega⟩)) * u (ix3 b R (colOf 6144 (by omega) h ⟨64 * m + e, by omega⟩)) := by
  pointwise [val_main_v23, val_main_v4, val_main_v5, val_main_v0, val_main_v1]
  refine Finset.sum_congr rfl fun e _ => congrArg₂ (· * ·) (congrArg (fun c => u (ix3 b r c)) (Fin.ext ?_)) (congrArg (fun c => u (ix3 b R c)) (Fin.ext ?_))
  · simp only []; omega
  · simp only []; omega

/-- A score: the product over 8, a key after the query masked. -/
theorem sc_at (b : Fin 2) (h : Fin 8) (m : Fin 2) (r R : Fin 4096) :
    val_main_v32 (F := Ideal) u (ix5 b h m r R)
      = Scalar.select (IntOp.cmpi .sge (BitVec.ofNat 32 r) (BitVec.ofNat 32 R))
          (val_main_v23 (F := Ideal) u (ix5 b h m r R) * Ideal.ofBits .f32 0x3E000000#32) (Ideal.ofBits .f32 0xFF800000#32) := by
  unfold val_main_v32 val_main_v25
  generalize val_main_v23 (F := Ideal) u = y
  pointwise [val_main_v24, val_main_cst_2, val_main_call0_v1, val_main_call0_v2, val_main_v31, val_main_v30, val_main_v29, val_main_v28, val_main_v27, val_main_v26, val_main_call0_v0, val_main_cst_3]
  all_goals rfl

/-- A row's maximum, at every key of the row. -/
theorem max_at (b : Fin 2) (h : Fin 8) (m : Fin 2) (r R : Fin 4096) :
    val_main_v37 (F := Ideal) u (ix5 b h m r R)
      = max (Ideal.ofBits .f32 0xFF800000#32)
          ((Finset.univ : Finset (Fin 4096)).fold max (Ideal.ofBits .f32 0xFF800000#32) fun R => val_main_v32 (F := Ideal) u (ix5 b h m r R)) := by
  rw [val_main_v37_apply, val_main_v36_apply, val_main_v35_apply]
  refine congrArg₂ max ((val_main_v34_apply _).trans rfl) ?_
  unfold val_main_v33
  generalize val_main_v32 (F := Ideal) u = y
  refine (Host.reduce_eq_fold_single (α := EReal) max y _ reducesTo_S2x8x2x4096x4096_S2x8x2x4096_d4 (by decide) h_S_ _).trans ?_
  refine congrArg (Finset.fold max _ · _) (funext fun k => congrArg y (funext fun a => Fin.ext ?_))
  match a with | ⟨0, _⟩ => rfl | ⟨1, _⟩ => rfl | ⟨2, _⟩ => rfl | ⟨3, _⟩ => rfl | ⟨4, _⟩ => rfl

/-- A probability: the exponential over the row's sum of them. -/
theorem soft_at (b : Fin 2) (h : Fin 8) (m : Fin 2) (r R : Fin 4096) :
    val_main_v43 (F := Ideal) u (ix5 b h m r R)
      = Ideal.div (val_main_v39 (F := Ideal) u (ix5 b h m r R)) (∑ x, val_main_v39 (F := Ideal) u (ix5 b h m r x)) := by
  unfold val_main_v43 val_main_v42 val_main_v41 val_main_v40
  generalize val_main_v39 (F := Ideal) u = y
  pointwise [val_main_cst_6]

/-- The exponential of a score less its row's maximum. -/
theorem exp_at (i : S2x8x2x4096x4096.Idx) :
    val_main_v39 (F := Ideal) u i = Ideal.exp (val_main_v32 (F := Ideal) u i - val_main_v37 (F := Ideal) u i) := rfl

/-- The difference's factor, from the lambdas' four vectors. -/
theorem lam_at (i : S_.Idx) : val_main_v22 (F := Ideal) lq i
    = Ideal.exp (∑ x : Fin 64, lq (ix2 0 x) * lq (ix2 1 x)) - Ideal.exp (∑ x : Fin 64, lq (ix2 2 x) * lq (ix2 3 x)) + Ideal.ofBits .f32 0x3E4CCCCD#32 := by
  pointwise [val_main_v22, val_main_v21, val_main_v20, val_main_v19, val_main_v18, val_main_v17, val_main_v16, val_main_v15, val_main_v14, val_main_v13, val_main_v12,
   val_main_v11, val_main_v10, val_main_v9, val_main_v8, val_main_v7, val_main_cst_1, val_main_cst_0, val_main_cst]

/-- A query row's slice of the first component's probabilities. -/
theorem first_at (b : Fin 2) (h : Fin 8) (r R : Fin 4096) :
    val_main_v45 (F := Ideal) u (ix4 b h r R) = val_main_v43 (F := Ideal) u (ix5 b h 0 r R) := by
  rw [val_main_v45_apply, val_main_v44_apply]
  generalize val_main_v43 (F := Ideal) u = y
  refine congrArg y (funext fun a => Fin.ext ?_)
  match a with
  | ⟨0, _⟩ => show ((((b : ℕ) * 8 + h) * 4096 + r) * 4096 + R) / 134217728 = b; omega
  | ⟨1, _⟩ => show ((((b : ℕ) * 8 + h) * 4096 + r) * 4096 + R) / 16777216 % 8 = h; omega
  | ⟨2, _⟩ => rfl
  | ⟨3, _⟩ => show ((((b : ℕ) * 8 + h) * 4096 + r) * 4096 + R) / 4096 % 4096 = r; omega
  | ⟨4, _⟩ => show ((((b : ℕ) * 8 + h) * 4096 + r) * 4096 + R) % 4096 = R; omega

/-- And of the second component's. -/
theorem second_at (b : Fin 2) (h : Fin 8) (r R : Fin 4096) :
    val_main_v47 (F := Ideal) u (ix4 b h r R) = val_main_v43 (F := Ideal) u (ix5 b h 1 r R) := by
  rw [val_main_v47_apply, val_main_v46_apply]
  generalize val_main_v43 (F := Ideal) u = y
  refine congrArg y (funext fun a => Fin.ext ?_)
  match a with
  | ⟨0, _⟩ => show ((((b : ℕ) * 8 + h) * 4096 + r) * 4096 + R) / 134217728 = b; omega
  | ⟨1, _⟩ => show ((((b : ℕ) * 8 + h) * 4096 + r) * 4096 + R) / 16777216 % 8 = h; omega
  | ⟨2, _⟩ => rfl
  | ⟨3, _⟩ => show ((((b : ℕ) * 8 + h) * 4096 + r) * 4096 + R) / 4096 % 4096 = r; omega
  | ⟨4, _⟩ => show ((((b : ℕ) * 8 + h) * 4096 + r) * 4096 + R) % 4096 = R; omega

/-- A value's entry: the projections' column. -/
theorem val_at (b : Fin 2) (R : Fin 4096) (h : Fin 8) (d : Fin 128) :
    val_main_v6 (F := Ideal) u (ix4 b R h d) = u (ix3 b R (colOf 7168 (by omega) h d)) := by
  rw [val_main_v6_apply, val_main_v2_apply]
  refine congrArg u (funext fun a => Fin.ext ?_)
  match a with
  | ⟨0, _⟩ => show ((((b : ℕ) * 4096 + R) * 8 + h) * 128 + d) / 4194304 = b; omega
  | ⟨1, _⟩ => show ((((b : ℕ) * 4096 + R) * 8 + h) * 128 + d) / 1024 % 4096 = R; omega
  | ⟨2, _⟩ => show 7168 + ((((b : ℕ) * 4096 + R) * 8 + h) * 128 + d) % 1024 = 7168 + (128 * h + d); omega

/-- The attention at a row: the values' sum under the difference of the two components' probabilities. -/
theorem att_at (b : Fin 2) (r : Fin 4096) (h : Fin 8) (d : Fin 128) :
    val_main_v52 (F := Ideal) u lq (ix4 b r h d)
      = ∑ R : Fin 4096, u (ix3 b R (colOf 7168 (by omega) h d))
          * (val_main_v43 (F := Ideal) u (ix5 b h 0 r R) - val_main_v22 (F := Ideal) lq ix0 * val_main_v43 (F := Ideal) u (ix5 b h 1 r R)) := by
  rw [val_main_v52_apply, val_main_v51_apply]
  refine Finset.sum_congr rfl fun R _ => ?_
  have e1 : lidx_main_v51 (idx_main_v52 (ix4 b r h d)) R = ix4 b R h d := funext fun a => Fin.ext (by
    match a with | ⟨0, _⟩ => rfl | ⟨1, _⟩ => rfl | ⟨2, _⟩ => rfl | ⟨3, _⟩ => rfl)
  have e2 : ridx_main_v51 (idx_main_v52 (ix4 b r h d)) R = ix4 b h r R := funext fun a => Fin.ext (by
    match a with | ⟨0, _⟩ => rfl | ⟨1, _⟩ => rfl | ⟨2, _⟩ => rfl | ⟨3, _⟩ => rfl)
  have e3 : idx_main_v48 (ix4 b h r R) = ix0 := funext fun a => a.elim0
  rw [e1, e2, val_at, val_main_v50_apply, val_main_v49_apply, val_main_v48_apply, first_at, second_at, e3]
  rfl

/-- A result: the head's norm, the norm's weight and the gate. -/
theorem out_at (b : Fin 2) (r : Fin 4096) (h : Fin 8) (d : Fin 128) :
    val_main_v71 (F := Ideal) u lq nw (ix3 b r (⟨128 * h + d, by omega⟩ : Fin 1024))
      = Cert.KernelIdeal.Cols.gated (fun d => val_main_v52 (F := Ideal) u lq (ix4 b r h d)) (fun d => u (ix3 b r (colOf 8192 (by omega) h d)))
          (fun d => nw (ix2 0 (⟨128 * h + d, by omega⟩ : Fin 1024))) d := by
  unfold val_main_v71 val_main_v70 val_main_v68 val_main_v66 val_main_v63 val_main_v62 val_main_v61 val_main_v60 val_main_v59 val_main_v57 val_main_v55 val_main_v54 val_main_v53
  generalize val_main_v52 (F := Ideal) u lq = y
  pointwise [val_main_v69, val_main_v67, val_main_v65, val_main_v64, val_main_v58, val_main_v56, val_main_cst_10, val_main_cst_9, val_main_cst_8, val_main_cst_7,
   val_main_call1_v5, val_main_call1_v4, val_main_call1_v3, val_main_call1_v2, val_main_call1_v1, val_main_call1_v0, val_main_call1_cst, val_main_call1_cst_0, val_main_v3]
  rfl

end Cert.ReferenceIdeal.Stages

end
-- ==== Proof.RefReal.lean ====
/- The reference over the reals: finite queries, keys and values make every stage up to the attention a real number. -/
module

public import proofs.«01_k».proof.Proof.Ref

@[expose] public section

set_option maxRecDepth 16384

noncomputable section

namespace Cert.ReferenceIdeal.Stages

open Cert.ReferenceIdeal Cert.ReferenceIdeal.Gen Cert.ReferenceIdeal.Read Cert.Attn Cert.Softmax
open Idealize.ShloMosaic Idealize.ShloMosaic.TcCoe

/-- The masked score's literal is minus infinity. -/
theorem neg_inf : (Ideal.ofBits .f32 0xFF800000#32 : EReal) = ⊥ := by simp [Ideal.ofBits, Ideal.ieee]

/-- The scores' factor is an eighth. -/
theorem eighth : (Ideal.ofBits .f32 0x3E000000#32 : EReal) = ((1 / 8 : ℝ) : EReal) := by
  simp [Ideal.ofBits, Ideal.ieee]
  rw [← EReal.coe_mul]
  norm_num

/-- The causal comparison of two positions. -/
theorem causal_word (r R : Fin 4096) : IntOp.cmpi .sge (BitVec.ofNat 32 (r : ℕ)) (BitVec.ofNat 32 (R : ℕ)) = if (R : ℕ) ≤ r then 1#1 else 0#1 := by
  have hr := r.isLt
  have hR := R.isLt
  split <;> word_cmp

section
variable {u : Vec Ideal S2x4096x13312 .f32} {lq : Vec Ideal S4x64 .f32} {b : Fin 2} {h : Fin 8} {q k v : Fin 4096 → Fin 128 → ℝ}
  (hq : ∀ r d, u (ix3 b r (colOf 5120 (by omega) h d)) = (q r d : EReal)) (hk : ∀ r d, u (ix3 b r (colOf 6144 (by omega) h d)) = (k r d : EReal))
  (hv : ∀ r d, u (ix3 b r (colOf 7168 (by omega) h d)) = (v r d : EReal))

include hq hk in
/-- A query's product with a key is the real one. -/
theorem prod_real (m : Fin 2) (r R : Fin 4096) : val_main_v23 (F := Ideal) u (ix5 b h m r R) = (tau q k m r R : EReal) := by
  rw [prod_at]
  unfold tau
  rw [coe_sum]
  refine Finset.sum_congr rfl fun e _ => ?_
  rw [hq, hk, EReal.coe_mul]

include hq hk in
/-- A score is an eighth of the product, or minus infinity for a key after the query. -/
theorem score_real (m : Fin 2) (r R : Fin 4096) :
    val_main_v32 (F := Ideal) u (ix5 b h m r R) = if (R : ℕ) ≤ r then ((tau q k m r R / 8 : ℝ) : EReal) else ⊥ := by
  rw [sc_at, prod_real hq hk, causal_word, eighth, neg_inf, ← EReal.coe_mul]
  split
  · rw [show tau q k m r R / 8 = tau q k m r R * (1 / 8) by ring]; rfl
  · rfl

include hq hk in
/-- A probability is the key's weight over the sum of the row's. -/
theorem soft_real (m : Fin 2) (r R : Fin 4096) :
    val_main_v43 (F := Ideal) u (ix5 b h m r R) = ((wgt q k m r R / ∑ l, wgt q k m r l : ℝ) : EReal) := by
  rw [soft_at]
  have hmax : ∀ R, val_main_v39 (F := Ideal) u (ix5 b h m r R)
      = Ideal.exp (val_main_v32 (F := Ideal) u (ix5 b h m r R)
          - (Finset.univ : Finset (Fin 4096)).fold max ⊥ fun R => val_main_v32 (F := Ideal) u (ix5 b h m r R)) := by
    intro R
    rw [exp_at, max_at, neg_inf, bot_sup_eq]
  rw [hmax, Finset.sum_congr rfl fun l _ => hmax l]
  refine softmax_row (fun R => val_main_v32 (F := Ideal) u (ix5 b h m r R)) (wgt q k m r) (fun l => ?_) ⟨r, ?_⟩ (fun l => ?_) R
  · simp only [score_real hq hk]
    split
    · exact EReal.coe_ne_top _
    · exact bot_ne_top
  · simp only [score_real hq hk]
    rw [if_pos le_rfl]
    exact EReal.coe_ne_bot _
  · simp only [score_real hq hk]
    unfold wgt
    split
    · exact Ideal.exp_coe _
    · exact Ideal.exp_bot

include hq hk hv in
/-- The attention is the difference of the components' means of the values. -/
theorem att_real (Λ : ℝ) (hΛ : val_main_v22 (F := Ideal) lq ix0 = (Λ : EReal)) (r : Fin 4096) (d : Fin 128) :
    val_main_v52 (F := Ideal) u lq (ix4 b r h d) = ((avg q k v 0 r d - Λ * avg q k v 1 r d : ℝ) : EReal) := by
  rw [att_at]
  have e : ∀ R, u (ix3 b R (colOf 7168 (by omega) h d))
      * (val_main_v43 (F := Ideal) u (ix5 b h 0 r R) - val_main_v22 (F := Ideal) lq ix0 * val_main_v43 (F := Ideal) u (ix5 b h 1 r R))
      = ((v R d * wgt q k 0 r R / (∑ l, wgt q k 0 r l) - Λ * (v R d * wgt q k 1 r R / ∑ l, wgt q k 1 r l) : ℝ) : EReal) := by
    intro R
    rw [hv, soft_real hq hk, soft_real hq hk, hΛ, ← EReal.coe_mul, ← EReal.coe_sub, ← EReal.coe_mul]
    congr 1
    ring
  rw [Finset.sum_congr rfl fun R _ => e R, ← coe_sum, Finset.sum_sub_distrib, ← Finset.mul_sum, ← Finset.sum_div, ← Finset.sum_div]
  rfl

end

end Cert.ReferenceIdeal.Stages

end
-- ==== Proof.Final.lean ====
/- The output's array after the run, block by block: the reference of the argument arrays. -/
module

public import Idealize.ShloMosaic.Lib.Pipeline.ValueKit
public import proofs.«01_k».proof.Proof.Block
public import proofs.«01_k».proof.Proof.RefReal
public import proofs.«01_k».proof.Proof.Gen.KernelIdeal.Value

@[expose] public section

set_option maxRecDepth 16384

noncomputable section

namespace Cert.KernelIdeal.Final

open Cert.KernelIdeal Cert.KernelIdeal.Gen Cert.KernelIdeal.Loads Cert.KernelIdeal.Steps Cert.Attn
open Cert.ReferenceIdeal.Stages (colOf)
open Idealize.ShloMosaic Idealize.ShloMosaic.TcCoe

variable (m : (ℓ : Loc nD τ sig) → Buf (Elt Ideal) ℓ)

/-- The prompt of a grid point. -/
abbrev bat (t : Fin cfg0.N) : Fin 2 := grid0.coords t 0
/-- The head of a grid point. -/
abbrev hd (t : Fin cfg0.N) : Fin 8 := grid0.coords t 1

/-! The index maps, at a grid point. -/

/-- The queries' block: its index. -/
theorem idx0 : ∀ t : Fin cfg0.N, win0_0.index t = ![(grid0.coords t 0).val, 0, 40 + (grid0.coords t 1).val] :=
  (by decide +kernel : ∀ t : Fin grid0.N, _)
/-- The keys' block: its index. -/
theorem idx1 : ∀ t : Fin cfg0.N, win0_1.index t = ![(grid0.coords t 0).val, 0, 48 + (grid0.coords t 1).val] :=
  (by decide +kernel : ∀ t : Fin grid0.N, _)
/-- The values' block: its index. -/
theorem idx2 : ∀ t : Fin cfg0.N, win0_2.index t = ![(grid0.coords t 0).val, 0, 56 + (grid0.coords t 1).val] :=
  (by decide +kernel : ∀ t : Fin grid0.N, _)
/-- The gate's block: its index. -/
theorem idx3 : ∀ t : Fin cfg0.N, win0_3.index t = ![(grid0.coords t 0).val, 0, 64 + (grid0.coords t 1).val] :=
  (by decide +kernel : ∀ t : Fin grid0.N, _)
/-- The lambdas' vectors, whole: its index. -/
theorem idx4 : ∀ t : Fin cfg0.N, win0_4.index t = ![0, 0] := (by decide +kernel : ∀ t : Fin grid0.N, _)
/-- The norm weight's block: its index. -/
theorem idx5 : ∀ t : Fin cfg0.N, win0_5.index t = ![0, (grid0.coords t 1).val] := (by decide +kernel : ∀ t : Fin grid0.N, _)
/-- The output's block: its index. -/
theorem idx6 : ∀ t : Fin cfg0.N, win0_6.index t = ![(grid0.coords t 0).val, 0, (grid0.coords t 1).val] :=
  (by decide +kernel : ∀ t : Fin grid0.N, _)

/-- The queries' block: the head's columns of the prompt. -/
theorem iblk0 (c : Dev nD) (t : Fin cfg0.N) (r : Fin 4096) (d : Fin 128) :
    iblk m c 0 t (ix3 0 r d) = m ((c.tc : Thread nD τ).loc main_arg0) (ix3 (bat t) r (colOf 5120 (by omega) (hd t) d)) := by
  blk_simp [iblk, V_main_arg0]
  refine congrArg _ ?_
  have h0 : (bat t : ℕ) = (grid0.coords t 0 : ℕ) := rfl
  have h1 : (hd t : ℕ) = (grid0.coords t 1 : ℕ) := rfl
  blk_ext [idx0]
  all_goals omega

/-- The keys' block. -/
theorem iblk1 (c : Dev nD) (t : Fin cfg0.N) (r : Fin 4096) (d : Fin 128) :
    iblk m c 1 t (ix3 0 r d) = m ((c.tc : Thread nD τ).loc main_arg0) (ix3 (bat t) r (colOf 6144 (by omega) (hd t) d)) := by
  blk_simp [iblk, V_main_arg0]
  refine congrArg _ ?_
  have h0 : (bat t : ℕ) = (grid0.coords t 0 : ℕ) := rfl
  have h1 : (hd t : ℕ) = (grid0.coords t 1 : ℕ) := rfl
  blk_ext [idx1]
  all_goals omega

/-- The values' block. -/
theorem iblk2 (c : Dev nD) (t : Fin cfg0.N) (r : Fin 4096) (d : Fin 128) :
    iblk m c 2 t (ix3 0 r d) = m ((c.tc : Thread nD τ).loc main_arg0) (ix3 (bat t) r (colOf 7168 (by omega) (hd t) d)) := by
  blk_simp [iblk, V_main_arg0]
  refine congrArg _ ?_
  have h0 : (bat t : ℕ) = (grid0.coords t 0 : ℕ) := rfl
  have h1 : (hd t : ℕ) = (grid0.coords t 1 : ℕ) := rfl
  blk_ext [idx2]
  all_goals omega

/-- The gate's block. -/
theorem iblk3 (c : Dev nD) (t : Fin cfg0.N) (r : Fin 4096) (d : Fin 128) :
    iblk m c 3 t (ix3 0 r d) = m ((c.tc : Thread nD τ).loc main_arg0) (ix3 (bat t) r (colOf 8192 (by omega) (hd t) d)) := by
  blk_simp [iblk, V_main_arg0]
  refine congrArg _ ?_
  have h0 : (bat t : ℕ) = (grid0.coords t 0 : ℕ) := rfl
  have h1 : (hd t : ℕ) = (grid0.coords t 1 : ℕ) := rfl
  blk_ext [idx3]
  all_goals omega

/-- The lambdas' vectors. -/
theorem iblk4 (c : Dev nD) (t : Fin cfg0.N) (i : Fin 4) (e : Fin 64) :
    iblk m c 4 t (ix2 i e) = m ((c.tc : Thread nD τ).loc main_arg1) (ix2 i e) := by
  blk_simp [iblk, V_main_arg1]
  refine congrArg _ ?_
  blk_ext [idx4]

/-- The head's norm weight. -/
theorem iblk5 (c : Dev nD) (t : Fin cfg0.N) (d : Fin 128) :
    iblk m c 5 t (ix2 0 d) = m ((c.tc : Thread nD τ).loc main_arg2) (ix2 0 (⟨128 * hd t + d, by omega⟩ : Fin 1024)) := by
  blk_simp [iblk, V_main_arg2]
  refine congrArg _ ?_
  have h0 : (bat t : ℕ) = (grid0.coords t 0 : ℕ) := rfl
  have h1 : (hd t : ℕ) = (grid0.coords t 1 : ℕ) := rfl
  blk_ext [idx5]
  all_goals omega

/-- The output's array is the reference of the arguments, where the queries, the keys, the values and the lambdas' vectors are real. -/
theorem array (c : Dev nD) (hu : ∀ (b : Fin 2) (r : Fin 4096) (e : Fin 3072), m ((c.tc : Thread nD τ).loc main_arg0) (ix3 b r (⟨5120 + e, by omega⟩ : Fin 13312)) = ((m ((c.tc : Thread nD τ).loc main_arg0) (ix3 b r (⟨5120 + e, by omega⟩ : Fin 13312)) : EReal).toReal : EReal))
    (Λ : ℝ) (hΛ : Cert.ReferenceIdeal.Read.val_main_v22 (F := Ideal) (m ((c.tc : Thread nD τ).loc main_arg1)) ix0 = (Λ : EReal)) :
    (dats m 0 c).arrAt 6 cfg0.N = Cert.ReferenceIdeal.Read.val_main_v71 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t hf y => ?_
  blk_simp
  rw [after0_6]
  unfold outsAt0
  rw [block]
  have ha : y = ix3 0 (y 1) (y 2) := funext fun a => by
    match a with
    | ⟨0, _⟩ => exact Subsingleton.elim (α := Fin 1) _ _
    | ⟨1, _⟩ => rfl
    | ⟨2, _⟩ => rfl
  obtain ⟨r, d, ha⟩ : ∃ (r : Fin 4096) (d : Fin 128), y = ix3 0 r d := ⟨y 1, y 2, ha⟩
  subst ha
  have hd1 := (hd t).isLt
  have hd2 := d.isLt
  have he : ((win0_6.blk t).view.emb (ix3 0 r d)) = ix3 (bat t) r (⟨128 * hd t + d, by omega⟩ : Fin 1024) := by
    have h0 : (bat t : ℕ) = (grid0.coords t 0 : ℕ) := rfl
    have h1 : (hd t : ℕ) = (grid0.coords t 1 : ℕ) := rfl
    blk_ext [idx6]
    all_goals omega
  refine Eq.trans ?_ (congrArg _ he.symm)
  have hc : ∀ (s : ℕ) (hs : s ≤ 7168) (h5 : 5120 ≤ s) (r : Fin 4096) (d : Fin 128), m ((c.tc : Thread nD τ).loc main_arg0) (ix3 (bat t) r (colOf s (by omega) (hd t) d))
      = ((m ((c.tc : Thread nD τ).loc main_arg0) (ix3 (bat t) r (colOf s (by omega) (hd t) d)) : EReal).toReal : EReal) := by
    intro s hs h5 r d
    have hl := d.isLt
    have e : (⟨5120 + ((⟨s - 5120 + (128 * hd t + d), by omega⟩ : Fin 3072) : ℕ), by omega⟩ : Fin 13312) = colOf s (by omega) (hd t) d :=
      Fin.ext (by show 5120 + (s - 5120 + (128 * (hd t : ℕ) + d)) = s + (128 * hd t + d); omega)
    have := hu (bat t) r ⟨s - 5120 + (128 * hd t + d), by omega⟩
    rw [e] at this
    exact this
  have hq := hc 5120 (by omega) (by omega)
  have hk := hc 6144 (by omega) (by omega)
  have hv := hc 7168 (by omega) (by omega)
  refine Eq.trans ?_ (Cert.ReferenceIdeal.Stages.out_at _ _ _ (bat t) r (hd t) d).symm
  rw [show (fun e => Cert.ReferenceIdeal.Read.val_main_v52 (F := Ideal) (m ((c.tc : Thread nD τ).loc main_arg0)) (m ((c.tc : Thread nD τ).loc main_arg1)) (ix4 (bat t) r (hd t) e))
      = _ from funext fun e => Cert.ReferenceIdeal.Stages.att_real hq hk hv Λ hΛ r e]
  refine (Cert.KernelIdeal.Cols.out_at (fun r d => (iblk0 m c t r d).trans (hq r d)) (fun r d => (iblk1 m c t r d).trans (hk r d))
    (fun r d => (iblk2 m c t r d).trans (hv r d)) (iblk m c 3 t) (iblk m c 4 t) (iblk m c 5 t) Λ ?_ ((r : ℕ) / 512) (by omega)
    (⟨(r : ℕ) % 512, by omega⟩ : Fin 512) d).trans ?_
  · rw [Cert.KernelIdeal.Cols.lam_at, ← hΛ, Cert.ReferenceIdeal.Stages.lam_at]
    simp only [iblk4]
  · have hrow : rowOf ((r : ℕ) / 512) ((r : ℕ) % 512) = r := Fin.ext (by rw [rowOf_val _ _ (by omega)]; omega)
    simp only [hrow, iblk3, iblk5]

end Cert.KernelIdeal.Final

end
-- ==== Proof.Finite.lean ====
/- What the precondition says of an argument's entry: it is a real number. -/
module

public import proofs.«01_k».proof.Defs
public import proofs.«01_k».proof.Proof.Gen.Pre_finite
public import proofs.«01_k».proof.Proof.RefReal

@[expose] public section

set_option maxRecDepth 16384

noncomputable section

namespace Cert.Finite

open Cert.ReferenceIdeal Cert.ReferenceIdeal.Gen
open Idealize.ShloMosaic Idealize.ShloMosaic.TcCoe

/-- An extended real whose absolute value compares below plus infinity is a real number. -/
theorem real_of_lt (x : EReal) (h : FloatOps.cmpf (F := Ideal) (φ := .f32) .olt (FloatOps.absf (F := Ideal) (φ := .f32) x) (Ideal.ofBits .f32 0x7F800000#32) = 1#1) :
    x = (x.toReal : EReal) := by
  have ht : (Ideal.ofBits .f32 0x7F800000#32 : EReal) = ⊤ := by simp [Ideal.ofBits, Ideal.ieee]
  rw [ht] at h
  induction x with
  | bot => simp [FloatOps.cmpf, FloatOps.absf, Ideal.cmp] at h
  | top => simp [FloatOps.cmpf, FloatOps.absf, Ideal.cmp] at h
  | coe x => rfl

/-- The queries', keys' and values' entries are real. -/
theorem cols (u : Vec Ideal S2x4096x13312 .f32) (lq : Vec Ideal S4x64 .f32) (nw : Vec Ideal S1x1024 .f32)
    (h : (Cert.Pre_finite.fn (F := Ideal) u lq nw).1 = fun _ => 1#1) (b : Fin 2) (r : Fin 4096) (e : Fin 3072) :
    u (ix3 b r (⟨5120 + e, by omega⟩ : Fin 13312)) = ((u (ix3 b r (⟨5120 + e, by omega⟩ : Fin 13312))).toReal : EReal) := by
  have h1 := congrFun h (ix3 b r e)
  refine real_of_lt _ (Eq.trans ?_ h1)
  pointwise [Cert.Pre_finite.fn]

/-- The lambdas' vectors' entries are real. -/
theorem vecs (u : Vec Ideal S2x4096x13312 .f32) (lq : Vec Ideal S4x64 .f32) (nw : Vec Ideal S1x1024 .f32)
    (h : (Cert.Pre_finite.fn (F := Ideal) u lq nw).2 = fun _ => 1#1) (i : Fin 4) (e : Fin 64) : lq (ix2 i e) = ((lq (ix2 i e)).toReal : EReal) := by
  have h1 := congrFun h (ix2 i e)
  refine real_of_lt _ (Eq.trans ?_ h1)
  pointwise [Cert.Pre_finite.fn]

/-- The difference's factor, from finite vectors, is a real number. -/
theorem lam_real (lq : Vec Ideal S4x64 .f32) (h : ∀ i e, lq (ix2 i e) = ((lq (ix2 i e)).toReal : EReal)) :
    ∃ Λ : ℝ, Ideal.exp (∑ x : Fin 64, lq (ix2 0 x) * lq (ix2 1 x)) - Ideal.exp (∑ x : Fin 64, lq (ix2 2 x) * lq (ix2 3 x)) + Ideal.ofBits .f32 0x3E4CCCCD#32
      = (Λ : EReal) := by
  have s : ∀ i j, ∑ x : Fin 64, lq (ix2 i x) * lq (ix2 j x) = ((∑ x : Fin 64, (lq (ix2 i x)).toReal * (lq (ix2 j x)).toReal : ℝ) : EReal) := by
    intro i j
    rw [Cert.Softmax.coe_sum]
    refine Finset.sum_congr rfl fun x _ => ?_
    rw [EReal.coe_mul, ← h, ← h]
  have hc : ∃ κ : ℝ, (Ideal.ofBits .f32 0x3E4CCCCD#32 : EReal) = (κ : EReal) := by
    simp [Ideal.ofBits, Ideal.ieee]
    exact ⟨_, (EReal.coe_mul _ _).symm⟩
  obtain ⟨κ, hκ⟩ := hc
  rw [s, s, hκ, Ideal.exp_coe, Ideal.exp_coe]
  exact ⟨_ - _ + κ, by rw [EReal.coe_add, EReal.coe_sub]⟩

end Cert.Finite

end
-- ==== Proof.Out.lean ====
/- The output projection: what a block of rows computes, and that it is the reference's. -/
module

public import Idealize.ShloMosaic.Lib.Pipeline.ValueKit
public import Idealize.ShloMosaic.Lib.Pointwise
public import proofs.«01_k».proof.Proof.Gen.Kernel2Ideal.Value
public import proofs.«01_k».proof.Proof.Gen.Reference2Ideal.Read

@[expose] public section

set_option maxRecDepth 16384

noncomputable section

namespace Cert.Kernel2Ideal.Out

open Cert.Kernel2Ideal Cert.Kernel2Ideal.Gen
open Idealize.ShloMosaic Idealize.ShloMosaic.TcCoe

/-- The gated merge of the two branches' projections. -/
def merged {F : FTy → Type} [FloatOps F] (oa : Vec F S256x1024 .bf16) (wa : Vec F S1024x2048 .bf16) (om : Vec F S256x1024 .bf16) (wm : Vec F S1024x2048 .bf16)
    (ga gm : Vec F S256x2048 .f32) : FVec F S256x2048 .f32 :=
  addf (mulf (logistic ga) (matmul dot_S256x1024_S1024x2048_S256x2048_1_0_0_1_n_n none oa wa (constant S256x2048 .f32 0x00000000#32)))
    (mulf (logistic gm) (matmul dot_S256x1024_S1024x2048_S256x2048_1_0_0_1_n_n none om wm (constant S256x2048 .f32 0x00000000#32)))

/-- Its product with the output's weights. -/
def outp {F : FTy → Type} [FloatOps F] (y : FVec F S256x2048 .f32) (wo : Vec F S2048x2048 .bf16) : FVec F S256x2048 .f32 :=
  matmul dot_S256x2048_S2048x2048_S256x2048_1_0_0_1_n_n none (truncf .bf16 y bitsLt_bf16_f32) wo (constant S256x2048 .f32 0x00000000#32)

/-- A row's mean square. -/
def msq {F : FTy → Type} [FloatOps F] (o : FVec F S256x2048 .f32) : FVec F S256x1 .f32 :=
  divf (shapeCast S256x1 (multiReduction .add [1] S256 (mulf o o) 0x00000000#32 reduces_S256x2048_S256 (.inl rfl) rfl) shapeCasts_S256_S256x1)
    (broadcast S256x1 (Scalar.ofBits .f32 0x45000000#32))

/-- The normed row beside the residual. -/
def normed {F : FTy → Type} [FloatOps F] (x o : FVec F S256x2048 .f32) (nw : Vec F S1x2048 .f32) : FVec F S256x2048 .f32 :=
  addf x (mulf (mulf o (broadcastTo S256x2048 (rsqrt (addf (msq o) (broadcast S256x1 (Scalar.ofBits .f32 0x358637BD#32)))) broadcasts_S256x1_S256x2048))
    (broadcastTo S256x2048 nw broadcasts_S1x2048_S256x2048))

/-- What a grid point stores. -/
theorem pay {F : FTy → Type} [FloatOps F] (oa : Vec F S256x1024 .bf16) (wa : Vec F S1024x2048 .bf16) (om : Vec F S256x1024 .bf16) (wm : Vec F S1024x2048 .bf16)
    (ga gm : Vec F S256x2048 .f32) (wo : Vec F S2048x2048 .bf16) (nw : Vec F S1x2048 .f32) (x : Vec F S256x2048 .f32) :
    k0_pay1 oa wa om wm ga gm wo nw x = normed x (outp (merged oa wa om wm ga gm) wo) nw := rfl

/-- The merge at an entry. -/
def mix (ga gm : EReal) (oa wa om wm : Fin 1024 → EReal) : EReal :=
  Ideal.logistic ga * ∑ k, oa k * wa k + Ideal.logistic gm * ∑ k, om k * wm k

/-- A row normed, weighed and added to the residual, at an entry. -/
def res (x : EReal) (o : Fin 2048 → EReal) (nw : EReal) (e : Fin 2048) : EReal :=
  x + o e * Ideal.rsqrt (Ideal.div (∑ k, o k * o k) (Ideal.ofBits .f32 0x45000000#32) + Ideal.ofBits .f32 0x358637BD#32) * nw

/-- The block's merge at an entry. -/
theorem merged_at (oa : Vec Ideal S256x1024 .bf16) (wa : Vec Ideal S1024x2048 .bf16) (om : Vec Ideal S256x1024 .bf16) (wm : Vec Ideal S1024x2048 .bf16)
    (ga gm : Vec Ideal S256x2048 .f32) (r : Fin 256) (e : Fin 2048) :
    merged oa wa om wm ga gm (ix2 r e) = mix (ga (ix2 r e)) (gm (ix2 r e)) (fun k => oa (ix2 r k)) (fun k => wa (ix2 k e)) (fun k => om (ix2 r k)) fun k => wm (ix2 k e) := by
  pointwise [merged]
  rfl

/-- The block's output product at an entry. -/
theorem outp_at (y : FVec Ideal S256x2048 .f32) (wo : Vec Ideal S2048x2048 .bf16) (r : Fin 256) (e : Fin 2048) :
    outp y wo (ix2 r e) = ∑ k : Fin 2048, y (ix2 r k) * wo (ix2 k e) := by
  pointwise [outp]

/-- A row's mean square, as a sum. -/
theorem msq_at (o : FVec Ideal S256x2048 .f32) (r : Fin 256) :
    msq o (ix2 r 0) = Ideal.div (∑ k : Fin 2048, o (ix2 r k) * o (ix2 r k)) (Ideal.ofBits .f32 0x45000000#32) := by
  pointwise [msq]

/-- The block's result at an entry. -/
theorem normed_at (x o : FVec Ideal S256x2048 .f32) (nw : Vec Ideal S1x2048 .f32) (r : Fin 256) (e : Fin 2048) :
    normed x o nw (ix2 r e) = res (x (ix2 r e)) (fun k => o (ix2 r k)) (nw (ix2 0 e)) e := by
  unfold res
  rw [← msq_at]
  unfold normed
  generalize msq o = y
  pointwise []

/-! ## The reference -/

section Reference
open Cert.Reference2Ideal.Read

variable (x : Vec Ideal Cert.Reference2Ideal.S8192x2048 .f32) (oa om : Vec Ideal Cert.Reference2Ideal.S8192x1024 .bf16)
  (u : Vec Ideal Cert.Reference2Ideal.S8192x13312 .f32) (wa wm : Vec Ideal Cert.Reference2Ideal.S1024x2048 .bf16)
  (wo : Vec Ideal Cert.Reference2Ideal.S2048x2048 .bf16) (nw : Vec Ideal Cert.Reference2Ideal.S1x2048 .f32)

/-- The column of the projections where the gate of entry `e` stands, in the run of 2048 columns that starts at `c`. -/
abbrev gateCol (c : ℕ) (hc : c ≤ 2048) (e : Fin 2048) : Fin 13312 := ⟨c + e, by omega⟩

/-- The reference's merge at an entry. -/
theorem ref_merged_at (r : Fin 8192) (e : Fin 2048) :
    val_main_v22 (F := Ideal) oa om u wa wm (ix2 r e)
      = mix (u (ix2 r (gateCol 0 (by omega) e))) (u (ix2 r (gateCol 2048 (by omega) e))) (fun k => oa (ix2 r k)) (fun k => wa (ix2 k e)) (fun k => om (ix2 r k)) fun k => wm (ix2 k e) := by
  have h0 : gateCol 0 (by omega) e = (⟨(e : ℕ), by omega⟩ : Fin 13312) := Fin.ext (Nat.zero_add _)
  rw [h0]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]
  rfl

/-- The reference's output product at an entry. -/
theorem ref_outp_at (r : Fin 8192) (e : Fin 2048) :
    val_main_v24 (F := Ideal) oa om u wa wm wo (ix2 r e) = ∑ k : Fin 2048, val_main_v22 (F := Ideal) oa om u wa wm (ix2 r k) * wo (ix2 k e) := by
  unfold val_main_v24
  generalize val_main_v22 (F := Ideal) oa om u wa wm = y
  pointwise [val_main_v23]

/-- The reference's result at an entry. -/
theorem ref_at (r : Fin 8192) (e : Fin 2048) :
    val_main_v37 (F := Ideal) x oa om u wa wm wo nw (ix2 r e) = res (x (ix2 r e)) (fun k => val_main_v24 (F := Ideal) oa om u wa wm wo (ix2 r k)) (nw (ix2 0 e)) e := by
  unfold val_main_v37 val_main_v36 val_main_v34 val_main_v33 val_main_v32 val_main_v31 val_main_v29 val_main_v27 val_main_v26 val_main_v25
  generalize val_main_v24 (F := Ideal) oa om u wa wm wo = y
  pointwise [val_main_v28, val_main_v30, val_main_v35, val_main_cst_3, val_main_cst_4, val_main_cst_5]
  rfl

end Reference

/-! ## The array -/

/-- A grid point leaves its rows in the output's buffer. -/
theorem block {F : FTy → Type} [FloatOps F] (c : Dev nD) (i : grid0.Coords) (arg1 : Memref sig .tc .vmem S256x2048 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S256x2048 .f32) (harg10 : arg10.IsWhole)
    (x0 : Vec F S256x2048 .f32) (x1 : Vec F S256x1024 .bf16) (x2 : Vec F S256x1024 .bf16) (x3 : Vec F S256x2048 .f32) (x4 : Vec F S256x2048 .f32) (x5 : Vec F S1024x2048 .bf16) (x6 : Vec F S1024x2048 .bf16) (x7 : Vec F S2048x2048 .bf16) (x8 : Vec F S1x2048 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = normed x0 (outp (merged x1 x5 x2 x6 x3 x4) x7) x8 := by
  frame_out
  rfl

variable (m : (ℓ : Loc nD τ sig) → Buf (Elt Ideal) ℓ)

/-- A grid point. -/
abbrev pt (t : Fin cfg0.N) : Fin 32 := grid0.coords t 0
/-- The array's row of a block's row. -/
abbrev rowOf (t : Fin cfg0.N) (r : Fin 256) : Fin 8192 := ⟨256 * pt t + r, by omega⟩

/-- The residual's block: its index. -/
theorem idx0 : ∀ t : Fin cfg0.N, win0_0.index t = ![(grid0.coords t 0).val, 0] := (by decide +kernel : ∀ t : Fin grid0.N, _)
/-- The attention's block: its index. -/
theorem idx1 : ∀ t : Fin cfg0.N, win0_1.index t = ![(grid0.coords t 0).val, 0] := (by decide +kernel : ∀ t : Fin grid0.N, _)
/-- The mLSTM's block: its index. -/
theorem idx2 : ∀ t : Fin cfg0.N, win0_2.index t = ![(grid0.coords t 0).val, 0] := (by decide +kernel : ∀ t : Fin grid0.N, _)
/-- The attention gate's block: its index. -/
theorem idx3 : ∀ t : Fin cfg0.N, win0_3.index t = ![(grid0.coords t 0).val, 0] := (by decide +kernel : ∀ t : Fin grid0.N, _)
/-- The mLSTM gate's block: its index. -/
theorem idx4 : ∀ t : Fin cfg0.N, win0_4.index t = ![(grid0.coords t 0).val, 1] := (by decide +kernel : ∀ t : Fin grid0.N, _)
/-- The attention's weights: its index. -/
theorem idx5 : ∀ t : Fin cfg0.N, win0_5.index t = ![0, 0] := (by decide +kernel : ∀ t : Fin grid0.N, _)
/-- The mLSTM's weights: its index. -/
theorem idx6 : ∀ t : Fin cfg0.N, win0_6.index t = ![0, 0] := (by decide +kernel : ∀ t : Fin grid0.N, _)
/-- The output's weights: its index. -/
theorem idx7 : ∀ t : Fin cfg0.N, win0_7.index t = ![0, 0] := (by decide +kernel : ∀ t : Fin grid0.N, _)
/-- The norm's weights: its index. -/
theorem idx8 : ∀ t : Fin cfg0.N, win0_8.index t = ![0, 0] := (by decide +kernel : ∀ t : Fin grid0.N, _)
/-- The output's block: its index. -/
theorem idx9 : ∀ t : Fin cfg0.N, win0_9.index t = ![(grid0.coords t 0).val, 0] := (by decide +kernel : ∀ t : Fin grid0.N, _)

/-- The residual's block. -/
theorem iblk0 (c : Dev nD) (t : Fin cfg0.N) (r : Fin 256) (e : Fin 2048) :
    iblk m c 0 t (ix2 r e) = m ((c.tc : Thread nD τ).loc main_arg0) (ix2 (rowOf t r) e) := by
  blk_simp [iblk, V_main_arg0]
  refine congrArg _ ?_
  have h0 : (pt t : ℕ) = (grid0.coords t 0 : ℕ) := rfl
  blk_ext [idx0]
  all_goals omega

/-- The attention's block. -/
theorem iblk1 (c : Dev nD) (t : Fin cfg0.N) (r : Fin 256) (e : Fin 1024) :
    iblk m c 1 t (ix2 r e) = m ((c.tc : Thread nD τ).loc main_arg1) (ix2 (rowOf t r) e) := by
  blk_simp [iblk, V_main_arg1]
  refine congrArg _ ?_
  have h0 : (pt t : ℕ) = (grid0.coords t 0 : ℕ) := rfl
  blk_ext [idx1]
  all_goals omega

/-- The mLSTM's block. -/
theorem iblk2 (c : Dev nD) (t : Fin cfg0.N) (r : Fin 256) (e : Fin 1024) :
    iblk m c 2 t (ix2 r e) = m ((c.tc : Thread nD τ).loc main_arg2) (ix2 (rowOf t r) e) := by
  blk_simp [iblk, V_main_arg2]
  refine congrArg _ ?_
  have h0 : (pt t : ℕ) = (grid0.coords t 0 : ℕ) := rfl
  blk_ext [idx2]
  all_goals omega

/-- The attention's weights. -/
theorem iblk5 (c : Dev nD) (t : Fin cfg0.N) (k : Fin 1024) (e : Fin 2048) :
    iblk m c 5 t (ix2 k e) = m ((c.tc : Thread nD τ).loc main_arg4) (ix2 k e) := by
  blk_simp [iblk, V_main_arg4]
  refine congrArg _ ?_
  blk_ext [idx5]

/-- The mLSTM's weights. -/
theorem iblk6 (c : Dev nD) (t : Fin cfg0.N) (k : Fin 1024) (e : Fin 2048) :
    iblk m c 6 t (ix2 k e) = m ((c.tc : Thread nD τ).loc main_arg5) (ix2 k e) := by
  blk_simp [iblk, V_main_arg5]
  refine congrArg _ ?_
  blk_ext [idx6]

/-- The output's weights. -/
theorem iblk7 (c : Dev nD) (t : Fin cfg0.N) (k : Fin 2048) (e : Fin 2048) :
    iblk m c 7 t (ix2 k e) = m ((c.tc : Thread nD τ).loc main_arg6) (ix2 k e) := by
  blk_simp [iblk, V_main_arg6]
  refine congrArg _ ?_
  blk_ext [idx7]

/-- The norm's weights. -/
theorem iblk8 (c : Dev nD) (t : Fin cfg0.N) (e : Fin 2048) :
    iblk m c 8 t (ix2 0 e) = m ((c.tc : Thread nD τ).loc main_arg7) (ix2 0 e) := by
  blk_simp [iblk, V_main_arg7]
  refine congrArg _ ?_
  blk_ext [idx8]

/-- The attention gate's block. -/
theorem X3 (c : Dev nD) (t : Fin cfg0.N) (r : Fin 256) (e : Fin 2048) :
    X0_3 m c t (ix2 r e) = m ((c.tc : Thread nD τ).loc main_arg3) (ix2 (rowOf t r) (gateCol 0 (by omega) e)) := by
  unfold X0_3 Pipeline.Window.fill
  rw [dif_pos (moved0_3 t _)]
  blk_simp [iblk, V_main_arg3]
  refine congrArg _ ?_
  have h0 : (pt t : ℕ) = (grid0.coords t 0 : ℕ) := rfl
  blk_ext [idx3]
  all_goals omega

/-- The mLSTM gate's block. -/
theorem X4 (c : Dev nD) (t : Fin cfg0.N) (r : Fin 256) (e : Fin 2048) :
    X0_4 m c t (ix2 r e) = m ((c.tc : Thread nD τ).loc main_arg3) (ix2 (rowOf t r) (gateCol 2048 (by omega) e)) := by
  unfold X0_4 Pipeline.Window.fill
  rw [dif_pos (moved0_4 t _)]
  blk_simp [iblk, V_main_arg3]
  refine congrArg _ ?_
  have h0 : (pt t : ℕ) = (grid0.coords t 0 : ℕ) := rfl
  blk_ext [idx4]
  all_goals omega

/-- The output's array is the reference of the arguments. -/
theorem array (c : Dev nD) :
    (dats m 0 c).arrAt 9 cfg0.N = Cert.Reference2Ideal.Read.val_main_v37 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 9 _ (by decide +kernel) fun t hf y => ?_
  blk_simp
  rw [after0_9]
  unfold outsAt0
  rw [block]
  obtain ⟨r, e, rfl⟩ : ∃ (r : Fin 256) (e : Fin 2048), y = ix2 r e := ⟨y 0, y 1, funext fun a => by
    match a with
    | ⟨0, _⟩ => rfl
    | ⟨1, _⟩ => rfl⟩
  have he : ((win0_9.blk t).view.emb (ix2 r e)) = ix2 (rowOf t r) e := by
    have h0 : (pt t : ℕ) = (grid0.coords t 0 : ℕ) := rfl
    blk_ext [idx9]
    all_goals omega
  refine Eq.trans ?_ (congrArg _ he.symm)
  refine ((normed_at _ _ _ r e).trans ?_).trans (ref_at _ _ _ _ _ _ _ _ (rowOf t r) e).symm
  refine congr (congr (congr (congrArg res (iblk0 m c t r e)) (funext fun k => ?_)) (iblk8 m c t e)) rfl
  refine (outp_at _ _ r k).trans ((Finset.sum_congr rfl fun j _ => congrArg₂ (· * ·) ?_ (iblk7 m c t j k)).trans (ref_outp_at _ _ _ _ _ _ (rowOf t r) k).symm)
  refine (merged_at _ _ _ _ _ _ r j).trans (Eq.trans ?_ (ref_merged_at _ _ _ _ _ (rowOf t r) j).symm)
  simp only [iblk1, iblk2, iblk5, iblk6, X3, X4]

end Cert.Kernel2Ideal.Out

end
-- ==== Proof.Proj.lean ====
/-
  The input projection: its body, run once at any grid point; what its buffers hold from point to point; and what its
  whole run leaves in its arrays. Everything here holds at any values, so it serves the program and its idealization.
-/
module

public import proofs.«01_k».proof.Proof.Gen.Kernel3Ideal.Frame
public import proofs.«01_k».proof.Proof.Gen.Kernel3Ideal.Skeleton
public import Idealize.ShloMosaic.Lib.Pipeline.Value
public import Idealize.ShloMosaic.Lib.WordCmp
public import Idealize.ShloMosaic.Lib.Claim
public import Idealize.ShloMosaic.Lib.Pointwise
public import Idealize.ShloMosaic.Lib.Writes

@[expose] public section

set_option maxRecDepth 16384

noncomputable section

namespace Cert.Kernel3Ideal.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The assertions of the run: about this program's buffers, at the values `F`. -/
abbrev Assert (F : FTy → Type) [FloatOps F] : Type _ := sProp (MT nD τ sig Unit (Elt F) ℕ (UR sig nD τ) ℕ)

/-- The offsets of a whole two-dimensional rectangle, written as a literal, are zero. -/
theorem hz2 : (![0, 0] : Fin 2 → ℕ) = fun _ => 0 := by decide

/-- A buffer stored into once, through the whole rectangle, reads back the stored vector. -/
theorem read_whole_store {sig : RefSig} {κ : Kind} {sp : Space} {S : Shape} {e : EltTy} {Val : EltTy → Type}
    (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb (Val := Val) v f (Rect.whole S) w [] y
  rw [Rect.emb_whole_apply] at e
  exact e

/-- A whole buffer holding `X`, loaded through the whole rectangle, gives `X`. -/
theorem readAt_whole {sig : RefSig} {κ : Kind} {sp : Space} {S : Shape} {e : EltTy} {Val : EltTy → Type}
    {m : Memref sig κ sp S e} (hm : m.IsWhole) (X : S.Idx → Val e) {off : Fin S.rank → ℕ} (h : off = fun _ => 0)
    (inb : ∀ a, off a + S.size a ≤ S.size a) :
    View.readAt Val m.view (Rect.unit off S.size inb).toLoadRect (hm.unread X) = X := by
  rw [View.readAt_eq_ld, hm.read_unread, View.ld_unit_zero h]

/-- A block of columns stored by head: row `8 r + h` holds columns `128 h` to `128 h + 127` of row `r`. -/
def rows (u : Vec F S1024x1024 .f32) : Vec F S1x8192x128 .f32 := fun y =>
  u (ix2 ⟨(y 1).val / 8, by have h : (y 1).val < 8192 := (y 1).isLt; omega⟩
    ⟨128 * ((y 1).val % 8) + (y 2).val, by have h : (y 2).val < 128 := (y 2).isLt; omega⟩)

/-- Head `h`'s columns are a slice of the block. -/
theorem slices_head (h : Fin 8) : S1024x1024.Slices ![0, 128 * h.val] S1024x128 := by revert h; decide

/-- Head `h`'s rows start inside the block of keys and stay in it. -/
theorem inb_head (h : Fin 8) : ∀ a, S1x1024x128.size a = 0
    ∨ (![0, h.val, 0] : Fin 3 → ℕ) a + (![1, 8, 1] : Fin 3 → ℕ) a * (S1x1024x128.size a - 1) < S1x8192x128.size a := by
  revert h; decide

/-- Head `h`'s columns of a block, as the body stores them. -/
def head (h : Fin 8) (u : Vec F S1024x1024 .f32) : Vec F S1x1024x128 .f32 :=
  shapeCast S1x1024x128 (extractStridedSlice S1024x128 ![0, 128 * h.val] u (slices_head h)) shapeCasts_S1024x128_S1x1024x128

/-- The element of head `h` in row `r` and column `l` is the block's in column `128 h + l`. -/
theorem head_apply (h : Fin 8) (u : Vec F S1024x1024 .f32) (x : S1x1024x128.Idx) :
    head h u x = u (ix2 (x 1) ⟨128 * h.val + (x 2).val, by have h2 : (x 2).val < 128 := (x 2).isLt; omega⟩) := by
  have h0 : (x 0).val < 1 := (x 0).isLt
  unfold head
  rw [shapeCast_apply _ _ x (ix2 (x 1) (x 2) : S1024x128.Idx) (by
    rw [Shape.rowMajor_val_two, Shape.rowMajor_val_three]
    show (x 1).val * 128 + (x 2).val = ((x 0).val * 1024 + (x 1).val) * 128 + (x 2).val
    omega)]
  refine extractStridedSlice_apply _ _ _ _ _ fun a => ?_
  match a with
  | 0 => exact (Nat.zero_add _).symm
  | 1 => rfl

/-- The store of head `h`: one row of every eight, from row `h`. -/
def piece (h : Fin 8) (u : Vec F S1024x1024 .f32) : View.Piece (Elt F) S1x8192x128 .f32 :=
  ⟨⟨⟨![0, h.val, 0], S1x1024x128.size, ![1, 8, 1], inb_head h⟩, spos_1_8_1⟩, head h u⟩

/-- A buffer that the eight heads of a block were stored into reads back the block by head. -/
theorem read_rows {sig : RefSig} {κ : Kind} {sp : Space} (v : View sig κ sp S1x8192x128 .f32) (f : v.ty.Contents (Elt F))
    (u : Vec F S1024x1024 .f32) :
    v.read (Elt F) (v.writes (Elt F) f
      [piece 7 u, piece 6 u, piece 5 u, piece 4 u, piece 3 u, piece 2 u, piece 1 u, piece 0 u]) = rows u := by
  funext y
  refine View.read_writes_apply_of_pieces v f (rows u) _ (fun p hp x => ?_) y ?_
  · obtain ⟨h, rfl⟩ : ∃ h, p = piece h u := by
      simp only [List.mem_cons, List.not_mem_nil, or_false] at hp
      rcases hp with e | e | e | e | e | e | e | e <;> exact ⟨_, e⟩
    refine (head_apply h u x).trans ?_
    have h1 : (((piece h u).1.emb x) 1).val = h.val + 8 * (x 1).val := rfl
    have h2 : (((piece h u).1.emb x) 2).val = 0 + 1 * (x 2).val := rfl
    unfold rows
    refine congrArg u (funext fun a => Fin.ext ?_)
    match a with
    | 0 =>
      show (x 1).val = (((piece h u).1.emb x) 1).val / 8
      rw [h1]; omega
    | 1 =>
      show 128 * h.val + (x 2).val = 128 * ((((piece h u).1.emb x) 1).val % 8) + (((piece h u).1.emb x) 2).val
      rw [h1, h2]; omega
  · have hy0 : (y 0).val < 1 := (y 0).isLt
    have hy1 : (y 1).val < 8192 := (y 1).isLt
    have hy2 : (y 2).val < 128 := (y 2).isLt
    refine ⟨piece ⟨(y 1).val % 8, Nat.mod_lt _ (by decide)⟩ u, ?_, ?_⟩
    · have all : ∀ h : Fin 8, piece h u ∈
          [piece 7 u, piece 6 u, piece 5 u, piece 4 u, piece 3 u, piece 2 u, piece 1 u, piece 0 u] := by
        intro h; fin_cases h <;> simp
      exact all _
    · refine (LoadRect.mem_set _).mpr fun a => ?_
      match a with
      | 0 => exact ⟨0, (by decide : 0 < 1), (by omega : (y 0).val = 0 + 1 * 0)⟩
      | 1 => exact ⟨(y 1).val / 8, (by omega : (y 1).val / 8 < 1024), (by omega : (y 1).val = (y 1).val % 8 + 8 * ((y 1).val / 8))⟩
      | 2 => exact ⟨(y 2).val, hy2, (by omega : (y 2).val = 0 + 1 * (y 2).val)⟩

set_option maxHeartbeats 4000000 in
/-- The body at any grid point, whichever of its branches it takes: the first result's block is the product of the scratch
and the weights; at a row block's first point the scratch holds the normalised rows and the gates' buffer their product,
at the others both stay; at the point of the keys' columns the keys' buffer takes the first result's block by head, at the
point of the values' columns the values' buffer does, and at the others each stays. -/
theorem run (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S1024x2048 .bf16) (harg4 : arg4.IsWhole)
    (arg5 : Memref sig .tc .vmem S256x2048 .f32) (harg5 : arg5.IsWhole) (arg6 : Memref sig .tc .hbm S2x65536x128 .f32) (harg6 : arg6.IsWhole)
    (arg7 : Memref sig .tc .hbm S2x65536x128 .f32) (harg7 : arg7.IsWhole) (arg8 : Memref sig .tc .vmem S1024x1024 .f32) (harg8 : arg8.IsWhole)
    (arg9 : Memref sig .tc .vmem S1024x256 .f32) (harg9 : arg9.IsWhole) (arg10 : Memref sig .tc .vmem S1x8192x128 .f32) (harg10 : arg10.IsWhole)
    (arg11 : Memref sig .tc .vmem S1x8192x128 .f32) (harg11 : arg11.IsWhole) (arg12 : Memref sig .tc .vmem S1024x2048 .bf16) (harg12 : arg12.IsWhole)
    (x0 : Vec F S1024x2048 .f32) (x1 : Vec F S1x2048 .f32) (x2 : Vec F S1024x2048 .bf16) (x3 : Vec F S256x2048 .f32)
    (x5 : Vec F S1024x256 .f32) (x6 x7 : Vec F S1x8192x128 .f32) (xs : Vec F S1024x2048 .bf16) (K : PUnit → Assert F) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg8 fullShare d) ∗ owns (c : Thread nD τ) arg9 fullShare x5
        ∗ owns (c : Thread nD τ) arg10 fullShare x6 ∗ owns (c : Thread nD τ) arg11 fullShare x7 ∗ owns (c : Thread nD τ) arg12 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg8 fullShare (k0_pay4 (if k0_cond1 i = 1#1 then k0_pay2 x0 x1 else xs) x2)
            ∗ owns (c : Thread nD τ) arg9 fullShare (if k0_cond1 i = 1#1 then k0_pay3 x0 x1 x3 else x5)
            ∗ owns (c : Thread nD τ) arg10 fullShare
                (if k0_cond2 i = 1#1 then rows (k0_pay4 (if k0_cond1 i = 1#1 then k0_pay2 x0 x1 else xs) x2) else x6)
            ∗ owns (c : Thread nD τ) arg11 fullShare
                (if k0_cond3 i = 1#1 then rows (k0_pay4 (if k0_cond1 i = 1#1 then k0_pay2 x0 x1 else xs) x2) else x7)
            ∗ owns (c : Thread nD τ) arg12 fullShare (if k0_cond1 i = 1#1 then k0_pay2 x0 x1 else xs)) -∗ K ⟨⟩))
      ⊢ wp frame (wpE (defs₀ (F := F)) Variants.none c none) Set.univ
          (cc0_in_proj i arg2 harg2 arg3 harg3 arg4 harg4 arg5 harg5 arg6 harg6 arg7 harg7 arg8 harg8 arg9 harg9 arg10 harg10 arg11 harg11 arg12 harg12) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩,
    ⟨%f6, %hf6, H6⟩, ⟨%f7, %hf7, H7⟩, ⟨%fs, %hfs, Hs⟩, Hk⟩
  obtain rfl := harg2.eq_unread hf0; obtain rfl := harg3.eq_unread hf1; obtain rfl := harg4.eq_unread hf2
  obtain rfl := harg5.eq_unread hf3; obtain rfl := harg9.eq_unread hf5; obtain rfl := harg10.eq_unread hf6; obtain rfl := harg11.eq_unread hf7
  obtain rfl := harg12.eq_unread hfs
  by_cases hc1 : k0_cond1 i = 1#1 <;> by_cases hc2 : k0_cond2 i = 1#1 <;> by_cases hc3 : k0_cond3 i = 1#1 <;>
  · sl_exec (disch := first | sl_exact hc1 | sl_exact hc2 | sl_exact hc3)
    sl_step
    iapply Hk
    simp only [hc1, hc2, hc3, if_true, if_false]
    isplitl [H0]; · iexists _; isplitr; swap; · iexact H0
                    ipureintro; exact harg2.read_unread _
    isplitl [H1]; · iexists _; isplitr; swap; · iexact H1
                    ipureintro; exact harg3.read_unread _
    isplitl [H2]; · iexists _; isplitr; swap; · iexact H2
                    ipureintro; exact harg4.read_unread _
    isplitl [H3]; · iexists _; isplitr; swap; · iexact H3
                    ipureintro; exact harg5.read_unread _
    isplitl [H4]
    · iexists _; isplitr; swap; · iexact H4
      ipureintro
      rw [read_whole_store _ _ hz2, readAt_whole harg4 _ hz2]
      first
        | rw [readAt_whole harg12 _ hz2]
        | sl_unfold_words
          rw [View.readCov_unit_zero _ hz2, readAt_whole harg2 _ hz2, readAt_whole harg3 _ hz2]
    isplitl [H5]
    · iexists _; isplitr; swap; · iexact H5
      ipureintro
      first
        | rw [read_whole_store _ _ hz2, readAt_whole harg2 _ hz2, readAt_whole harg3 _ hz2, readAt_whole harg5 _ hz2]
        | rw [harg9.read_unread]
    isplitl [H6]
    · iexists _; isplitr; swap; · iexact H6
      ipureintro
      first
        | rw [harg10.read_unread]
        | sl_unfold_words
          first
            | rw [readAt_whole harg4 _ hz2, readAt_whole harg12 _ hz2]
            | rw [readAt_whole harg4 _ hz2, View.readCov_unit_zero _ hz2, readAt_whole harg2 _ hz2, readAt_whole harg3 _ hz2]
          exact read_rows _ _ _
    isplitl [H7]
    · iexists _; isplitr; swap; · iexact H7
      ipureintro
      first
        | rw [harg11.read_unread]
        | sl_unfold_words
          first
            | rw [readAt_whole harg4 _ hz2, readAt_whole harg12 _ hz2]
            | rw [readAt_whole harg4 _ hz2, View.readCov_unit_zero _ hz2, readAt_whole harg2 _ hz2, readAt_whole harg3 _ hz2]
          exact read_rows _ _ _
    iexists _; isplitr; swap; · iexact Hs
    ipureintro
    first
      | rw [harg12.read_unread]
      | sl_unfold_words
        rw [read_whole_store _ _ hz2, readAt_whole harg2 _ hz2, readAt_whole harg3 _ hz2]

/-! ## The grid's points -/

/-- The second grid coordinate of point `t` is `t mod 13`. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- The body's first branch is taken at the first point of each row block. -/
theorem cond1_iff (t : Fin cfg0.N) : k0_cond1 (grid0.coords t) = 1#1 ↔ t.val % 13 = 0 := by
  have ht : t.val < 104 := Nat.lt_of_lt_of_eq t.isLt N_0
  unfold k0_cond1
  simp only [coord1]
  word_cmp

/-- The body's second branch is taken at the point of the keys' columns. -/
theorem cond2_iff (t : Fin cfg0.N) : k0_cond2 (grid0.coords t) = 1#1 ↔ t.val % 13 = 6 := by
  have ht : t.val < 104 := Nat.lt_of_lt_of_eq t.isLt N_0
  unfold k0_cond2
  simp only [coord1]
  word_cmp

/-- The body's third branch is taken at the point of the values' columns. -/
theorem cond3_iff (t : Fin cfg0.N) : k0_cond3 (grid0.coords t) = 1#1 ↔ t.val % 13 = 7 := by
  have ht : t.val < 104 := Nat.lt_of_lt_of_eq t.isLt N_0
  unfold k0_cond3
  simp only [coord1]
  word_cmp

/-- The first point of the row block that point `t` works on. -/
def base (t : Fin cfg0.N) : Fin cfg0.N := ⟨t.val / 13 * 13, lt_of_le_of_lt (Nat.div_mul_le_self _ _) t.isLt⟩

/-- At the first point of a row block, `base` is the point itself. -/
theorem base_self (t : Fin cfg0.N) (h : t.val % 13 = 0) : base t = t :=
  Fin.ext (Nat.div_mul_cancel (Nat.dvd_of_mod_eq_zero h))

/-- Two points of one row block have the same first point. -/
theorem base_congr (t t' : Fin cfg0.N) (h : t.val / 13 = t'.val / 13) : base t = base t' := by
  unfold base; simp only [h]

/-- Column block `j` of any point's row block is among the grid's 104 points. -/
theorem inRow_lt (n j : ℕ) (h : n < 104) (hj : j < 13) : n / 13 * 13 + j < 104 := by omega

/-- The point of column block `j` in the row block that point `t` works on. -/
def inRow (j : Fin 13) (t : Fin cfg0.N) : Fin cfg0.N :=
  ⟨t.val / 13 * 13 + j.val, Nat.lt_of_lt_of_eq (inRow_lt t.val j.val (Nat.lt_of_lt_of_eq t.isLt N_0) j.isLt) N_0.symm⟩

/-- At column block `j`, that point is the point itself. -/
theorem inRow_self (j : Fin 13) (t : Fin cfg0.N) (h : t.val % 13 = j.val) : inRow j t = t :=
  Fin.ext (by show t.val / 13 * 13 + j.val = t.val; omega)

/-- Two points of one row block have the same point of column block `j`. -/
theorem inRow_congr (j : Fin 13) (t t' : Fin cfg0.N) (h : t.val / 13 = t'.val / 13) : inRow j t = inRow j t' := by
  unfold inRow; simp only [h]

variable (m : (ℓ : Loc nD τ sig) → Buf (Elt F) ℓ) (ρ : Dev nD → PrngReg)

/-! ## What the buffers hold after each point -/

/-- The normalised rows of `t`'s row block, as the scratch holds them. -/
def hAt (c : Dev nD) (t : Fin cfg0.N) : Vec F S1024x2048 .bf16 := k0_pay2 (iblk m c 0 (base t)) (iblk m c 1 (base t))

/-- The block of the first result that point `t` writes. -/
def uAt (c : Dev nD) (t : Fin cfg0.N) : Vec F S1024x1024 .f32 := k0_pay4 (hAt m c t) (iblk m c 2 t)

/-- The block of the second result (the gates) of `t`'s row block. -/
def gAt (c : Dev nD) (t : Fin cfg0.N) : Vec F S1024x256 .f32 :=
  k0_pay3 (iblk m c 0 (base t)) (iblk m c 1 (base t)) (iblk m c 3 (base t))

/-- The block of the keys' result that the row block of point `t` writes: its column block 6 by head. -/
def kAt (c : Dev nD) (t : Fin cfg0.N) : Vec F S1x8192x128 .f32 := rows (uAt m c (inRow 6 t))

/-- The block of the values' result that the row block of point `t` writes: its column block 7 by head. -/
def vAt (c : Dev nD) (t : Fin cfg0.N) : Vec F S1x8192x128 .f32 := rows (uAt m c (inRow 7 t))

/-- The scratch the kernel keeps the normalised rows in. -/
abbrev scM : Memref sig .tc .vmem S1024x2048 .bf16 := Memref.whole cc0_scratch0

/-- The region's invariant: before the first point every scratch holds anything, after point `n` the scratch holds the
normalised rows of `n`'s row block. -/
def PhiS (c : Dev nD) : (n : ℕ) → n ≤ cfg0.N → Assert F
  | 0, _ => Pipeline.ΦA spec0 c
  | n + 1, hn => iprop(owns (c : Thread nD τ) scM fullShare (hAt m c ⟨n, hn⟩) ∗ (∃ r, prngReg c r))

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => uAt m c t
    | ⟨5, _⟩ => gAt m c t
    | ⟨6, _⟩ => kAt m c t
    | ⟨7, _⟩ => vAt m c t
  Φ t := PhiS m c t.val (Nat.le_of_lt_succ t.isLt)
  q _ := fullShare
  owed _ := 0

/-- Each window's array starts at what the memory holds. -/
theorem A_eq (c : Dev nD) (w : Fin cfg0.W) : (dats m 0 c).A w = V m c (Pipeline.arrRef spec0 w) := by
  dsimp only [dats]

/-- After each point the input's buffer still holds its block. -/
theorem after_0 (c : Dev nD) (t : Fin cfg0.N) : (dats m 0 c).after 0 t = iblk m c 0 t := by dsimp only [dats]
/-- After each point the norm's weights' buffer still holds its block. -/
theorem after_1 (c : Dev nD) (t : Fin cfg0.N) : (dats m 0 c).after 1 t = iblk m c 1 t := by dsimp only [dats]
/-- After each point the projection's weights' buffer still holds its block. -/
theorem after_2 (c : Dev nD) (t : Fin cfg0.N) : (dats m 0 c).after 2 t = iblk m c 2 t := by dsimp only [dats]
/-- After each point the gates' weights' buffer still holds its block. -/
theorem after_3 (c : Dev nD) (t : Fin cfg0.N) : (dats m 0 c).after 3 t = iblk m c 3 t := by dsimp only [dats]
/-- After each point the first result's buffer holds the point's block. -/
theorem after_4 (c : Dev nD) (t : Fin cfg0.N) : (dats m 0 c).after 4 t = uAt m c t := by dsimp only [dats]
/-- After each point the gates' buffer holds the row block's gates. -/
theorem after_5 (c : Dev nD) (t : Fin cfg0.N) : (dats m 0 c).after 5 t = gAt m c t := by dsimp only [dats]

/-- From its point on, the keys' buffer holds the row block's keys. -/
theorem after_6 (c : Dev nD) (t : Fin cfg0.N) : (dats m 0 c).after 6 t = kAt m c t := by dsimp only [dats]
/-- From its point on, the values' buffer holds the row block's values. -/
theorem after_7 (c : Dev nD) (t : Fin cfg0.N) : (dats m 0 c).after 7 t = vAt m c t := by dsimp only [dats]

/-- Before each point the input's buffer holds its block. -/
theorem before_0 (c : Dev nD) (t : Fin cfg0.N) (d) : (dats m 0 c).before 0 t d = iblk m c 0 t :=
  before0_0_of m (dats m 0 c) (A_eq m c 0) (after_0 m c) t d
/-- Before each point the norm's weights' buffer holds its block. -/
theorem before_1 (c : Dev nD) (t : Fin cfg0.N) (d) : (dats m 0 c).before 1 t d = iblk m c 1 t :=
  before0_1_of m (dats m 0 c) (A_eq m c 1) (after_1 m c) t d
/-- Before each point the projection's weights' buffer holds its block. -/
theorem before_2 (c : Dev nD) (t : Fin cfg0.N) (d) : (dats m 0 c).before 2 t d = iblk m c 2 t :=
  before0_2_of m (dats m 0 c) (A_eq m c 2) (after_2 m c) t d
/-- Before each point the gates' weights' buffer holds its block. -/
theorem before_3 (c : Dev nD) (t : Fin cfg0.N) (d) : (dats m 0 c).before 3 t d = iblk m c 3 t :=
  before0_3_of m (dats m 0 c) (A_eq m c 3) (after_3 m c) t d

/-- An output that one point of each row block stores (the `j0`-th) and the block's last point writes back: at the later
points of the block its buffer still holds what that point stored. -/
theorem before_stored {c : Dev nD} (dat : Dat τ (Elt F) Unit ℕ (UR sig nD τ) ℕ cfg0 c) (w : Fin cfg0.W) (j0 : ℕ)
    (hfetch : ∀ t, (cfg0.win w).fetch t = false) (hflush : ∀ t, (cfg0.win w).flush t = true ↔ t.val % 13 = 12)
    (hidle : ∀ t, cfg0.idle w (grid0.coords t) = false ↔ t.val % 13 = j0)
    (hkept : ∀ t d, dat.kept w t d = dat.after w t)
    (hconst : ∀ t t' : Fin cfg0.N, t.val / 13 = t'.val / 13 → dat.after w t = dat.after w t') :
    ∀ (n : ℕ) (t : Fin cfg0.N) (d), t.val = n → j0 < t.val % 13 → dat.before w t d = dat.after w t := by
  intro n
  induction n with
  | zero => intro t d h hj; rw [h] at hj; simp at hj
  | succ n ih =>
    intro t d h hj
    rw [dat.before_of_pos w t (by omega) (hfetch t)]
    have hN : t.val < 104 := Nat.lt_of_lt_of_eq t.isLt N_0
    set t' : Fin cfg0.N := ⟨t.val - 1, Nat.lt_of_le_of_lt (Nat.sub_le _ _) t.isLt⟩ with ht'
    have hv : t'.val = t.val - 1 := rfl
    rw [if_neg (fun hf => by have := (hflush t').mp hf; omega)]
    rw [hconst t t' (by omega)]
    unfold Dat.left
    by_cases hj' : t'.val % 13 = j0
    · rw [show cfg0.idle w (cfg0.grid.coords t') = false from (hidle t').mpr hj']
      exact hkept t' d
    · rw [show cfg0.idle w (cfg0.grid.coords t') = true from by
        rcases hb : cfg0.idle w (cfg0.grid.coords t') with _ | _
        · exact absurd ((hidle t').mp hb) hj'
        · rfl]
      exact ih t' d (by omega) (by omega)

/-- The gates' window is idle except at the first point of each row block. -/
theorem idle_5 (t : Fin cfg0.N) : cfg0.idle 5 (grid0.coords t) = false ↔ t.val % 13 = 0 := by
  rw [← cond1_iff]
  show (!(k0_cond1 (grid0.coords t) == 1#1)) = false ↔ _
  simp

/-- The keys' window is idle except at the point of the keys' columns. -/
theorem idle_6 (t : Fin cfg0.N) : cfg0.idle 6 (grid0.coords t) = false ↔ t.val % 13 = 6 := by
  rw [← cond2_iff]
  show (!(k0_cond2 (grid0.coords t) == 1#1)) = false ↔ _
  simp

/-- The values' window is idle except at the point of the values' columns. -/
theorem idle_7 (t : Fin cfg0.N) : cfg0.idle 7 (grid0.coords t) = false ↔ t.val % 13 = 7 := by
  rw [← cond3_iff]
  show (!(k0_cond3 (grid0.coords t) == 1#1)) = false ↔ _
  simp

/-- Within a row block the gates' block stays what its first point stored. -/
theorem before_5 (c : Dev nD) (t : Fin cfg0.N) (h : 0 < t.val % 13) (d) : (dats m 0 c).before 5 t d = (dats m 0 c).after 5 t := by
  refine before_stored (dats m 0 c) 5 0 (fun _ => rfl) flush0_5 idle_5 (fun t d => ?_) (fun t t' e => ?_) t.val t d rfl h
  · unfold Dat.kept
    rw [Pipeline.fill_of_clip_none 5 _ (fun _ => rfl) d ((dats m 0 c).after 5 t), Pipeline.Window.fill_cut]
  · rw [after_5, after_5]; unfold gAt; rw [base_congr t t' e]

/-- After the keys' point, the keys' block of a row block stays what that point stored. -/
theorem before_6 (c : Dev nD) (t : Fin cfg0.N) (h : 6 < t.val % 13) (d) : (dats m 0 c).before 6 t d = (dats m 0 c).after 6 t := by
  refine before_stored (dats m 0 c) 6 6 (fun _ => rfl) flush0_6 idle_6 (fun t d => ?_) (fun t t' e => ?_) t.val t d rfl h
  · unfold Dat.kept
    rw [Pipeline.fill_of_clip_none 6 _ (fun _ => rfl) d ((dats m 0 c).after 6 t), Pipeline.Window.fill_cut]
  · rw [after_6, after_6]; unfold kAt; rw [inRow_congr 6 t t' e]

/-- After the values' point, the values' block of a row block stays what that point stored. -/
theorem before_7 (c : Dev nD) (t : Fin cfg0.N) (h : 7 < t.val % 13) (d) : (dats m 0 c).before 7 t d = (dats m 0 c).after 7 t := by
  refine before_stored (dats m 0 c) 7 7 (fun _ => rfl) flush0_7 idle_7 (fun t d => ?_) (fun t t' e => ?_) t.val t d rfl h
  · unfold Dat.kept
    rw [Pipeline.fill_of_clip_none 7 _ (fun _ => rfl) d ((dats m 0 c).after 7 t), Pipeline.Window.fill_cut]
  · rw [after_7, after_7]; unfold vAt; rw [inRow_congr 7 t t' e]

/-! ## The body's obligation -/

/-- The region's own buffers: the scratch and the device's generator, at any contents. -/
theorem PhiA_eq (c : Dev nD) :
    (Pipeline.ΦA spec0 c : Assert F) = iprop((∃ d, owns (c : Thread nD τ) scM fullShare d) ∗ (∃ r, prngReg c r)) := by
  unfold Pipeline.ΦA; rw [scopedRest0_eq]; simp only [scM, owns_whole]; try rfl

/-- The invariant after a point. -/
theorem PhiS_pos (c : Dev nD) (n : ℕ) (h : n ≤ cfg0.N) (hz : n ≠ 0) :
    PhiS m c n h = iprop(owns (c : Thread nD τ) scM fullShare (hAt m c ⟨n - 1, by omega⟩) ∗ (∃ r, prngReg c r)) := by
  cases n with
  | zero => exact absurd rfl hz
  | succ n => rfl

/-- At every point the invariant gives the scratch at some contents. -/
theorem PhiS_out (c : Dev nD) (n : ℕ) (h : n ≤ cfg0.N) : PhiS m c n h ⊢ Pipeline.ΦA spec0 c := by
  cases n with
  | zero => exact .rfl
  | succ n =>
    rw [PhiS_pos m c _ _ (Nat.succ_ne_zero n), PhiA_eq]
    iintro ⟨Hs, Hg⟩
    isplitl [Hs]
    · iexists _; iexact Hs
    iexact Hg

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What window `w` holds after the body at point `t`, as the library's obligation asks it. -/
def left (c : Dev nD) (w : Fin cfg0.W) (t : Fin cfg0.N) : Assert F :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- An output that the `j0`-th point of each row block stores: it is enough that the buffer holds the stored block at that
point, and at the others what it held before. -/
theorem left_of (c : Dev nD) (w : Fin cfg0.W) (t : Fin cfg0.N) (j0 : ℕ) (hj0 : j0 < 12)
    (hflush : (cfg0.win w).flush t = true ↔ t.val % 13 = 12) (hidle : cfg0.idle w (grid0.coords t) = false ↔ t.val % 13 = j0)
    (hkept : j0 < t.val % 13 → ∀ d, (dats m 0 c).before w t d = (dats m 0 c).after w t)
    (d) (X) (hX : X = if t.val % 13 = j0 then (dats m 0 c).after w t else (dats m 0 c).before w t d) :
    owns (c : Thread nD τ) ((cfg0.win w).stage (cfg0.slots t w)) fullShare X ⊢ (left m c w t : Assert F) := by
  subst hX
  unfold left
  rcases hi : cfg0.idle w (cfg0.grid.coords t) with _ | _
  · dsimp only; rw [if_pos (hidle.mp hi)]
  · have h : t.val % 13 ≠ j0 := fun h => Bool.noConfusion (hi.symm.trans (hidle.mpr h))
    rw [if_neg h]
    rcases hf : (cfg0.win w).flush t with _ | _
    · dsimp only
      iintro H
      iexists d
      iexact H
    · dsimp only
      rw [hkept (by have := hflush.mp hf; omega) d]

/-- What the body is called with at point `t`. -/
def bodyPre (c : Dev nD) (t : Fin cfg0.N) : Assert F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns at point `t`. -/
def bodyPost (c : Dev nD) (t : Fin cfg0.N) : Assert F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ left m c 5 t ∗ left m c 6 t ∗ left m c 7 t)

/-- Before point `t` the invariant gives contents of the scratch that, after the branch which fills it, are the normalised
rows of `t`'s row block. -/
theorem scratch_at (c : Dev nD) (t : Fin cfg0.N) : PhiS m c t.val (Nat.le_of_lt t.isLt)
    ⊢ iprop((∃ xs, ⌜(if k0_cond1 (grid0.coords t) = 1#1 then k0_pay2 (iblk m c 0 t) (iblk m c 1 t) else xs) = hAt m c t⌝
        ∗ owns (c : Thread nD τ) scM fullShare xs) ∗ (∃ r, prngReg c r)) := by
  by_cases h : t.val % 13 = 0
  · refine (PhiS_out m c _ _).trans ?_
    rw [PhiA_eq]
    iintro ⟨⟨%d, Hs⟩, Hg⟩
    isplitl [Hs]
    · iexists d; isplitr; swap; · iexact Hs
      ipureintro
      rw [if_pos ((cond1_iff t).mpr h)]; unfold hAt; rw [base_self t h]
    iexact Hg
  · rw [PhiS_pos m c _ _ (fun h0 => h (by rw [h0]))]
    iintro ⟨Hs, Hg⟩
    isplitl [Hs]
    · iexists _; isplitr; swap; · iexact Hs
      ipureintro
      rw [if_neg (fun hc => h ((cond1_iff t).mp hc))]; unfold hAt
      rw [base_congr ⟨t.val - 1, _⟩ t (show (t.val - 1) / 13 = t.val / 13 by omega)]
    iexact Hg

/-- The gates' buffer after the branch that fills it. -/
theorem gates_at (c : Dev nD) (t : Fin cfg0.N) (d) :
    (if k0_cond1 (grid0.coords t) = 1#1 then k0_pay3 (iblk m c 0 t) (iblk m c 1 t) (iblk m c 3 t) else (dats m 0 c).before 5 t d)
      = if t.val % 13 = 0 then (dats m 0 c).after 5 t else (dats m 0 c).before 5 t d := by
  by_cases h : t.val % 13 = 0
  · rw [if_pos ((cond1_iff t).mpr h), if_pos h, after_5]; unfold gAt; rw [base_self t h]
  · rw [if_neg (fun hc => h ((cond1_iff t).mp hc)), if_neg h]

/-- The keys' buffer after the branch that fills it. -/
theorem keys_at (c : Dev nD) (t : Fin cfg0.N) (d) :
    (if k0_cond2 (grid0.coords t) = 1#1 then rows (uAt m c t) else (dats m 0 c).before 6 t d)
      = if t.val % 13 = 6 then (dats m 0 c).after 6 t else (dats m 0 c).before 6 t d := by
  by_cases h : t.val % 13 = 6
  · rw [if_pos ((cond2_iff t).mpr h), if_pos h, after_6]; unfold kAt; rw [inRow_self 6 t h]
  · rw [if_neg (fun hc => h ((cond2_iff t).mp hc)), if_neg h]

/-- The values' buffer after the branch that fills it. -/
theorem vals_at (c : Dev nD) (t : Fin cfg0.N) (d) :
    (if k0_cond3 (grid0.coords t) = 1#1 then rows (uAt m c t) else (dats m 0 c).before 7 t d)
      = if t.val % 13 = 7 then (dats m 0 c).after 7 t else (dats m 0 c).before 7 t d := by
  by_cases h : t.val % 13 = 7
  · rw [if_pos ((cond3_iff t).mpr h), if_pos h, after_7]; unfold vAt; rw [inRow_self 7 t h]
  · rw [if_neg (fun hc => h ((cond3_iff t).mp hc)), if_neg h]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4, PhiS_castSucc]
  rw [show (dats m 0 c).Φ t.succ = iprop(owns (c : Thread nD τ) scM fullShare (hAt m c t) ∗ (∃ r, prngReg c r)) from rfl]
  refine (sep_mono (scratch_at m c t) .rfl).trans ?_
  iintro ⟨⟨⟨%xs, %hxs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid0.coords t) _ _ _ _ _ _ _ _ _ _ _ _ _ _ _ _ _ _ _ _ _ _ (iblk m c 0 t) (iblk m c 1 t) (iblk m c 2 t) (iblk m c 3 t)
    ((dats m 0 c).before 5 t d5) ((dats m 0 c).before 6 t d6) ((dats m 0 c).before 7 t d7) xs _)
  rw [hxs, show k0_pay4 (hAt m c t) (iblk m c 2 t) = uAt m c t from rfl, gates_at m c t d5, keys_at m c t d6, vals_at m c t d7]
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [Hs]; · iexact Hs
  iintro ⟨H0, H1, H2, H3, H4, H5, H6, H7, Hs⟩
  isplitl [Hs Hg]
  · isplitl [Hs]
    · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iapply (left_of m c 5 t 0 (by decide) (flush0_5 t) (idle_5 t) (before_5 m c t) d5 _ rfl); iexact H5
  isplitl [H6]
  · iapply (left_of m c 6 t 6 (by decide) (flush0_6 t) (idle_6 t) (before_6 m c t) d6 _ rfl); iexact H6
  iapply (left_of m c 7 t 7 (by decide) (flush0_7 t) (idle_7 t) (before_7 m c t) d7 _ rfl); iexact H7

/-- The pipeline's body call at point `t` is the body at that point's buffers. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution of the program ends with each array at what the proof data says, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => PhiS_out m c _ (Nat.le_refl _))

/-- What the run leaves: the arguments as they were, the four results at the proof data's arrays, every counter zero. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_v0_3) = (dats m 0 c).arrAt 7 cfg0.N)
      ∧ r.2.sem = fun _ => 0) :=
  (θ_run defs _ _).mono (fun _ h => ⟨fun c =>
    ⟨⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩,
      (h.1 c).1 4, (h.1 c).1 5, (h.1 c).1 6, (h.1 c).1 7⟩, h.2⟩) (run_main m ρ)

/-- The frame claim: the arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run_values m ρ)

end Cert.Kernel3Ideal.Proj

end
-- ==== Proof.ProjVal.lean ====
/- The input projection: what its run leaves in its four results, and that it is the reference's. -/
module

public import Idealize.ShloMosaic.Lib.Pipeline.ValueKit
public import Idealize.ShloMosaic.Lib.Pointwise
public import proofs.«01_k».proof.Proof.Proj
public import proofs.«01_k».proof.Proof.Gen.Reference3Ideal.Read

@[expose] public section

set_option maxRecDepth 16384

noncomputable section

namespace Cert.Kernel3Ideal.Proj

open Cert.Kernel3Ideal Cert.Kernel3Ideal.Gen
open Idealize.ShloMosaic Idealize.ShloMosaic.TcCoe

/-- A row's mean square. -/
def msq {F : FTy → Type} [FloatOps F] (o : FVec F S1024x2048 .f32) : FVec F S1024x1 .f32 :=
  divf (shapeCast S1024x1 (multiReduction .add [1] S1024 (mulf o o) 0x00000000#32 reduces_S1024x2048_S1024 (.inl rfl) rfl) shapeCasts_S1024_S1024x1)
    (broadcast S1024x1 (Scalar.ofBits .f32 0x45000000#32))

/-- The normed rows. -/
def normed {F : FTy → Type} [FloatOps F] (x : FVec F S1024x2048 .f32) (nw : Vec F S1x2048 .f32) : FVec F S1024x2048 .f32 :=
  mulf (mulf x (broadcastTo S1024x2048 (rsqrt (addf (msq x) (broadcast S1024x1 (Scalar.ofBits .f32 0x358637BD#32)))) broadcasts_S1024x1_S1024x2048))
    (broadcastTo S1024x2048 nw broadcasts_S1x2048_S1024x2048)

/-- The rows the body computes are the normed rows. -/
theorem pay1 {F : FTy → Type} [FloatOps F] (x : Vec F S1024x2048 .f32) (nw : Vec F S1x2048 .f32) :
    k0_pay1 x nw = truncf .bf16 (normed x nw) bitsLt_bf16_f32 := rfl

/-- An entry of a normed row. -/
def nrm (x nw : Fin 2048 → EReal) (k : Fin 2048) : EReal :=
  x k * Ideal.rsqrt (Ideal.div (∑ j, x j * x j) (Ideal.ofBits .f32 0x45000000#32) + Ideal.ofBits .f32 0x358637BD#32) * nw k

/-- A row's mean square, as a sum. -/
theorem msq_at (o : FVec Ideal S1024x2048 .f32) (r : Fin 1024) :
    msq o (ix2 r 0) = Ideal.div (∑ k : Fin 2048, o (ix2 r k) * o (ix2 r k)) (Ideal.ofBits .f32 0x45000000#32) := by
  pointwise [msq]

/-- The normed rows at an entry. -/
theorem normed_at (x : FVec Ideal S1024x2048 .f32) (nw : Vec Ideal S1x2048 .f32) (r : Fin 1024) (k : Fin 2048) :
    normed x nw (ix2 r k) = nrm (fun j => x (ix2 r j)) (fun j => nw (ix2 0 j)) k := by
  unfold nrm
  rw [← msq_at]
  unfold normed
  generalize msq x = y
  pointwise []

/-- What the scratch holds, at an entry. -/
theorem pay2_at (x : Vec Ideal S1024x2048 .f32) (nw : Vec Ideal S1x2048 .f32) (r : Fin 1024) (k : Fin 2048) :
    k0_pay2 x nw (ix2 r k) = nrm (fun j => x (ix2 r j)) (fun j => nw (ix2 0 j)) k := by
  rw [← normed_at]
  unfold k0_pay2
  rw [pay1]
  generalize normed x nw = y
  pointwise []

/-- The gates' block at an entry. -/
theorem pay3_at (x : Vec Ideal S1024x2048 .f32) (nw : Vec Ideal S1x2048 .f32) (w : Vec Ideal S256x2048 .f32) (r : Fin 1024) (e : Fin 256) :
    k0_pay3 x nw w (ix2 r e) = ∑ k : Fin 2048, nrm (fun j => x (ix2 r j)) (fun j => nw (ix2 0 j)) k * w (ix2 e k) := by
  simp only [← normed_at]
  unfold k0_pay3
  rw [pay1]
  generalize normed x nw = y
  pointwise []

/-- A block of the first result at an entry. -/
theorem pay4_at (h w : Vec Ideal S1024x2048 .bf16) (r e : Fin 1024) :
    k0_pay4 h w (ix2 r e) = ∑ k : Fin 2048, h (ix2 r k) * w (ix2 e k) := by
  pointwise [k0_pay4]

/-! ## The reference -/

section Reference
open Cert.Reference3Ideal.Read

variable (x : Vec Ideal Cert.Reference3Ideal.S8192x2048 .f32) (nw : Vec Ideal Cert.Reference3Ideal.S1x2048 .f32)
  (wm : Vec Ideal Cert.Reference3Ideal.S13312x2048 .bf16) (wg : Vec Ideal Cert.Reference3Ideal.S256x2048 .f32)

/-- The reference's normed rows at an entry. -/
theorem ref_normed_at (r : Fin 8192) (k : Fin 2048) :
    val_main_v11 (F := Ideal) x nw (ix2 r k) = nrm (fun j => x (ix2 r j)) (fun j => nw (ix2 0 j)) k := by
  pointwise [val_main_v0, val_main_v1, val_main_v2, val_main_v3, val_main_v4, val_main_v5, val_main_v6, val_main_v7, val_main_v8, val_main_v9, val_main_v10, val_main_v11, val_main_cst, val_main_cst_0, val_main_cst_1]
  rfl

/-- The reference's first result at an entry. -/
theorem ref_u_at (r : Fin 8192) (e : Fin 13312) :
    val_main_v14 (F := Ideal) x nw wm (ix2 r e) = ∑ k : Fin 2048, nrm (fun j => x (ix2 r j)) (fun j => nw (ix2 0 j)) k * wm (ix2 e k) := by
  simp only [← ref_normed_at]
  unfold val_main_v14
  generalize val_main_v11 (F := Ideal) x nw = y
  pointwise [val_main_v13, val_main_v12]

/-- The reference's second result at an entry. -/
theorem ref_g_at (r : Fin 8192) (e : Fin 256) :
    val_main_v20 (F := Ideal) x nw wg (ix2 r e) = ∑ k : Fin 2048, nrm (fun j => x (ix2 r j)) (fun j => nw (ix2 0 j)) k * wg (ix2 e k) := by
  simp only [← ref_normed_at]
  unfold val_main_v20
  generalize val_main_v11 (F := Ideal) x nw = y
  pointwise [val_main_v19]

/-- Two pages, one after the other: page 0 is the first. -/
theorem stack_0 (p q : Vec Ideal Cert.Reference3Ideal.S1x65536x128 .f32) (h) (n : Fin 65536) (l : Fin 128) :
    concatenate Cert.Reference3Ideal.S2x65536x128 0 [⟨Cert.Reference3Ideal.S1x65536x128, p⟩, ⟨Cert.Reference3Ideal.S1x65536x128, q⟩] h (ix3 0 n l)
      = p (ix3 0 n l) :=
  concatenate_pair_apply_left 0 p q h (ix3 0 n l) rfl (ix3 0 n l) fun b => by
    match b with
    | ⟨0, _⟩ => rfl
    | ⟨1, _⟩ => rfl
    | ⟨2, _⟩ => rfl

/-- Two pages, one after the other: page 1 is the second. -/
theorem stack_1 (p q : Vec Ideal Cert.Reference3Ideal.S1x65536x128 .f32) (h) (n : Fin 65536) (l : Fin 128) :
    concatenate Cert.Reference3Ideal.S2x65536x128 0 [⟨Cert.Reference3Ideal.S1x65536x128, p⟩, ⟨Cert.Reference3Ideal.S1x65536x128, q⟩] h (ix3 1 n l)
      = q (ix3 0 n l) :=
  concatenate_pair_apply_right 0 p q h (ix3 1 n l) rfl rfl (ix3 0 n l) (fun b hb => by
    match b, hb with
    | ⟨0, _⟩, hb => exact absurd rfl hb
    | ⟨1, _⟩, _ => rfl
    | ⟨2, _⟩, _ => rfl) rfl

variable (kv : Vec Ideal Cert.Reference3Ideal.S2x65536x128 .f32)

/-- The reference's keys: page 0 is the given one. -/
theorem ref_k_0 (n : Fin 65536) (l : Fin 128) : val_main_v25 (F := Ideal) x nw wm kv (ix3 0 n l) = kv (ix3 0 n l) := by
  unfold val_main_v25
  rw [stack_0]
  pointwise [val_main_v23, val_main_v22, val_main_v21]

/-- The reference's keys: page 1 is the first result's columns from 6144 on, eight heads a row. -/
theorem ref_k_1 (n : Fin 65536) (l : Fin 128) : val_main_v25 (F := Ideal) x nw wm kv (ix3 1 n l)
    = val_main_v14 (F := Ideal) x nw wm (ix2 ⟨n.val / 8, by omega⟩ ⟨6144 + (n.val % 8 * 128 + l.val), by omega⟩) := by
  unfold val_main_v25
  rw [stack_1]
  unfold val_main_v24 val_main_v16 val_main_v15
  generalize val_main_v14 (F := Ideal) x nw wm = u
  pointwise []

/-- The reference's values: page 0 is the given one. -/
theorem ref_v_0 (n : Fin 65536) (l : Fin 128) : val_main_v30 (F := Ideal) x nw wm kv (ix3 0 n l) = kv (ix3 0 n l) := by
  unfold val_main_v30
  rw [stack_0]
  pointwise [val_main_v28, val_main_v27, val_main_v26]

/-- The reference's values: page 1 is the first result's columns from 7168 on, eight heads a row. -/
theorem ref_v_1 (n : Fin 65536) (l : Fin 128) : val_main_v30 (F := Ideal) x nw wm kv (ix3 1 n l)
    = val_main_v14 (F := Ideal) x nw wm (ix2 ⟨n.val / 8, by omega⟩ ⟨7168 + (n.val % 8 * 128 + l.val), by omega⟩) := by
  unfold val_main_v30
  rw [stack_1]
  unfold val_main_v29 val_main_v18 val_main_v17
  generalize val_main_v14 (F := Ideal) x nw wm = u
  pointwise []

end Reference

/-! ## The arrays -/

variable (m : (ℓ : Loc nD τ sig) → Buf (Elt Ideal) ℓ)

/-- A grid point's row block. -/
abbrev pi (t : Fin cfg0.N) : Fin 8 := grid0.coords t 0
/-- A grid point's column block. -/
abbrev pj (t : Fin cfg0.N) : Fin 13 := grid0.coords t 1
/-- The array's row of a block's row. -/
abbrev rowOf (t : Fin cfg0.N) (r : Fin 1024) : Fin 8192 := ⟨1024 * pi t + r, by omega⟩
/-- The array's column of a block's column. -/
abbrev colOf (t : Fin cfg0.N) (e : Fin 1024) : Fin 13312 := ⟨1024 * pj t + e, by omega⟩

/-- The input's block: its index. -/
theorem idx0 : ∀ t : Fin cfg0.N, win0_0.index t = ![(grid0.coords t 0).val, 0] := (by decide +kernel : ∀ t : Fin grid0.N, _)
/-- The norm's weights: their index. -/
theorem idx1 : ∀ t : Fin cfg0.N, win0_1.index t = ![0, 0] := (by decide +kernel : ∀ t : Fin grid0.N, _)
/-- The projection's weights: their index. -/
theorem idx2 : ∀ t : Fin cfg0.N, win0_2.index t = ![(grid0.coords t 1).val, 0] := (by decide +kernel : ∀ t : Fin grid0.N, _)
/-- The gates' weights: their index. -/
theorem idx3 : ∀ t : Fin cfg0.N, win0_3.index t = ![0, 0] := (by decide +kernel : ∀ t : Fin grid0.N, _)
/-- The first result's block: its index. -/
theorem idx4 : ∀ t : Fin cfg0.N, win0_4.index t = ![(grid0.coords t 0).val, (grid0.coords t 1).val] := (by decide +kernel : ∀ t : Fin grid0.N, _)
/-- The second result's block: its index. -/
theorem idx5 : ∀ t : Fin cfg0.N, win0_5.index t = ![(grid0.coords t 0).val, 0] := (by decide +kernel : ∀ t : Fin grid0.N, _)
/-- The keys' block: its index, in page 1. -/
theorem idx6 : ∀ t : Fin cfg0.N, win0_6.index t = ![1, (grid0.coords t 0).val, 0] := (by decide +kernel : ∀ t : Fin grid0.N, _)
/-- The values' block: its index, in page 1. -/
theorem idx7 : ∀ t : Fin cfg0.N, win0_7.index t = ![1, (grid0.coords t 0).val, 0] := (by decide +kernel : ∀ t : Fin grid0.N, _)
/-- A row block's point of column block `j` is in that row block. -/
theorem pi_inRow : ∀ (j : Fin 13) (t : Fin cfg0.N), grid0.coords (inRow j t) 0 = grid0.coords t 0 :=
  (by decide +kernel : ∀ (j : Fin 13) (t : Fin grid0.N), _)
/-- A row block's point of column block `j` is at that column block. -/
theorem pj_inRow : ∀ (j : Fin 13) (t : Fin cfg0.N), (grid0.coords (inRow j t) 1).val = j.val :=
  (by decide +kernel : ∀ (j : Fin 13) (t : Fin grid0.N), _)
/-- The points of a row block have its first point's row block. -/
theorem pi_base : ∀ t : Fin cfg0.N, grid0.coords (base t) 0 = grid0.coords t 0 := (by decide +kernel : ∀ t : Fin grid0.N, _)

/-- The input's block. -/
theorem iblk0 (c : Dev nD) (t : Fin cfg0.N) (r : Fin 1024) (e : Fin 2048) :
    iblk m c 0 t (ix2 r e) = m ((c.tc : Thread nD τ).loc main_arg0) (ix2 (rowOf t r) e) := by
  blk_simp [iblk, V_main_arg0]
  refine congrArg _ ?_
  have h0 : (pi t : ℕ) = (grid0.coords t 0 : ℕ) := rfl
  blk_ext [idx0]
  all_goals omega

/-- The norm's weights. -/
theorem iblk1 (c : Dev nD) (t : Fin cfg0.N) (e : Fin 2048) :
    iblk m c 1 t (ix2 0 e) = m ((c.tc : Thread nD τ).loc main_arg1) (ix2 0 e) := by
  blk_simp [iblk, V_main_arg1]
  refine congrArg _ ?_
  blk_ext [idx1]

/-- The projection's weights. -/
theorem iblk2 (c : Dev nD) (t : Fin cfg0.N) (e : Fin 1024) (k : Fin 2048) :
    iblk m c 2 t (ix2 e k) = m ((c.tc : Thread nD τ).loc main_arg2) (ix2 (colOf t e) k) := by
  blk_simp [iblk, V_main_arg2]
  refine congrArg _ ?_
  have h0 : (pj t : ℕ) = (grid0.coords t 1 : ℕ) := rfl
  blk_ext [idx2]
  all_goals omega

/-- The gates' weights. -/
theorem iblk3 (c : Dev nD) (t : Fin cfg0.N) (e : Fin 256) (k : Fin 2048) :
    iblk m c 3 t (ix2 e k) = m ((c.tc : Thread nD τ).loc main_arg3) (ix2 e k) := by
  blk_simp [iblk, V_main_arg3]
  refine congrArg _ ?_
  blk_ext [idx3]

/-- The array's row, of the row block's first point. -/
theorem rowOf_base (t : Fin cfg0.N) (r : Fin 1024) : rowOf (base t) r = rowOf t r :=
  Fin.ext (congrArg (fun v : ℕ => 1024 * v + (r : ℕ)) (congrArg Fin.val (pi_base t)))

/-- The scratch's rows at an entry: the array's rows, normed. -/
theorem hAt_at (c : Dev nD) (t : Fin cfg0.N) (r : Fin 1024) (k : Fin 2048) :
    hAt m c t (ix2 r k) = nrm (fun j => m ((c.tc : Thread nD τ).loc main_arg0) (ix2 (rowOf t r) j))
      (fun j => m ((c.tc : Thread nD τ).loc main_arg1) (ix2 0 j)) k := by
  refine (pay2_at _ _ r k).trans ?_
  simp only [iblk0, iblk1, rowOf_base]

/-- A block of the first result is the reference's block. -/
theorem uAt_at (c : Dev nD) (t : Fin cfg0.N) (r e : Fin 1024) :
    uAt m c t (ix2 r e) = Cert.Reference3Ideal.Read.val_main_v14 (F := Ideal) (m ((c.tc : Thread nD τ).loc main_arg0))
      (m ((c.tc : Thread nD τ).loc main_arg1)) (m ((c.tc : Thread nD τ).loc main_arg2)) (ix2 (rowOf t r) (colOf t e)) := by
  refine (pay4_at _ _ r e).trans (Eq.trans ?_ (ref_u_at _ _ _ (rowOf t r) (colOf t e)).symm)
  exact Finset.sum_congr rfl fun k _ => congrArg₂ (· * ·) (hAt_at m c t r k) (iblk2 m c t e k)

/-- The block of column block `j` in a row block, by head, is the reference's first result at those columns. -/
theorem rows_at (c : Dev nD) (t : Fin cfg0.N) (j : Fin 13) (n : Fin 8192) (l : Fin 128) :
    rows (uAt m c (inRow j t)) (ix3 0 n l)
      = Cert.Reference3Ideal.Read.val_main_v14 (F := Ideal) (m ((c.tc : Thread nD τ).loc main_arg0))
          (m ((c.tc : Thread nD τ).loc main_arg1)) (m ((c.tc : Thread nD τ).loc main_arg2))
        (ix2 ⟨(8192 * (pi t).val + n.val) / 8, by omega⟩ ⟨1024 * j.val + ((8192 * (pi t).val + n.val) % 8 * 128 + l.val), by omega⟩) := by
  refine (uAt_at m c (inRow j t) ⟨n.val / 8, by omega⟩ ⟨128 * (n.val % 8) + l.val, by omega⟩).trans (congrArg _ ?_)
  have h0 : (grid0.coords (inRow j t) 0).val = (pi t).val := congrArg Fin.val (pi_inRow j t)
  have h1 : (grid0.coords (inRow j t) 1).val = j.val := pj_inRow j t
  refine funext fun a => Fin.ext ?_
  match a with
  | ⟨0, _⟩ =>
    show 1024 * (grid0.coords (inRow j t) 0).val + n.val / 8 = (8192 * (pi t).val + n.val) / 8
    omega
  | ⟨1, _⟩ =>
    show 1024 * (grid0.coords (inRow j t) 1).val + (128 * (n.val % 8) + l.val) = 1024 * j.val + ((8192 * (pi t).val + n.val) % 8 * 128 + l.val)
    omega

/-- The first result's array is the reference's first result of the arguments. -/
theorem array_u (c : Dev nD) :
    (dats m 0 c).arrAt 4 cfg0.N = Cert.Reference3Ideal.Read.val_main_v14 (F := Ideal) (m ((c.tc : Thread nD τ).loc main_arg0))
      (m ((c.tc : Thread nD τ).loc main_arg1)) (m ((c.tc : Thread nD τ).loc main_arg2)) := by
  refine (dats m 0 c).arrAt_eq_of_covers 4 _ (by decide +kernel) fun t hf y => ?_
  blk_simp
  rw [after_4]
  obtain ⟨r, e, rfl⟩ : ∃ (r : Fin 1024) (e : Fin 1024), y = ix2 r e := ⟨y 0, y 1, funext fun a => by
    match a with
    | ⟨0, _⟩ => rfl
    | ⟨1, _⟩ => rfl⟩
  have he : ((win0_4.blk t).view.emb (ix2 r e)) = ix2 (rowOf t r) (colOf t e) := by
    have h0 : (pi t : ℕ) = (grid0.coords t 0 : ℕ) := rfl
    have h1 : (pj t : ℕ) = (grid0.coords t 1 : ℕ) := rfl
    blk_ext [idx4]
    all_goals omega
  refine Eq.trans ?_ (congrArg _ he.symm)
  exact uAt_at m c t r e

/-- The second result's array is the reference's second result of the arguments. -/
theorem array_g (c : Dev nD) :
    (dats m 0 c).arrAt 5 cfg0.N = Cert.Reference3Ideal.Read.val_main_v20 (F := Ideal) (m ((c.tc : Thread nD τ).loc main_arg0))
      (m ((c.tc : Thread nD τ).loc main_arg1)) (m ((c.tc : Thread nD τ).loc main_arg3)) := by
  refine (dats m 0 c).arrAt_eq_of_covers 5 _ (by decide +kernel) fun t hf y => ?_
  blk_simp
  rw [after_5]
  obtain ⟨r, e, rfl⟩ : ∃ (r : Fin 1024) (e : Fin 256), y = ix2 r e := ⟨y 0, y 1, funext fun a => by
    match a with
    | ⟨0, _⟩ => rfl
    | ⟨1, _⟩ => rfl⟩
  have he : ((win0_5.blk t).view.emb (ix2 r e)) = ix2 (rowOf t r) e := by
    have h0 : (pi t : ℕ) = (grid0.coords t 0 : ℕ) := rfl
    blk_ext [idx5]
    all_goals omega
  refine Eq.trans ?_ (congrArg _ he.symm)
  refine (pay3_at _ _ _ r e).trans (Eq.trans ?_ (ref_g_at _ _ _ (rowOf t r) e).symm)
  simp only [iblk0, iblk1, iblk3, rowOf_base]

/-- The region finds the keys' result as the copy of the argument that was made before it. -/
theorem V_keys (c : Dev nD) : V m c main_v0_2 = m ((c.tc : Thread nD τ).loc main_arg4) := by
  simp only [V, hostOps0, StableHlo.after_cons, StableHlo.after_nil]
  rw [StableHlo.unary_result_ne, StableHlo.unary_result]
  · rfl
  · decide

/-- The keys' array is the reference's third result of the arguments. -/
theorem array_keys (c : Dev nD) :
    (dats m 0 c).arrAt 6 cfg0.N = Cert.Reference3Ideal.Read.val_main_v25 (F := Ideal) (m ((c.tc : Thread nD τ).loc main_arg0))
      (m ((c.tc : Thread nD τ).loc main_arg1)) (m ((c.tc : Thread nD τ).loc main_arg2)) (m ((c.tc : Thread nD τ).loc main_arg4)) := by
  refine (dats m 0 c).arrAt_eq_of_coversWhere_of_agree 6 _ (fun β => β (0 : Fin _) = 1) (by decide +kernel) (fun t hf y => ?_) (fun j hj => ?_)
  · blk_simp
    rw [after_6]
    obtain ⟨n, l, rfl⟩ : ∃ (n : Fin 8192) (l : Fin 128), y = ix3 0 n l := ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
    have he : ((win0_6.blk t).view.emb (ix3 0 n l)) = ix3 1 ⟨8192 * (pi t).val + n.val, by omega⟩ l := by
      have h0 : (pi t : ℕ) = (grid0.coords t 0 : ℕ) := rfl
      blk_ext [idx6]
      all_goals omega
    refine Eq.trans ?_ (congrArg _ he.symm)
    exact (rows_at m c t 6 n l).trans (ref_k_1 _ _ _ _ ⟨8192 * (pi t).val + n.val, by omega⟩ l).symm
  · obtain ⟨p, n, l, rfl⟩ : ∃ (p : Fin 2) (n : Fin 65536) (l : Fin 128), j = ix3 p n l := ⟨j 0, j 1, j 2, funext fun a => by
      match a with
      | ⟨0, _⟩ => rfl
      | ⟨1, _⟩ => rfl
      | ⟨2, _⟩ => rfl⟩
    blk_simp [Pipeline.Window.cell_apply] at hj
    have hp : p = 0 := by omega
    subst hp
    refine (congrFun ((A_eq m c 6).trans (V_keys m c)) (ix3 0 n l)).trans (ref_k_0 _ _ _ _ n l).symm

/-- The region finds the values' result as the copy of the argument that was made before it. -/
theorem V_values (c : Dev nD) : V m c main_v0_3 = m ((c.tc : Thread nD τ).loc main_arg5) := by
  simp only [V, hostOps0, StableHlo.after_cons, StableHlo.after_nil]
  rw [StableHlo.unary_result, StableHlo.unary_result_ne]
  · rfl
  · decide

/-- The values' array is the reference's fourth result of the arguments. -/
theorem array_values (c : Dev nD) :
    (dats m 0 c).arrAt 7 cfg0.N = Cert.Reference3Ideal.Read.val_main_v30 (F := Ideal) (m ((c.tc : Thread nD τ).loc main_arg0))
      (m ((c.tc : Thread nD τ).loc main_arg1)) (m ((c.tc : Thread nD τ).loc main_arg2)) (m ((c.tc : Thread nD τ).loc main_arg5)) := by
  refine (dats m 0 c).arrAt_eq_of_coversWhere_of_agree 7 _ (fun β => β (0 : Fin _) = 1) (by decide +kernel) (fun t hf y => ?_) (fun j hj => ?_)
  · blk_simp
    rw [after_7]
    obtain ⟨n, l, rfl⟩ : ∃ (n : Fin 8192) (l : Fin 128), y = ix3 0 n l := ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
    have he : ((win0_7.blk t).view.emb (ix3 0 n l)) = ix3 1 ⟨8192 * (pi t).val + n.val, by omega⟩ l := by
      have h0 : (pi t : ℕ) = (grid0.coords t 0 : ℕ) := rfl
      blk_ext [idx7]
      all_goals omega
    refine Eq.trans ?_ (congrArg _ he.symm)
    exact (rows_at m c t 7 n l).trans (ref_v_1 _ _ _ _ ⟨8192 * (pi t).val + n.val, by omega⟩ l).symm
  · obtain ⟨p, n, l, rfl⟩ : ∃ (p : Fin 2) (n : Fin 65536) (l : Fin 128), j = ix3 p n l := ⟨j 0, j 1, j 2, funext fun a => by
      match a with
      | ⟨0, _⟩ => rfl
      | ⟨1, _⟩ => rfl
      | ⟨2, _⟩ => rfl⟩
    blk_simp [Pipeline.Window.cell_apply] at hj
    have hp : p = 0 := by omega
    subst hp
    refine (congrFun ((A_eq m c 7).trans (V_values m c)) (ix3 0 n l)).trans (ref_v_0 _ _ _ _ n l).symm

end Cert.Kernel3Ideal.Proj

end
-- ==== Proof.Mem.lean ====
/- The sample's mLSTM: what its body computes for one sequence and one head. -/
module

public import Idealize.ShloMosaic.Lib.Pipeline.ValueKit
public import Idealize.ShloMosaic.Lib.Pointwise
public import proofs.«01_k».proof.Proof.Gen.Kernel4Ideal.Value

@[expose] public section

set_option maxRecDepth 16384

noncomputable section

namespace Cert.Kernel4Ideal.Mem

open Cert.Kernel4Ideal Cert.Kernel4Ideal.Gen
open Idealize.ShloMosaic Idealize.ShloMosaic.TcCoe

/-! ## The body's pieces -/

section Body
variable {F : FTy → Type} [FloatOps F]

/-- The new maximum of a sequence, from its gates, their biases and its old maximum. -/
def mOut (g : Vec F S4x256 .f32) (b : Vec F S1x256 .f32) (mp : Vec F S1x1x128 .f32) : FVec F S1x1x128 .f32 :=
  k0_pay25 (k0_pay9 g b) (k0_pay10 g b) (k0_pay17 g b mp) (k0_pay18 g b) (k0_pay19 g b)

/-- The old state's decay. -/
def decay (g : Vec F S4x256 .f32) (b : Vec F S1x256 .f32) (mp : Vec F S1x1x128 .f32) : FVec F S1x128 .f32 :=
  k0_pay26 (k0_pay9 g b) (k0_pay10 g b) (k0_pay11 mp) (k0_pay17 g b mp) (k0_pay18 g b) (k0_pay19 g b)

/-- The weights of the new keys: four rows, and four rows of zeros. -/
def wts (g : Vec F S4x256 .f32) (b : Vec F S1x256 .f32) (mp : Vec F S1x1x128 .f32) : FVec F S8x128 .f32 :=
  k0_pay30 (k0_pay9 g b) (k0_pay10 g b) (k0_pay13 g b) (k0_pay16 g b) (k0_pay17 g b mp) (k0_pay18 g b) (k0_pay19 g b)

/-- The new keys: four rows, and four rows of zeros. -/
def keys (cw : Vec F S4x2048 .f32) (cb : Vec F S1x2048 .f32) (fk : Vec F S1x8x1024 .f32) : FVec F S8x1024 .f32 :=
  k0_pay6 cw k0_pay2 (k0_pay4 fk) (k0_pay5 cw cb fk)

/-- The new values: four rows, and four rows of zeros. -/
def vals (v : Vec F S4x1024 .f32) : FVec F S8x1024 .f32 := k0_pay7 k0_pay2 v

/-- The columns of a head are among the columns. -/
theorem slices_head : ∀ h : Fin 4, S8x1024.Slices ![0, 256 * h.val] S8x256 := by decide
/-- The column of a head's weights is among the columns. -/
theorem slices_wt : ∀ h : Fin 4, S8x128.Slices ![0, h.val] S8x1 := by decide
/-- The column of a head's decay is among the columns. -/
theorem slices_dec : ∀ h : Fin 4, S1x128.Slices ![0, h.val] S1x1 := by decide

/-- A head's columns. -/
def headOf (h : Fin 4) (x : FVec F S8x1024 .f32) : FVec F S8x256 .f32 := extractStridedSlice S8x256 ![0, 256 * h.val] x (slices_head h)

/-- A head's weighted keys. -/
def wkeys (h : Fin 4) (w : FVec F S8x128 .f32) (k : FVec F S8x1024 .f32) : FVec F S8x256 .f32 :=
  mulf (headOf h k) (broadcastTo S8x256 (extractStridedSlice S8x1 ![0, h.val] w (slices_wt h)) broadcasts_S8x1_S8x256)

/-- A head's new matrix. -/
def cOut (h : Fin 4) (d : FVec F S1x128 .f32) (w : FVec F S8x128 .f32) (k v : FVec F S8x1024 .f32) (c : Vec F S1x1x1x256x256 .f32) : FVec F S1x1x1x256x256 .f32 :=
  shapeCast S1x1x1x256x256 (addf (mulf (broadcastTo S256x256 (extractStridedSlice S1x1 ![0, h.val] d (slices_dec h)) broadcasts_S1x1_S256x256)
    (shapeCast S256x256 c shapeCasts_S1x1x1x256x256_S256x256)) (k0_pay59 (headOf h v) (wkeys h w k))) shapeCasts_S256x256_S1x1x1x256x256

/-- A head's new vector. -/
def nOut (h : Fin 4) (d : FVec F S1x128 .f32) (w : FVec F S8x128 .f32) (k : FVec F S8x1024 .f32) (n : Vec F S1x1x1x256 .f32) : FVec F S1x1x256 .f32 :=
  shapeCast S1x1x256 (addf (mulf (broadcastTo S1x256 (extractStridedSlice S1x1 ![0, h.val] d (slices_dec h)) broadcasts_S1x1_S1x256)
    (shapeCast S1x256 n shapeCasts_S1x1x1x256_S1x256)) (shapeCast S1x256 (multiReduction .add [0] S256 (wkeys h w k) 0x00000000#32 reduces_S8x256_S256 (.inl rfl) rfl) shapeCasts_S256_S1x256))
    shapeCasts_S1x256_S1x1x256

/-! ## The stores -/

/-- A sequence's rows of the gates are in the block. -/
theorem inb_g : ∀ b : Fin 4, ∀ a, (![4 * b.val, 0] : Fin _ → Nat) a + S4x256.size a ≤ S16x256.size a := by decide
/-- A sequence's rows of the values are in the block. -/
theorem inb_v : ∀ b : Fin 4, ∀ a, (![4 * b.val, 0] : Fin _ → Nat) a + S4x1024.size a ≤ S16x1024.size a := by decide
/-- A sequence's rows for the convolution are in the block. -/
theorem inb_f : ∀ b : Fin 4, ∀ a, (![b.val, 0, 0] : Fin _ → Nat) a + S1x8x1024.size a ≤ S4x8x1024.size a := by decide
/-- A sequence's maximum is in the block. -/
theorem inb_m : ∀ b : Fin 4, ∀ a, (![b.val, 0, 0] : Fin _ → Nat) a + S1x1x128.size a ≤ S4x1x128.size a := by decide
/-- A head's matrix is in the block. -/
theorem inb_c : ∀ b h : Fin 4, ∀ a, (![0, b.val, h.val, 0, 0] : Fin _ → Nat) a + S1x1x1x256x256.size a ≤ S1x4x4x256x256.size a := by decide
/-- A head's vector is in the block of the old vectors. -/
theorem inb_n : ∀ b h : Fin 4, ∀ a, (![0, b.val, h.val, 0] : Fin _ → Nat) a + S1x1x1x256.size a ≤ S1x4x4x256.size a := by decide
/-- A head's vector is in the block of the new vectors. -/
theorem inb_o : ∀ b h : Fin 4, ∀ a, (![b.val, h.val, 0] : Fin _ → Nat) a + S1x1x256.size a ≤ S4x4x256.size a := by decide

/-- The gates of sequence `b`. -/
def gOf (b : Fin 4) (x5 : Vec F S16x256 .f32) : Vec F S4x256 .f32 := View.ld x5 (Rect.unit (s := S16x256) ![4 * b.val, 0] S4x256.size (inb_g b))
/-- The values of sequence `b`. -/
def vOf (b : Fin 4) (x2 : Vec F S16x1024 .f32) : Vec F S4x1024 .f32 := View.ld x2 (Rect.unit (s := S16x1024) ![4 * b.val, 0] S4x1024.size (inb_v b))
/-- The rows that sequence `b`'s convolution reads. -/
def fOf (b : Fin 4) (x1 : Vec F S4x8x1024 .f32) : Vec F S1x8x1024 .f32 := View.ld x1 (Rect.unit (s := S4x8x1024) ![b.val, 0, 0] S1x8x1024.size (inb_f b))
/-- The old maximum of sequence `b`. -/
def mOf (b : Fin 4) (x8 : Vec F S4x1x128 .f32) : Vec F S1x1x128 .f32 := View.ld x8 (Rect.unit (s := S4x1x128) ![b.val, 0, 0] S1x1x128.size (inb_m b))
/-- The old matrix of sequence `b`, head `h`. -/
def cOf (b h : Fin 4) (x6 : Vec F S1x4x4x256x256 .f32) : Vec F S1x1x1x256x256 .f32 := View.ld x6 (Rect.unit (s := S1x4x4x256x256) ![0, b.val, h.val, 0, 0] S1x1x1x256x256.size (inb_c b h))
/-- The old vector of sequence `b`, head `h`. -/
def nOf (b h : Fin 4) (x7 : Vec F S1x4x4x256 .f32) : Vec F S1x1x1x256 .f32 := View.ld x7 (Rect.unit (s := S1x4x4x256) ![0, b.val, h.val, 0] S1x1x1x256.size (inb_n b h))

/-- The store of sequence `b`'s maximum. -/
def pieceM (b : Fin 4) (x5 : Vec F S16x256 .f32) (x8 : Vec F S4x1x128 .f32) (x11 : Vec F S1x256 .f32) : View.Piece (Elt F) S4x1x128 .f32 :=
  ⟨Rect.unit (s := S4x1x128) ![b.val, 0, 0] S1x1x128.size (inb_m b), mOut (gOf b x5) x11 (mOf b x8)⟩

/-- The store of the matrix of sequence `b`, head `h`. -/
def pieceC (b h : Fin 4) (x1 : Vec F S4x8x1024 .f32) (x2 : Vec F S16x1024 .f32) (x5 : Vec F S16x256 .f32) (x6 : Vec F S1x4x4x256x256 .f32) (x8 : Vec F S4x1x128 .f32)
    (x9 : Vec F S4x2048 .f32) (x10 : Vec F S1x2048 .f32) (x11 : Vec F S1x256 .f32) : View.Piece (Elt F) S1x4x4x256x256 .f32 :=
  ⟨Rect.unit (s := S1x4x4x256x256) ![0, b.val, h.val, 0, 0] S1x1x1x256x256.size (inb_c b h),
    cOut h (decay (gOf b x5) x11 (mOf b x8)) (wts (gOf b x5) x11 (mOf b x8)) (keys x9 x10 (fOf b x1)) (vals (vOf b x2)) (cOf b h x6)⟩

/-- The store of the vector of sequence `b`, head `h`. -/
def pieceN (b h : Fin 4) (x1 : Vec F S4x8x1024 .f32) (x5 : Vec F S16x256 .f32) (x7 : Vec F S1x4x4x256 .f32) (x8 : Vec F S4x1x128 .f32)
    (x9 : Vec F S4x2048 .f32) (x10 : Vec F S1x2048 .f32) (x11 : Vec F S1x256 .f32) : View.Piece (Elt F) S4x4x256 .f32 :=
  ⟨Rect.unit (s := S4x4x256) ![b.val, h.val, 0] S1x1x256.size (inb_o b h),
    nOut h (decay (gOf b x5) x11 (mOf b x8)) (wts (gOf b x5) x11 (mOf b x8)) (keys x9 x10 (fOf b x1)) (nOf b h x7)⟩

/-- A grid point leaves the four maxima in the output's buffer. -/
theorem blockM (c : Dev nD) (i : grid0.Coords) (arg1 : Memref sig .tc .vmem S4x8x1024 .f32) (harg1 : arg1.IsWhole) (arg2 : Memref sig .tc .vmem S4x8x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x256 .f32) (harg6 : arg6.IsWhole) (arg7 : Memref sig .tc .vmem S1x4x4x256x256 .f32) (harg7 : arg7.IsWhole) (arg8 : Memref sig .tc .vmem S1x4x4x256 .f32) (harg8 : arg8.IsWhole) (arg9 : Memref sig .tc .vmem S4x1x128 .f32) (harg9 : arg9.IsWhole) (arg10 : Memref sig .tc .vmem S4x2048 .f32) (harg10 : arg10.IsWhole) (arg11 : Memref sig .tc .vmem S1x2048 .f32) (harg11 : arg11.IsWhole) (arg12 : Memref sig .tc .vmem S1x256 .f32) (harg12 : arg12.IsWhole) (arg13 : Memref sig .tc .vmem S1x1024 .f32) (harg13 : arg13.IsWhole) (arg15 : Memref sig .tc .vmem S16x1024 .f32) (harg15 : arg15.IsWhole) (arg16 : Memref sig .tc .vmem S1x4x4x256x256 .f32) (harg16 : arg16.IsWhole) (arg17 : Memref sig .tc .vmem S4x4x256 .f32) (harg17 : arg17.IsWhole) (arg18 : Memref sig .tc .vmem S4x1x128 .f32) (harg18 : arg18.IsWhole) (x0 : Vec F S4x8x1024 .f32) (x1 : Vec F S4x8x1024 .f32) (x2 : Vec F S16x1024 .f32) (x3 : Vec F S16x1024 .f32) (x4 : Vec F S16x1024 .f32) (x5 : Vec F S16x256 .f32) (x6 : Vec F S1x4x4x256x256 .f32) (x7 : Vec F S1x4x4x256 .f32) (x8 : Vec F S4x1x128 .f32) (x9 : Vec F S4x2048 .f32) (x10 : Vec F S1x2048 .f32) (x11 : Vec F S1x256 .f32) (x12 : Vec F S1x1024 .f32) :
    out0_A_16 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 x0 x1 x2 x3 x4 x5 x6 x7 x8 x9 x10 x11 x12
      = View.canon [pieceM 3 x5 x8 x11, pieceM 2 x5 x8 x11, pieceM 1 x5 x8 x11, pieceM 0 x5 x8 x11] := by
  frame_out
  rfl

/-- A grid point leaves the sixteen vectors in the output's buffer. -/
theorem blockN (c : Dev nD) (i : grid0.Coords) (arg1 : Memref sig .tc .vmem S4x8x1024 .f32) (harg1 : arg1.IsWhole) (arg2 : Memref sig .tc .vmem S4x8x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x256 .f32) (harg6 : arg6.IsWhole) (arg7 : Memref sig .tc .vmem S1x4x4x256x256 .f32) (harg7 : arg7.IsWhole) (arg8 : Memref sig .tc .vmem S1x4x4x256 .f32) (harg8 : arg8.IsWhole) (arg9 : Memref sig .tc .vmem S4x1x128 .f32) (harg9 : arg9.IsWhole) (arg10 : Memref sig .tc .vmem S4x2048 .f32) (harg10 : arg10.IsWhole) (arg11 : Memref sig .tc .vmem S1x2048 .f32) (harg11 : arg11.IsWhole) (arg12 : Memref sig .tc .vmem S1x256 .f32) (harg12 : arg12.IsWhole) (arg13 : Memref sig .tc .vmem S1x1024 .f32) (harg13 : arg13.IsWhole) (arg15 : Memref sig .tc .vmem S16x1024 .f32) (harg15 : arg15.IsWhole) (arg16 : Memref sig .tc .vmem S1x4x4x256x256 .f32) (harg16 : arg16.IsWhole) (arg17 : Memref sig .tc .vmem S4x4x256 .f32) (harg17 : arg17.IsWhole) (arg18 : Memref sig .tc .vmem S4x1x128 .f32) (harg18 : arg18.IsWhole) (x0 : Vec F S4x8x1024 .f32) (x1 : Vec F S4x8x1024 .f32) (x2 : Vec F S16x1024 .f32) (x3 : Vec F S16x1024 .f32) (x4 : Vec F S16x1024 .f32) (x5 : Vec F S16x256 .f32) (x6 : Vec F S1x4x4x256x256 .f32) (x7 : Vec F S1x4x4x256 .f32) (x8 : Vec F S4x1x128 .f32) (x9 : Vec F S4x2048 .f32) (x10 : Vec F S1x2048 .f32) (x11 : Vec F S1x256 .f32) (x12 : Vec F S1x1024 .f32) :
    out0_A_15 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 x0 x1 x2 x3 x4 x5 x6 x7 x8 x9 x10 x11 x12
      = View.canon [pieceN 3 3 x1 x5 x7 x8 x9 x10 x11, pieceN 3 2 x1 x5 x7 x8 x9 x10 x11, pieceN 3 1 x1 x5 x7 x8 x9 x10 x11, pieceN 3 0 x1 x5 x7 x8 x9 x10 x11, pieceN 2 3 x1 x5 x7 x8 x9 x10 x11, pieceN 2 2 x1 x5 x7 x8 x9 x10 x11, pieceN 2 1 x1 x5 x7 x8 x9 x10 x11, pieceN 2 0 x1 x5 x7 x8 x9 x10 x11, pieceN 1 3 x1 x5 x7 x8 x9 x10 x11, pieceN 1 2 x1 x5 x7 x8 x9 x10 x11, pieceN 1 1 x1 x5 x7 x8 x9 x10 x11, pieceN 1 0 x1 x5 x7 x8 x9 x10 x11, pieceN 0 3 x1 x5 x7 x8 x9 x10 x11, pieceN 0 2 x1 x5 x7 x8 x9 x10 x11, pieceN 0 1 x1 x5 x7 x8 x9 x10 x11, pieceN 0 0 x1 x5 x7 x8 x9 x10 x11] := by
  frame_out
  rfl

/-- A grid point leaves the sixteen matrices in the output's buffer. -/
theorem blockC (c : Dev nD) (i : grid0.Coords) (arg1 : Memref sig .tc .vmem S4x8x1024 .f32) (harg1 : arg1.IsWhole) (arg2 : Memref sig .tc .vmem S4x8x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x256 .f32) (harg6 : arg6.IsWhole) (arg7 : Memref sig .tc .vmem S1x4x4x256x256 .f32) (harg7 : arg7.IsWhole) (arg8 : Memref sig .tc .vmem S1x4x4x256 .f32) (harg8 : arg8.IsWhole) (arg9 : Memref sig .tc .vmem S4x1x128 .f32) (harg9 : arg9.IsWhole) (arg10 : Memref sig .tc .vmem S4x2048 .f32) (harg10 : arg10.IsWhole) (arg11 : Memref sig .tc .vmem S1x2048 .f32) (harg11 : arg11.IsWhole) (arg12 : Memref sig .tc .vmem S1x256 .f32) (harg12 : arg12.IsWhole) (arg13 : Memref sig .tc .vmem S1x1024 .f32) (harg13 : arg13.IsWhole) (arg15 : Memref sig .tc .vmem S16x1024 .f32) (harg15 : arg15.IsWhole) (arg16 : Memref sig .tc .vmem S1x4x4x256x256 .f32) (harg16 : arg16.IsWhole) (arg17 : Memref sig .tc .vmem S4x4x256 .f32) (harg17 : arg17.IsWhole) (arg18 : Memref sig .tc .vmem S4x1x128 .f32) (harg18 : arg18.IsWhole) (x0 : Vec F S4x8x1024 .f32) (x1 : Vec F S4x8x1024 .f32) (x2 : Vec F S16x1024 .f32) (x3 : Vec F S16x1024 .f32) (x4 : Vec F S16x1024 .f32) (x5 : Vec F S16x256 .f32) (x6 : Vec F S1x4x4x256x256 .f32) (x7 : Vec F S1x4x4x256 .f32) (x8 : Vec F S4x1x128 .f32) (x9 : Vec F S4x2048 .f32) (x10 : Vec F S1x2048 .f32) (x11 : Vec F S1x256 .f32) (x12 : Vec F S1x1024 .f32) :
    out0_A_14 c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 arg18 harg18 x0 x1 x2 x3 x4 x5 x6 x7 x8 x9 x10 x11 x12
      = View.canon [pieceC 3 3 x1 x2 x5 x6 x8 x9 x10 x11, pieceC 3 2 x1 x2 x5 x6 x8 x9 x10 x11, pieceC 3 1 x1 x2 x5 x6 x8 x9 x10 x11, pieceC 3 0 x1 x2 x5 x6 x8 x9 x10 x11, pieceC 2 3 x1 x2 x5 x6 x8 x9 x10 x11, pieceC 2 2 x1 x2 x5 x6 x8 x9 x10 x11, pieceC 2 1 x1 x2 x5 x6 x8 x9 x10 x11, pieceC 2 0 x1 x2 x5 x6 x8 x9 x10 x11, pieceC 1 3 x1 x2 x5 x6 x8 x9 x10 x11, pieceC 1 2 x1 x2 x5 x6 x8 x9 x10 x11, pieceC 1 1 x1 x2 x5 x6 x8 x9 x10 x11, pieceC 1 0 x1 x2 x5 x6 x8 x9 x10 x11, pieceC 0 3 x1 x2 x5 x6 x8 x9 x10 x11, pieceC 0 2 x1 x2 x5 x6 x8 x9 x10 x11, pieceC 0 1 x1 x2 x5 x6 x8 x9 x10 x11, pieceC 0 0 x1 x2 x5 x6 x8 x9 x10 x11] := by
  frame_out
  rfl

end Body

end Cert.Kernel4Ideal.Mem

end
-- ==== Proof.MemCells.lean ====
/- The sample's mLSTM: the entries of what a sequence's body computes. -/
module

public import proofs.«01_k».proof.Proof.Mem

@[expose] public section

set_option maxRecDepth 16384

noncomputable section

namespace Cert.Kernel4Ideal.Mem

open Cert.Kernel4Ideal Cert.Kernel4Ideal.Gen
open Idealize.ShloMosaic Idealize.ShloMosaic.TcCoe

/-! ## The recurrence's functions -/

/-- The logarithm of a forget gate, from the gate's logit. -/
def lsig (z : EReal) : EReal := min z 0 - Ideal.log1p (Ideal.exp (0 - FloatOps.absf (F := Ideal) (φ := .f32) z))

/-- A lane's input gates over the four tokens. -/
def ig (g : Fin 4 → Fin 256 → EReal) (b : Fin 256 → EReal) (l : Fin 128) (t : Fin 4) : EReal := g t ⟨l, by omega⟩ + b ⟨l, by omega⟩

/-- A lane's forget gates' logarithms over the four tokens. -/
def fg (g : Fin 4 → Fin 256 → EReal) (b : Fin 256 → EReal) (l : Fin 128) (t : Fin 4) : EReal := lsig (g t ⟨128 + l, by omega⟩ + b ⟨128 + l, by omega⟩)

/-- The sums of the forget gates' logarithms up to each token. -/
def bt (f : Fin 4 → EReal) : Fin 4 → EReal := ![f 0, f 0 + f 1, f 0 + f 1 + f 2, f 0 + f 1 + f 2 + f 3]

/-- A token's input gate against the forget gates up to it. -/
def aa (i f : Fin 4 → EReal) (t : Fin 4) : EReal := i t - bt f t

/-- The greatest of the old maximum and the tokens' gates. -/
def gl (m : EReal) (i f : Fin 4 → EReal) : EReal := max (max (max (max m (aa i f 0)) (aa i f 1)) (aa i f 2)) (aa i f 3)

/-- The new maximum. -/
def mF (m : EReal) (i f : Fin 4 → EReal) : EReal := bt f 3 + gl m i f

/-- The old state's decay. -/
def dF (m : EReal) (i f : Fin 4 → EReal) : EReal := Ideal.exp (m - gl m i f)

/-- A token's weight. -/
def wF (m : EReal) (i f : Fin 4 → EReal) (t : Fin 4) : EReal := Ideal.exp (aa i f t - gl m i f)

/-- The convolution's value for a token. -/
def convF (cw : Fin 4 → Fin 2048 → EReal) (cb : Fin 2048 → EReal) (fk : Fin 8 → Fin 1024 → EReal) (t : Fin 4) (e : Fin 1024) : EReal :=
  cb ⟨1024 + e, by omega⟩ + fk ⟨t, by omega⟩ e * cw 0 ⟨1024 + e, by omega⟩ + fk ⟨1 + t, by omega⟩ e * cw 1 ⟨1024 + e, by omega⟩
    + fk ⟨2 + t, by omega⟩ e * cw 2 ⟨1024 + e, by omega⟩ + fk ⟨3 + t, by omega⟩ e * cw 3 ⟨1024 + e, by omega⟩

/-- A token's key. -/
def kF (cw : Fin 4 → Fin 2048 → EReal) (cb : Fin 2048 → EReal) (fk : Fin 8 → Fin 1024 → EReal) (t : Fin 4) (e : Fin 1024) : EReal :=
  convF cw cb fk t e * Ideal.logistic (convF cw cb fk t e) * Ideal.ofBits .f32 1031798784#32

/-- The column of a head's coordinate. -/
abbrev hcol (h : Fin 4) (p : Fin 256) : Fin 1024 := ⟨256 * h + p, by omega⟩

/-- The new vector's entry. -/
def nF (d : EReal) (w : Fin 4 → EReal) (k : Fin 4 → EReal) (n : EReal) : EReal := d * n + ∑ t : Fin 4, k t * w t

/-- The new matrix's entry. -/
def cF (d : EReal) (w : Fin 4 → EReal) (k v : Fin 4 → EReal) (c : EReal) : EReal := d * c + ∑ t : Fin 4, k t * w t * v t

/-- A sum over eight rows, the last four of them zero. -/
theorem sum8 (f : Fin 8 → EReal) (h : ∀ x : Fin 8, ¬ x.val < 4 → f x = 0) : ∑ x, f x = ∑ t : Fin 4, f ⟨t, by omega⟩ := by
  rw [Fin.sum_univ_eight, Fin.sum_univ_four, h 4 (by decide), h 5 (by decide), h 6 (by decide), h 7 (by decide)]
  simp only [add_zero]
  rfl

/-! ## The body's entries -/

section Cells
variable (g : Vec Ideal S4x256 .f32) (b : Vec Ideal S1x256 .f32) (mp : Vec Ideal S1x1x128 .f32)

/-- The rows of gates by their coordinates. -/
abbrev gf : Fin 4 → Fin 256 → EReal := fun t e => g (ix2 t e)
/-- The biases by their column. -/
abbrev bf : Fin 256 → EReal := fun e => b (ix2 0 e)

/-- The input gates' entries. -/
theorem ig_at (t : Fin 4) (l : Fin 128) : k0_pay9 g b (ix2 t l) = ig (gf g) (bf b) l t := by
  pointwise [k0_pay9, k0_pay8]
  rfl

/-- The forget gates' entries. -/
theorem fg_at (t : Fin 4) (l : Fin 128) : k0_pay10 g b (ix2 t l) = fg (gf g) (bf b) l t := by
  pointwise [k0_pay10, k0_pay8]
  rfl

/-- The entries of the greatest gate. -/
theorem gl_at (l : Fin 128) :
    k0_pay24 (k0_pay9 g b) (k0_pay10 g b) (k0_pay17 g b mp) (k0_pay18 g b) (k0_pay19 g b) (ix2 0 l) = gl (mp (ix3 0 0 l)) (ig (gf g) (bf b) l) (fg (gf g) (bf b) l) := by
  unfold k0_pay24 k0_pay23 k0_pay22 k0_pay21 k0_pay20 k0_pay19 k0_pay18 k0_pay17 k0_pay16 k0_pay15 k0_pay14 k0_pay13 k0_pay12 k0_pay11
  have hf := fun t => fg_at g b t l
  have hi := fun t => ig_at g b t l
  generalize k0_pay10 g b = f at hf ⊢
  generalize k0_pay9 g b = i at hi ⊢
  pointwise []
  simp only [hf, hi]
  rfl

/-- The new maximum's entries. -/
theorem m_at (l : Fin 128) : mOut g b mp (ix3 0 0 l) = mF (mp (ix3 0 0 l)) (ig (gf g) (bf b) l) (fg (gf g) (bf b) l) := by
  unfold mF
  rw [← gl_at]
  unfold mOut k0_pay25
  generalize k0_pay24 (k0_pay9 g b) (k0_pay10 g b) (k0_pay17 g b mp) (k0_pay18 g b) (k0_pay19 g b) = y
  unfold k0_pay22 k0_pay18 k0_pay15 k0_pay12
  have hf := fun t => fg_at g b t l
  generalize k0_pay10 g b = f at hf ⊢
  pointwise []
  simp only [hf]
  rfl

/-- The decay's entries. -/
theorem d_at (l : Fin 128) : decay g b mp (ix2 0 l) = dF (mp (ix3 0 0 l)) (ig (gf g) (bf b) l) (fg (gf g) (bf b) l) := by
  unfold dF
  rw [← gl_at]
  unfold decay k0_pay26
  generalize k0_pay24 (k0_pay9 g b) (k0_pay10 g b) (k0_pay17 g b mp) (k0_pay18 g b) (k0_pay19 g b) = y
  pointwise [k0_pay11]

/-- The weights' entries. -/
theorem w_at (t : Fin 4) (l : Fin 128) : wts g b mp (ix2 ⟨t, by omega⟩ l) = wF (mp (ix3 0 0 l)) (ig (gf g) (bf b) l) (fg (gf g) (bf b) l) t := by
  unfold wF
  rw [← gl_at]
  unfold wts k0_pay30
  generalize k0_pay24 (k0_pay9 g b) (k0_pay10 g b) (k0_pay17 g b mp) (k0_pay18 g b) (k0_pay19 g b) = y
  unfold k0_pay27 k0_pay23 k0_pay22 k0_pay20 k0_pay19 k0_pay18 k0_pay16 k0_pay15 k0_pay13 k0_pay12
  have hf := fun t => fg_at g b t l
  have hi := fun t => ig_at g b t l
  generalize k0_pay10 g b = f at hf ⊢
  generalize k0_pay9 g b = i at hi ⊢
  match t with
  | 0 => pointwise []; simp only [hf, hi]; rfl
  | 1 => pointwise []; simp only [hf, hi]; rfl
  | 2 => pointwise []; simp only [hf, hi]; rfl
  | 3 => pointwise []; simp only [hf, hi]; rfl

/-- The keys' entries. -/
theorem k_at (cw : Vec Ideal S4x2048 .f32) (cb : Vec Ideal S1x2048 .f32) (fk : Vec Ideal S1x8x1024 .f32) (t : Fin 4) (e : Fin 1024) :
    keys cw cb fk (ix2 ⟨t, by omega⟩ e) = kF (fun j e => cw (ix2 j e)) (fun e => cb (ix2 0 e)) (fun j e => fk (ix3 0 j e)) t e := by
  pointwise [keys, k0_pay6, k0_pay5, k0_pay4, k0_pay3, k0_pay2, k0_pay1]
  rfl

/-- The keys' last rows. -/
theorem k_zero (cw : Vec Ideal S4x2048 .f32) (cb : Vec Ideal S1x2048 .f32) (fk : Vec Ideal S1x8x1024 .f32) (x : Fin 8) (hx : ¬ x.val < 4) (e : Fin 1024) :
    keys cw cb fk (ix2 x e) = 0 := by
  pointwise [keys, k0_pay6, k0_pay5, k0_pay4, k0_pay3, k0_pay2, k0_pay1]
  rw [dif_neg hx, zero_mul, zero_mul]

/-- The values' entries. -/
theorem v_at (v : Vec Ideal S4x1024 .f32) (t : Fin 4) (e : Fin 1024) : vals v (ix2 ⟨t, by omega⟩ e) = v (ix2 t e) := by
  pointwise [vals, k0_pay7, k0_pay2]

end Cells

/-- The new matrix's entries. -/
theorem c_at (h : Fin 4) (d : FVec Ideal S1x128 .f32) (w : FVec Ideal S8x128 .f32) (k v : FVec Ideal S8x1024 .f32) (c : Vec Ideal S1x1x1x256x256 .f32)
    (hk : ∀ x : Fin 8, ¬ x.val < 4 → ∀ e, k (ix2 x e) = 0) (p q : Fin 256) :
    cOut h d w k v c (ix5 0 0 0 p q) = cF (d (ix2 0 ⟨h, by omega⟩)) (fun t => w (ix2 ⟨t, by omega⟩ ⟨h, by omega⟩)) (fun t => k (ix2 ⟨t, by omega⟩ (hcol h p)))
      (fun t => v (ix2 ⟨t, by omega⟩ (hcol h q))) (c (ix5 0 0 0 p q)) := by
  unfold cF
  refine Eq.trans ?_ (congrArg _ (sum8 (fun x => k (ix2 x (hcol h p)) * w (ix2 x ⟨h, by omega⟩) * v (ix2 x (hcol h q))) fun x hx => by simp only [hk x hx, zero_mul]))
  pointwise [cOut, k0_pay59, wkeys, headOf]

/-- The new vector's entries. -/
theorem n_at (h : Fin 4) (d : FVec Ideal S1x128 .f32) (w : FVec Ideal S8x128 .f32) (k : FVec Ideal S8x1024 .f32) (n : Vec Ideal S1x1x1x256 .f32)
    (hk : ∀ x : Fin 8, ¬ x.val < 4 → ∀ e, k (ix2 x e) = 0) (p : Fin 256) :
    nOut h d w k n (ix3 0 0 p) = nF (d (ix2 0 ⟨h, by omega⟩)) (fun t => w (ix2 ⟨t, by omega⟩ ⟨h, by omega⟩)) (fun t => k (ix2 ⟨t, by omega⟩ (hcol h p)))
      (n (ix4 0 0 0 p)) := by
  unfold nF
  refine Eq.trans ?_ (congrArg _ (sum8 (fun x => k (ix2 x (hcol h p)) * w (ix2 x ⟨h, by omega⟩)) fun x hx => by simp only [hk x hx, zero_mul]))
  pointwise [nOut, wkeys, headOf]

end Cert.Kernel4Ideal.Mem

end
-- ==== Proof.MemRef.lean ====
/- The sample's mLSTM: the entries of the reference's results. -/
module

public import Idealize.ShloMosaic.Lib.KernelVsHost
public import proofs.«01_k».proof.Proof.MemCells
public import proofs.«01_k».proof.Proof.Gen.Reference4Ideal.Read

@[expose] public section

set_option maxRecDepth 16384

noncomputable section

namespace Cert.Kernel4Ideal.Mem

open Cert.Reference4Ideal Cert.Reference4Ideal.Gen Cert.Reference4Ideal.Read
open Idealize.ShloMosaic Idealize.ShloMosaic.TcCoe

/-! ## The recurrence with its maximum kept in the sums -/

/-- The greatest of the sums is the sum with the greatest. -/
theorem max_sums (B m : EReal) (i b : Fin 4 → EReal) :
    max (B + m) (max (max (max (B - b 0 + i 0) (B - b 1 + i 1)) (B - b 2 + i 2)) (B - b 3 + i 3))
      = B + max (max (max (max m (i 0 - b 0)) (i 1 - b 1)) (i 2 - b 2)) (i 3 - b 3) := by
  have ha : ∀ t, B - b t + i t = B + (i t - b t) := fun t => by rw [sub_eq_add_neg, sub_eq_add_neg, add_assoc, add_comm (-b t)]
  have hm : ∀ x y : EReal, B + max x y = max (B + x) (B + y) := fun x y => (add_right_mono (a := B)).map_max
  simp only [ha, hm, max_assoc]

/-- A difference of two sums with the same real number. -/
theorem sub_sums (B : ℝ) (x y : EReal) : ((B : EReal) + x) - ((B : EReal) + y) = x - y := by
  induction x with
  | bot => simp
  | top => induction y with
    | bot => simp
    | top => simp
    | coe y => rw [← EReal.coe_add]; rfl
  | coe x => induction y with
    | bot => simp [← EReal.coe_add]
    | top => simp [← EReal.coe_add]
    | coe y => rw [← EReal.coe_add, ← EReal.coe_add, ← EReal.coe_sub, ← EReal.coe_sub]; exact congrArg _ (by ring)

/-- The soft plus of a real number. -/
theorem softplus_coe (x : ℝ) : Ideal.log1p (Ideal.exp (x : EReal)) = ((Real.log (1 + Real.exp x) : ℝ) : EReal) := by
  have hp : ¬ 1 + Real.exp x ≤ 0 := by have := Real.exp_pos x; linarith
  rw [Ideal.log1p, Ideal.exp_coe, ← EReal.coe_one, ← EReal.coe_add, Ideal.log_coe, if_neg hp]

/-- The absolute value of a real number. -/
theorem abs_coe (x : ℝ) : FloatOps.absf (F := Ideal) (φ := .f32) (x : EReal) = ((|x| : ℝ) : EReal) := by
  rw [Ideal.absf_def, ← EReal.coe_neg]
  exact (EReal.coe_strictMono.monotone.map_max (a := x) (b := -x)).symm

/-- A forget gate's logarithm, from a real logit. -/
theorem lsig_coe (r : ℝ) : lsig (r : EReal) = ((min r 0 - Real.log (1 + Real.exp (-|r|)) : ℝ) : EReal) := by
  rw [lsig, abs_coe, zero_sub, ← EReal.coe_neg, softplus_coe, EReal.coe_sub]
  exact congrArg (· - _) (EReal.coe_strictMono.monotone.map_min (a := r) (b := 0)).symm

variable (x0 : Vec Ideal S512x13312 .f32) (x1 : Vec Ideal S512x256 .f32) (x3 : Vec Ideal S128x8x1024 .f32) (x4 : Vec Ideal S2x128x4x256x256 .f32)
  (x5 : Vec Ideal S2x128x4x256 .f32) (x6 : Vec Ideal S128x1x128 .f32) (x7 : Vec Ideal S2x128x4x256x256 .f32)
  (x8 : Vec Ideal S4x2048 .f32) (x9 : Vec Ideal S1x2048 .f32) (x10 : Vec Ideal S1x256 .f32)

/-- The row of a sequence's token. -/
abbrev srow (s : Fin 128) (t : Fin 4) : Fin 512 := ⟨s * 4 + t, by omega⟩
/-- A sequence's gates by token and column. -/
abbrev sg (s : Fin 128) : Fin 4 → Fin 256 → EReal := fun t e => x1 (ix2 (srow s t) e)
/-- The biases by column. -/
abbrev sb : Fin 256 → EReal := fun e => x10 (ix2 0 e)

/-- The input gates. -/
theorem ref_ig (s : Fin 128) (t : Fin 4) (l : Fin 128) : val_main_v3 (F := Ideal) x1 x10 (ix3 s t l) = ig (sg x1 s) (sb x10) l t := by
  pointwise [val_main_v0, val_main_v1, val_main_v2, val_main_v3]
  rfl

/-- The forget gates' logits. -/
theorem ref_z (s : Fin 128) (t : Fin 4) (l : Fin 128) :
    val_main_v4 (F := Ideal) x1 x10 (ix3 s t l) = sg x1 s t ⟨128 + l, by omega⟩ + sb x10 ⟨128 + l, by omega⟩ := by
  pointwise [val_main_v0, val_main_v1, val_main_v2, val_main_v4]

/-- The forget gates, from real logits. -/
theorem ref_fg (s : Fin 128) (t : Fin 4) (l : Fin 128) (r : ℝ) (hr : sg x1 s t ⟨128 + l, by omega⟩ + sb x10 ⟨128 + l, by omega⟩ = (r : EReal)) :
    val_main_v5 (F := Ideal) x1 x10 (ix3 s t l) = fg (sg x1 s) (sb x10) l t := by
  unfold fg
  rw [hr, lsig_coe]
  have hz := (ref_z x1 x10 s t l).trans hr
  unfold val_main_v5 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_v0
  generalize val_main_v4 (F := Ideal) x1 x10 = z at hz ⊢
  pointwise [val_main_call0_call0_cst]
  rw [hz, if_neg (not_not.mpr rfl), ← EReal.coe_neg, abs_coe, ← EReal.coe_neg, softplus_coe, abs_neg,
    show max ((-r : ℝ) : EReal) 0 = ((max (-r) 0 : ℝ) : EReal) from (EReal.coe_strictMono.monotone.map_max (a := -r) (b := 0)).symm, ← EReal.coe_add, ← EReal.coe_neg]
  have hm : max (-r) 0 = -min r 0 := by rcases le_total r 0 with h | h <;> simp [h]
  rw [hm]
  exact congrArg _ (by ring)

/-- The sums of the forget gates' logarithms. -/
theorem ref_bt (s : Fin 128) (t : Fin 4) (l : Fin 128) (f : Fin 4 → EReal) (hf : ∀ t, val_main_v5 (F := Ideal) x1 x10 (ix3 s t l) = f t) :
    val_main_v18 (F := Ideal) x1 x10 (ix3 s t l) = bt f t := by
  unfold val_main_v18 val_main_v17 val_main_v16 val_main_v15 val_main_v14 val_main_v13 val_main_v12 val_main_v11 val_main_v10 val_main_v9 val_main_v8 val_main_v7
  generalize val_main_v5 (F := Ideal) x1 x10 = y at hf ⊢
  match t with
  | 0 => pointwise [val_main_cst, val_main_cst_0, val_main_cst_1, val_main_cst_2]; simp [hf, bt, Fin.sum_univ_four, Fin.sum_univ_three]
  | 1 => pointwise [val_main_cst, val_main_cst_0, val_main_cst_1, val_main_cst_2]; simp [hf, bt, Fin.sum_univ_four, Fin.sum_univ_three]
  | 2 => pointwise [val_main_cst, val_main_cst_0, val_main_cst_1, val_main_cst_2]; simp [hf, bt, Fin.sum_univ_four, Fin.sum_univ_three]
  | 3 => pointwise [val_main_cst, val_main_cst_0, val_main_cst_1, val_main_cst_2]; simp [hf, bt, Fin.sum_univ_four, Fin.sum_univ_three]

/-- The greatest of a lane's four sums. -/
theorem ref_max (s : Fin 128) (l : Fin 128) :
    val_main_v26 (F := Ideal) x1 x10 (ix2 s l) = max (max (max (val_main_v24 (F := Ideal) x1 x10 (ix3 s 0 l)) (val_main_v24 (F := Ideal) x1 x10 (ix3 s 1 l)))
      (val_main_v24 (F := Ideal) x1 x10 (ix3 s 2 l))) (val_main_v24 (F := Ideal) x1 x10 (ix3 s 3 l)) := by
  unfold val_main_v26
  generalize val_main_v24 (F := Ideal) x1 x10 = f
  have hb : (Ideal.ofBits FTy.f32 4286578688#32 : EReal) = ⊥ := by simp [Ideal.ofBits, Ideal.ieee]
  pointwise [val_main_cst_3]
  rw [hb, show (Finset.univ : Finset (Fin 4)) = {0, 1, 2, 3} from rfl]
  simp [Finset.fold_insert, max_assoc]

section Gates
variable (s : Fin 128) (l : Fin 128) (i f : Fin 4 → EReal) (hi : ∀ t, val_main_v3 (F := Ideal) x1 x10 (ix3 s t l) = i t)
  (hf : ∀ t, val_main_v5 (F := Ideal) x1 x10 (ix3 s t l) = f t)
include hi hf

/-- The sums' last. -/
theorem ref_last : val_main_v20 (F := Ideal) x1 x10 (ix2 s l) = bt f 3 := by
  rw [← ref_bt x1 x10 s 3 l f hf]
  unfold val_main_v20 val_main_v19
  generalize val_main_v18 (F := Ideal) x1 x10 = y
  pointwise []

/-- A token's weight's logarithm. -/
theorem ref_logw (t : Fin 4) : val_main_v24 (F := Ideal) x1 x10 (ix3 s t l) = bt f 3 - bt f t + i t := by
  rw [← ref_bt x1 x10 s t l f hf, ← ref_last x1 x10 s l i f hi hf, ← hi]
  unfold val_main_v24 val_main_v23 val_main_v22 val_main_v21
  generalize val_main_v18 (F := Ideal) x1 x10 = y
  generalize val_main_v20 (F := Ideal) x1 x10 = y'
  generalize val_main_v3 (F := Ideal) x1 x10 = y''
  pointwise []

/-- The new maximum. -/
theorem ref_m : val_main_v27 (F := Ideal) x1 x6 x10 (ix2 s l) = mF (x6 (ix3 s 0 l)) i f := by
  refine Eq.trans ?_ (max_sums (bt f 3) (x6 (ix3 s 0 l)) i (bt f))
  rw [← ref_logw x1 x10 s l i f hi hf, ← ref_logw x1 x10 s l i f hi hf, ← ref_logw x1 x10 s l i f hi hf, ← ref_logw x1 x10 s l i f hi hf, ← ref_max,
    ← ref_last x1 x10 s l i f hi hf]
  unfold val_main_v27 val_main_v25
  generalize val_main_v20 (F := Ideal) x1 x10 = y'
  generalize val_main_v26 (F := Ideal) x1 x10 = y
  pointwise [val_main_v6]

variable (B : ℝ) (hB : bt f 3 = (B : EReal))
include hB

/-- The decay's entries in all lanes. -/
theorem ref_d : val_main_v35 (F := Ideal) x1 x6 x10 (ix2 s l) = dF (x6 (ix3 s 0 l)) i f := by
  unfold dF
  rw [← sub_sums B, ← hB, show bt f 3 + gl (x6 (ix3 s 0 l)) i f = mF (x6 (ix3 s 0 l)) i f from rfl, ← ref_m x1 x6 x10 s l i f hi hf, ← ref_last x1 x10 s l i f hi hf]
  unfold val_main_v35 val_main_v34 val_main_v33
  generalize val_main_v20 (F := Ideal) x1 x10 = y'
  generalize val_main_v27 (F := Ideal) x1 x6 x10 = y
  pointwise [val_main_v6]

/-- The weights' entries in all lanes. -/
theorem ref_w (t : Fin 4) : val_main_v31 (F := Ideal) x1 x6 x10 (ix3 s t l) = wF (x6 (ix3 s 0 l)) i f t := by
  unfold wF
  rw [← sub_sums B, ← hB, show bt f 3 + gl (x6 (ix3 s 0 l)) i f = mF (x6 (ix3 s 0 l)) i f from rfl, ← ref_m x1 x6 x10 s l i f hi hf,
    show bt f 3 + aa i f t = bt f 3 - bt f t + i t by rw [aa, sub_eq_add_neg, sub_eq_add_neg, add_assoc, add_comm (-bt f t)], ← ref_logw x1 x10 s l i f hi hf]
  unfold val_main_v31 val_main_v30 val_main_v29 val_main_v28
  generalize val_main_v24 (F := Ideal) x1 x10 = y'
  generalize val_main_v27 (F := Ideal) x1 x6 x10 = y
  pointwise []

end Gates

/-- The convolution. -/
theorem ref_conv (s : Fin 128) (t : Fin 4) (e : Fin 1024) :
    val_main_v69 (F := Ideal) x3 x8 x9 (ix3 s t e) = convF (fun j e => x8 (ix2 j e)) (fun e => x9 (ix2 0 e)) (fun j e => x3 (ix3 s j e)) t e := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37]
  rfl

/-- The keys, before their factor. -/
theorem ref_silu (s : Fin 128) (t : Fin 4) (e : Fin 1024) :
    val_main_v70 (F := Ideal) x3 x8 x9 (ix3 s t e) = val_main_v69 (F := Ideal) x3 x8 x9 (ix3 s t e) * Ideal.logistic (val_main_v69 (F := Ideal) x3 x8 x9 (ix3 s t e)) := by
  unfold val_main_v70 val_main_call1_v5 val_main_call1_v4 val_main_call1_v3 val_main_call1_v2 val_main_call1_v1 val_main_call1_v0
  generalize val_main_v69 (F := Ideal) x3 x8 x9 = y
  pointwise [val_main_call1_cst, val_main_call1_cst_0]
  rfl

/-- The weighted keys. -/
theorem ref_kw (s : Fin 128) (t h : Fin 4) (p : Fin 256) :
    val_main_v76 (F := Ideal) x1 x3 x6 x8 x9 x10 (ix4 s t h p)
      = kF (fun j e => x8 (ix2 j e)) (fun e => x9 (ix2 0 e)) (fun j e => x3 (ix3 s j e)) t (hcol h p) * val_main_v31 (F := Ideal) x1 x6 x10 (ix3 s t ⟨h, by omega⟩) := by
  unfold kF
  rw [← ref_conv, ← ref_silu, mul_comm]
  unfold val_main_v76 val_main_v75 val_main_v74 val_main_v73 val_main_v72 val_main_v71 val_main_v32
  generalize val_main_v31 (F := Ideal) x1 x6 x10 = w
  generalize val_main_v70 (F := Ideal) x3 x8 x9 = k
  have hh : (⟨h * 256 + p, by omega⟩ : Fin 1024) = hcol h p := Fin.ext (by show h.val * 256 + p.val = 256 * h.val + p.val; omega)
  rw [← hh]
  pointwise [val_main_cst_4]

/-- The values. -/
theorem ref_v (s : Fin 128) (t h : Fin 4) (p : Fin 256) :
    val_main_v78 (F := Ideal) x0 (ix4 s t h p) = x0 (ix2 (srow s t) (⟨11264 + (hcol h p).val, by have := (hcol h p).isLt; omega⟩ : Fin 13312)) := by
  pointwise [val_main_v78, val_main_v77]
  refine congrArg x0 (congrArg (ix2 (srow s t)) (Fin.ext ?_))
  show 11264 + (h.val * 256 + p.val) = 11264 + (256 * h.val + p.val)
  omega

/-- The new matrix. -/
theorem ref_c (s : Fin 128) (h : Fin 4) (p q : Fin 256) :
    val_main_v85 (F := Ideal) x0 x1 x3 x4 x6 x8 x9 x10 (ix4 s h p q)
      = cF (val_main_v35 (F := Ideal) x1 x6 x10 (ix2 s ⟨h, by omega⟩)) (fun t => val_main_v31 (F := Ideal) x1 x6 x10 (ix3 s t ⟨h, by omega⟩))
        (fun t => kF (fun j e => x8 (ix2 j e)) (fun e => x9 (ix2 0 e)) (fun j e => x3 (ix3 s j e)) t (hcol h p))
        (fun t => val_main_v78 (F := Ideal) x0 (ix4 s t h q)) (x4 (ix5 1 s h p q)) := by
  unfold cF
  refine Eq.trans ?_ (congrArg _ (Finset.sum_congr rfl fun t _ => congrArg (· * _) (ref_kw x1 x3 x6 x8 x9 x10 s t h p)))
  unfold val_main_v85 val_main_v84 val_main_v83 val_main_v82 val_main_v81 val_main_v80 val_main_v79 val_main_v36
  generalize val_main_v76 (F := Ideal) x1 x3 x6 x8 x9 x10 = kw
  generalize val_main_v78 (F := Ideal) x0 = v
  generalize val_main_v35 (F := Ideal) x1 x6 x10 = d
  pointwise []

/-- The new vector. -/
theorem ref_n (s : Fin 128) (h : Fin 4) (p : Fin 256) :
    val_main_v92 (F := Ideal) x1 x3 x5 x6 x8 x9 x10 (ix3 s h p)
      = nF (val_main_v35 (F := Ideal) x1 x6 x10 (ix2 s ⟨h, by omega⟩)) (fun t => val_main_v31 (F := Ideal) x1 x6 x10 (ix3 s t ⟨h, by omega⟩))
        (fun t => kF (fun j e => x8 (ix2 j e)) (fun e => x9 (ix2 0 e)) (fun j e => x3 (ix3 s j e)) t (hcol h p)) (x5 (ix4 1 s h p)) := by
  unfold nF
  refine Eq.trans ?_ (congrArg _ (Finset.sum_congr rfl fun t _ => ref_kw x1 x3 x6 x8 x9 x10 s t h p))
  unfold val_main_v92 val_main_v91 val_main_v90 val_main_v89 val_main_v88 val_main_v87 val_main_v86 val_main_v36
  generalize val_main_v76 (F := Ideal) x1 x3 x6 x8 x9 x10 = kw
  generalize val_main_v35 (F := Ideal) x1 x6 x10 = d
  have h0 : val_main_cst_5 (F := Ideal) (Shape.Idx.first h_S_) = 0 := by pointwise [val_main_cst_5]
  pointwise [h0]

/-- The page that stays. -/
theorem ref_page0 (s : Fin 128) (h : Fin 4) (p q : Fin 256) :
    val_main_v97 (F := Ideal) x0 x1 x3 x4 x6 x7 x8 x9 x10 (ix5 0 s h p q) = x7 (ix5 0 s h p q) := by
  unfold val_main_v97 val_main_v96 val_main_v95 val_main_v94 val_main_v93
  generalize val_main_v85 (F := Ideal) x0 x1 x3 x4 x6 x8 x9 x10 = c
  pointwise []

/-- The page that is written. -/
theorem ref_page1 (s : Fin 128) (h : Fin 4) (p q : Fin 256) :
    val_main_v97 (F := Ideal) x0 x1 x3 x4 x6 x7 x8 x9 x10 (ix5 1 s h p q) = val_main_v85 (F := Ideal) x0 x1 x3 x4 x6 x8 x9 x10 (ix4 s h p q) := by
  unfold val_main_v97 val_main_v96 val_main_v95 val_main_v94 val_main_v93
  generalize val_main_v85 (F := Ideal) x0 x1 x3 x4 x6 x8 x9 x10 = c
  pointwise []

/-- The maximum's result. -/
theorem ref_m3 (s : Fin 128) (l : Fin 128) : val_main_v98 (F := Ideal) x1 x6 x10 (ix3 s 0 l) = val_main_v27 (F := Ideal) x1 x6 x10 (ix2 s l) := by
  unfold val_main_v98
  generalize val_main_v27 (F := Ideal) x1 x6 x10 = y
  pointwise []

end Cert.Kernel4Ideal.Mem

end
-- ==== Proof.MemVal.lean ====
/- The sample's mLSTM: the arrays of its results are the reference's. -/
module

public import proofs.«01_k».proof.Proof.MemRef
public import proofs.«01_k».proof.Proof.Finite
public import proofs.«01_k».proof.Proof.Gen.Pre_finite4

@[expose] public section

set_option maxRecDepth 16384

noncomputable section

namespace Cert.Kernel4Ideal.Mem

open Cert.Kernel4Ideal Cert.Kernel4Ideal.Gen
open Idealize.ShloMosaic Idealize.ShloMosaic.TcCoe

/-! ## The reference, from finite forget gates -/

section Reference
open Cert.Reference4Ideal.Read

variable (x0 : Vec Ideal Cert.Reference4Ideal.S512x13312 .f32) (x1 : Vec Ideal Cert.Reference4Ideal.S512x256 .f32) (x3 : Vec Ideal Cert.Reference4Ideal.S128x8x1024 .f32)
  (x4 : Vec Ideal Cert.Reference4Ideal.S2x128x4x256x256 .f32) (x5 : Vec Ideal Cert.Reference4Ideal.S2x128x4x256 .f32) (x6 : Vec Ideal Cert.Reference4Ideal.S128x1x128 .f32)
  (x7 : Vec Ideal Cert.Reference4Ideal.S2x128x4x256x256 .f32) (x8 : Vec Ideal Cert.Reference4Ideal.S4x2048 .f32) (x9 : Vec Ideal Cert.Reference4Ideal.S1x2048 .f32)
  (x10 : Vec Ideal Cert.Reference4Ideal.S1x256 .f32)

/-- The forget gates' columns and their biases are real. -/
def Real4 : Prop :=
  (∀ (r : Fin 512) (l : Fin 128), ∃ x : ℝ, x1 (ix2 r (⟨128 + l, by omega⟩ : Fin 256)) = (x : EReal))
    ∧ ∀ l : Fin 128, ∃ x : ℝ, x10 (ix2 0 (⟨128 + l, by omega⟩ : Fin 256)) = (x : EReal)

variable {x1 x10}

/-- A forget gate's logit is real. -/
theorem logit_real (h : Real4 x1 x10) (s : Fin 128) (t : Fin 4) (l : Fin 128) :
    ∃ r : ℝ, sg x1 s t ⟨128 + l, by omega⟩ + sb x10 ⟨128 + l, by omega⟩ = (r : EReal) := by
  obtain ⟨a, ha⟩ := h.1 (srow s t) l
  obtain ⟨b, hb⟩ := h.2 l
  exact ⟨a + b, by rw [EReal.coe_add, ← ha, ← hb]⟩

/-- The reference's forget gates. -/
theorem ref_gates (h : Real4 x1 x10) (s : Fin 128) (l : Fin 128) (t : Fin 4) :
    val_main_v5 (F := Ideal) x1 x10 (ix3 s t l) = fg (sg x1 s) (sb x10) l t := by
  obtain ⟨r, hr⟩ := logit_real h s t l
  exact ref_fg x1 x10 s t l r hr

/-- The sum of the forget gates' logarithms is real. -/
theorem last_real (h : Real4 x1 x10) (s : Fin 128) (l : Fin 128) : ∃ B : ℝ, bt (fg (sg x1 s) (sb x10) l) 3 = (B : EReal) := by
  have hf : ∀ t, ∃ r : ℝ, fg (sg x1 s) (sb x10) l t = (r : EReal) := fun t => by
    obtain ⟨r, hr⟩ := logit_real h s t l
    exact ⟨_, by unfold fg; rw [hr, lsig_coe]⟩
  obtain ⟨r0, h0⟩ := hf 0
  obtain ⟨r1, h1⟩ := hf 1
  obtain ⟨r2, h2⟩ := hf 2
  obtain ⟨r3, h3⟩ := hf 3
  refine ⟨r0 + r1 + r2 + r3, ?_⟩
  show fg (sg x1 s) (sb x10) l 0 + fg (sg x1 s) (sb x10) l 1 + fg (sg x1 s) (sb x10) l 2 + fg (sg x1 s) (sb x10) l 3 = _
  rw [h0, h1, h2, h3, EReal.coe_add, EReal.coe_add, EReal.coe_add]

/-- The reference's decay. -/
theorem ref_decay (h : Real4 x1 x10) (s : Fin 128) (l : Fin 128) :
    val_main_v35 (F := Ideal) x1 x6 x10 (ix2 s l) = dF (x6 (ix3 s 0 l)) (ig (sg x1 s) (sb x10) l) (fg (sg x1 s) (sb x10) l) := by
  obtain ⟨B, hB⟩ := last_real h s l
  exact ref_d x1 x6 x10 s l _ _ (fun t => ref_ig x1 x10 s t l) (fun t => ref_gates h s l t) B hB

/-- The reference's weights. -/
theorem ref_weight (h : Real4 x1 x10) (s : Fin 128) (l : Fin 128) (t : Fin 4) :
    val_main_v31 (F := Ideal) x1 x6 x10 (ix3 s t l) = wF (x6 (ix3 s 0 l)) (ig (sg x1 s) (sb x10) l) (fg (sg x1 s) (sb x10) l) t := by
  obtain ⟨B, hB⟩ := last_real h s l
  exact ref_w x1 x6 x10 s l _ _ (fun t => ref_ig x1 x10 s t l) (fun t => ref_gates h s l t) B hB t

/-- The reference's maximum. -/
theorem ref_max_at (h : Real4 x1 x10) (s : Fin 128) (l : Fin 128) :
    val_main_v98 (F := Ideal) x1 x6 x10 (ix3 s 0 l) = mF (x6 (ix3 s 0 l)) (ig (sg x1 s) (sb x10) l) (fg (sg x1 s) (sb x10) l) :=
  (ref_m3 x1 x6 x10 s l).trans (ref_m x1 x6 x10 s l _ _ (fun t => ref_ig x1 x10 s t l) (fun t => ref_gates h s l t))

/-- The reference's vector. -/
theorem ref_vec_at (hr : Real4 x1 x10) (s : Fin 128) (h : Fin 4) (p : Fin 256) :
    val_main_v92 (F := Ideal) x1 x3 x5 x6 x8 x9 x10 (ix3 s h p)
      = nF (dF (x6 (ix3 s 0 ⟨h, by omega⟩)) (ig (sg x1 s) (sb x10) ⟨h, by omega⟩) (fg (sg x1 s) (sb x10) ⟨h, by omega⟩))
        (wF (x6 (ix3 s 0 ⟨h, by omega⟩)) (ig (sg x1 s) (sb x10) ⟨h, by omega⟩) (fg (sg x1 s) (sb x10) ⟨h, by omega⟩))
        (fun t => kF (fun j e => x8 (ix2 j e)) (fun e => x9 (ix2 0 e)) (fun j e => x3 (ix3 s j e)) t (hcol h p)) (x5 (ix4 1 s h p)) := by
  rw [ref_n, ref_decay x6 hr]
  simp only [ref_weight x6 hr]

/-- The reference's matrix. -/
theorem ref_mat_at (hr : Real4 x1 x10) (s : Fin 128) (h : Fin 4) (p q : Fin 256) :
    val_main_v97 (F := Ideal) x0 x1 x3 x4 x6 x7 x8 x9 x10 (ix5 1 s h p q)
      = cF (dF (x6 (ix3 s 0 ⟨h, by omega⟩)) (ig (sg x1 s) (sb x10) ⟨h, by omega⟩) (fg (sg x1 s) (sb x10) ⟨h, by omega⟩))
        (wF (x6 (ix3 s 0 ⟨h, by omega⟩)) (ig (sg x1 s) (sb x10) ⟨h, by omega⟩) (fg (sg x1 s) (sb x10) ⟨h, by omega⟩))
        (fun t => kF (fun j e => x8 (ix2 j e)) (fun e => x9 (ix2 0 e)) (fun j e => x3 (ix3 s j e)) t (hcol h p))
        (fun t => x0 (ix2 (srow s t) (⟨11264 + (hcol h q).val, by have := (hcol h q).isLt; omega⟩ : Fin 13312))) (x4 (ix5 1 s h p q)) := by
  rw [ref_page1, ref_c, ref_decay x6 hr]
  simp only [ref_weight x6 hr, ref_v]

end Reference

/-! ## The blocks a sequence reads -/

/-- The index a unit rectangle reads. -/
theorem idx_unit {S : Shape} (off sz : Fin S.rank → ℕ) (inb : ∀ a, off a + sz a ≤ S.size a) (x : (Rect.unit (s := S) off sz inb).shape.Idx) (a : Fin S.rank) :
    ((Rect.unit (s := S) off sz inb).idx x a).val = off a + (x a).val := by
  show off a + 1 * (x a).val = off a + (x a).val
  omega

/-- A sequence's gates in the block. -/
theorem gOf_at (b : Fin 4) (x : Vec Ideal S16x256 .f32) (t : Fin 4) (e : Fin 256) : gOf b x (ix2 t e) = x (ix2 ⟨4 * b + t, by omega⟩ e) := by
  unfold gOf
  refine congrArg x (funext fun a => Fin.ext ((idx_unit _ _ _ _ a).trans ?_))
  fin_cases a <;> simp

/-- A sequence's values in the block. -/
theorem vOf_at (b : Fin 4) (x : Vec Ideal S16x1024 .f32) (t : Fin 4) (e : Fin 1024) : vOf b x (ix2 t e) = x (ix2 ⟨4 * b + t, by omega⟩ e) := by
  unfold vOf
  refine congrArg x (funext fun a => Fin.ext ((idx_unit _ _ _ _ a).trans ?_))
  fin_cases a <;> simp

/-- A sequence's rows for the convolution in the block. -/
theorem fOf_at (b : Fin 4) (x : Vec Ideal S4x8x1024 .f32) (j : Fin 8) (e : Fin 1024) : fOf b x (ix3 0 j e) = x (ix3 b j e) := by
  unfold fOf
  refine congrArg x (funext fun a => Fin.ext ((idx_unit _ _ _ _ a).trans ?_))
  fin_cases a <;> simp

/-- A sequence's old maximum in the block. -/
theorem mOf_at (b : Fin 4) (x : Vec Ideal S4x1x128 .f32) (l : Fin 128) : mOf b x (ix3 0 0 l) = x (ix3 b 0 l) := by
  unfold mOf
  refine congrArg x (funext fun a => Fin.ext ((idx_unit _ _ _ _ a).trans ?_))
  fin_cases a <;> simp

/-- A head's old matrix in the block. -/
theorem cOf_at (b h : Fin 4) (x : Vec Ideal S1x4x4x256x256 .f32) (p q : Fin 256) : cOf b h x (ix5 0 0 0 p q) = x (ix5 0 b h p q) := by
  unfold cOf
  refine congrArg x (funext fun a => Fin.ext ((idx_unit _ _ _ _ a).trans ?_))
  fin_cases a <;> simp

/-- A head's old vector in the block. -/
theorem nOf_at (b h : Fin 4) (x : Vec Ideal S1x4x4x256 .f32) (p : Fin 256) : nOf b h x (ix4 0 0 0 p) = x (ix4 0 b h p) := by
  unfold nOf
  refine congrArg x (funext fun a => Fin.ext ((idx_unit _ _ _ _ a).trans ?_))
  fin_cases a <;> simp

/-! ## The windows -/

variable (m : (ℓ : Loc nD τ sig) → Buf (Elt Ideal) ℓ)

/-- A grid point. -/
abbrev pt (t : Fin cfg0.N) : Fin 32 := grid0.coords t 0
/-- The sequence of a point's sequence `b`. -/
abbrev seq (t : Fin cfg0.N) (b : Fin 4) : Fin 128 := ⟨4 * pt t + b, by omega⟩

/-- The rows for the convolution: the index of a point's block. -/
theorem idx1 : ∀ t : Fin cfg0.N, win0_1.index t = ![(grid0.coords t 0).val, 0, 0] := (by decide +kernel : ∀ t : Fin grid0.N, _)
/-- The values: the index of a point's block. -/
theorem idx2 : ∀ t : Fin cfg0.N, win0_2.index t = ![(grid0.coords t 0).val, 11] := (by decide +kernel : ∀ t : Fin grid0.N, _)
/-- The gates: the index of a point's block. -/
theorem idx5 : ∀ t : Fin cfg0.N, win0_5.index t = ![(grid0.coords t 0).val, 0] := (by decide +kernel : ∀ t : Fin grid0.N, _)
/-- The old matrices: the index of a point's block. -/
theorem idx6 : ∀ t : Fin cfg0.N, win0_6.index t = ![1, (grid0.coords t 0).val, 0, 0, 0] := (by decide +kernel : ∀ t : Fin grid0.N, _)
/-- The old vectors: the index of a point's block. -/
theorem idx7 : ∀ t : Fin cfg0.N, win0_7.index t = ![1, (grid0.coords t 0).val, 0, 0] := (by decide +kernel : ∀ t : Fin grid0.N, _)
/-- The old maxima: the index of a point's block. -/
theorem idx8 : ∀ t : Fin cfg0.N, win0_8.index t = ![(grid0.coords t 0).val, 0, 0] := (by decide +kernel : ∀ t : Fin grid0.N, _)
/-- The convolution's weights: the index of a point's block. -/
theorem idx9 : ∀ t : Fin cfg0.N, win0_9.index t = ![0, 0] := (by decide +kernel : ∀ t : Fin grid0.N, _)
/-- The convolution's bias: the index of a point's block. -/
theorem idx10 : ∀ t : Fin cfg0.N, win0_10.index t = ![0, 0] := (by decide +kernel : ∀ t : Fin grid0.N, _)
/-- The gates' biases: the index of a point's block. -/
theorem idx11 : ∀ t : Fin cfg0.N, win0_11.index t = ![0, 0] := (by decide +kernel : ∀ t : Fin grid0.N, _)
/-- The new matrices: the index of a point's block. -/
theorem idx14 : ∀ t : Fin cfg0.N, win0_14.index t = ![1, (grid0.coords t 0).val, 0, 0, 0] := (by decide +kernel : ∀ t : Fin grid0.N, _)
/-- The new vectors: the index of a point's block. -/
theorem idx15 : ∀ t : Fin cfg0.N, win0_15.index t = ![(grid0.coords t 0).val, 0, 0] := (by decide +kernel : ∀ t : Fin grid0.N, _)
/-- The new maxima: the index of a point's block. -/
theorem idx16 : ∀ t : Fin cfg0.N, win0_16.index t = ![(grid0.coords t 0).val, 0, 0] := (by decide +kernel : ∀ t : Fin grid0.N, _)

/-- The rows for the convolution: a point's block. -/
theorem iblk1 (c : Dev nD) (t : Fin cfg0.N) (b : Fin 4) (j : Fin 8) (e : Fin 1024) :
    iblk m c 1 t (ix3 b j e) = m ((c.tc : Thread nD τ).loc main_arg3) (ix3 (seq t b) j e) := by
  blk_simp [iblk, V_main_arg3]
  refine congrArg _ ?_
  have h0 : (pt t : ℕ) = (grid0.coords t 0 : ℕ) := rfl
  blk_ext [idx1]
  all_goals omega

/-- The values: a point's block. -/
theorem iblk2 (c : Dev nD) (t : Fin cfg0.N) (b j : Fin 4) (e : Fin 1024) :
    iblk m c 2 t (ix2 ⟨4 * b + j, by omega⟩ e) = m ((c.tc : Thread nD τ).loc main_arg0) (ix2 (srow (seq t b) j) (⟨11264 + e, by omega⟩ : Fin 13312)) := by
  blk_simp [iblk, V_main_arg0]
  refine congrArg _ ?_
  have h0 : (pt t : ℕ) = (grid0.coords t 0 : ℕ) := rfl
  blk_ext [idx2]
  all_goals omega

/-- The gates: a point's block. -/
theorem iblk5 (c : Dev nD) (t : Fin cfg0.N) (b j : Fin 4) (e : Fin 256) :
    iblk m c 5 t (ix2 ⟨4 * b + j, by omega⟩ e) = m ((c.tc : Thread nD τ).loc main_arg1) (ix2 (srow (seq t b) j) e) := by
  blk_simp [iblk, V_main_arg1]
  refine congrArg _ ?_
  have h0 : (pt t : ℕ) = (grid0.coords t 0 : ℕ) := rfl
  blk_ext [idx5]
  all_goals omega

/-- The old matrices: a point's block. -/
theorem iblk6 (c : Dev nD) (t : Fin cfg0.N) (b h : Fin 4) (p q : Fin 256) :
    iblk m c 6 t (ix5 0 b h p q) = m ((c.tc : Thread nD τ).loc main_arg4) (ix5 1 (seq t b) h p q) := by
  blk_simp [iblk, V_main_arg4]
  refine congrArg _ ?_
  have h0 : (pt t : ℕ) = (grid0.coords t 0 : ℕ) := rfl
  blk_ext [idx6]
  all_goals omega

/-- The old vectors: a point's block. -/
theorem iblk7 (c : Dev nD) (t : Fin cfg0.N) (b h : Fin 4) (p : Fin 256) :
    iblk m c 7 t (ix4 0 b h p) = m ((c.tc : Thread nD τ).loc main_arg5) (ix4 1 (seq t b) h p) := by
  blk_simp [iblk, V_main_arg5]
  refine congrArg _ ?_
  have h0 : (pt t : ℕ) = (grid0.coords t 0 : ℕ) := rfl
  blk_ext [idx7]
  all_goals omega

/-- The old maxima: a point's block. -/
theorem iblk8 (c : Dev nD) (t : Fin cfg0.N) (b : Fin 4) (l : Fin 128) :
    iblk m c 8 t (ix3 b 0 l) = m ((c.tc : Thread nD τ).loc main_arg6) (ix3 (seq t b) 0 l) := by
  blk_simp [iblk, V_main_arg6]
  refine congrArg _ ?_
  have h0 : (pt t : ℕ) = (grid0.coords t 0 : ℕ) := rfl
  blk_ext [idx8]
  all_goals omega

/-- The convolution's weights: a point's block. -/
theorem iblk9 (c : Dev nD) (t : Fin cfg0.N) (j : Fin 4) (e : Fin 2048) :
    iblk m c 9 t (ix2 j e) = m ((c.tc : Thread nD τ).loc main_arg8) (ix2 j e) := by
  blk_simp [iblk, V_main_arg8]
  refine congrArg _ ?_
  blk_ext [idx9]

/-- The convolution's bias: a point's block. -/
theorem iblk10 (c : Dev nD) (t : Fin cfg0.N) (e : Fin 2048) :
    iblk m c 10 t (ix2 0 e) = m ((c.tc : Thread nD τ).loc main_arg9) (ix2 0 e) := by
  blk_simp [iblk, V_main_arg9]
  refine congrArg _ ?_
  blk_ext [idx10]

/-- The gates' biases: a point's block. -/
theorem iblk11 (c : Dev nD) (t : Fin cfg0.N) (e : Fin 256) :
    iblk m c 11 t (ix2 0 e) = m ((c.tc : Thread nD τ).loc main_arg10) (ix2 0 e) := by
  blk_simp [iblk, V_main_arg10]
  refine congrArg _ ?_
  blk_ext [idx11]

/-! ## The arrays -/

/-- Whatever is among the sixteen stores is the store of a sequence and a head. -/
theorem mem_pieces {α : Type} (P : Fin 4 → Fin 4 → α) (p : α)
    (hp : p ∈ [P 3 3, P 3 2, P 3 1, P 3 0, P 2 3, P 2 2, P 2 1, P 2 0, P 1 3, P 1 2, P 1 1, P 1 0, P 0 3, P 0 2, P 0 1, P 0 0]) : ∃ b h, p = P b h := by
  simp only [List.mem_cons, List.not_mem_nil, or_false] at hp
  rcases hp with e | e | e | e | e | e | e | e | e | e | e | e | e | e | e | e <;> exact ⟨_, _, e⟩

/-- The store of every sequence and head is among the sixteen. -/
theorem pieces_mem {α : Type} (P : Fin 4 → Fin 4 → α) (b h : Fin 4) :
    P b h ∈ [P 3 3, P 3 2, P 3 1, P 3 0, P 2 3, P 2 2, P 2 1, P 2 0, P 1 3, P 1 2, P 1 1, P 1 0, P 0 3, P 0 2, P 0 1, P 0 0] := by
  fin_cases b <;> fin_cases h <;> simp

section Stores
variable (x1 : Vec Ideal S4x8x1024 .f32) (x2 : Vec Ideal S16x1024 .f32) (x5 : Vec Ideal S16x256 .f32) (x6 : Vec Ideal S1x4x4x256x256 .f32) (x7 : Vec Ideal S1x4x4x256 .f32)
  (x8 : Vec Ideal S4x1x128 .f32) (x9 : Vec Ideal S4x2048 .f32) (x10 : Vec Ideal S1x2048 .f32) (x11 : Vec Ideal S1x256 .f32)

/-- Where the store of a head's vector puts an entry. -/
theorem embN (b h : Fin 4) (e : Fin 256) : (pieceN b h x1 x5 x7 x8 x9 x10 x11).1.emb (ix3 0 0 e) = ix3 b h e := by
  unfold pieceN
  blk_ext
  all_goals omega

/-- The buffer after the sixteen stores of vectors. -/
theorem canonN (G : S4x4x256.Idx → EReal)
    (hG : ∀ (b h : Fin 4) (e : Fin 256), nOut h (decay (gOf b x5) x11 (mOf b x8)) (wts (gOf b x5) x11 (mOf b x8)) (keys x9 x10 (fOf b x1)) (nOf b h x7) (ix3 0 0 e) = G (ix3 b h e))
    (y : S4x4x256.Idx) : View.canon (Val := Elt Ideal) [pieceN 3 3 x1 x5 x7 x8 x9 x10 x11, pieceN 3 2 x1 x5 x7 x8 x9 x10 x11, pieceN 3 1 x1 x5 x7 x8 x9 x10 x11, pieceN 3 0 x1 x5 x7 x8 x9 x10 x11, pieceN 2 3 x1 x5 x7 x8 x9 x10 x11, pieceN 2 2 x1 x5 x7 x8 x9 x10 x11, pieceN 2 1 x1 x5 x7 x8 x9 x10 x11, pieceN 2 0 x1 x5 x7 x8 x9 x10 x11, pieceN 1 3 x1 x5 x7 x8 x9 x10 x11, pieceN 1 2 x1 x5 x7 x8 x9 x10 x11, pieceN 1 1 x1 x5 x7 x8 x9 x10 x11, pieceN 1 0 x1 x5 x7 x8 x9 x10 x11, pieceN 0 3 x1 x5 x7 x8 x9 x10 x11, pieceN 0 2 x1 x5 x7 x8 x9 x10 x11, pieceN 0 1 x1 x5 x7 x8 x9 x10 x11, pieceN 0 0 x1 x5 x7 x8 x9 x10 x11] y = G y := by
  refine View.canon_apply_of_pieces (Val := Elt Ideal) (e := .f32) G _ (fun p hp x => ?_) y ?_
  · obtain ⟨b, h, rfl⟩ := mem_pieces (fun b h => pieceN b h x1 x5 x7 x8 x9 x10 x11) p hp
    obtain ⟨e, rfl⟩ : ∃ e : Fin 256, x = ix3 0 0 e := ⟨x 2, funext fun a => by
      match a with
      | ⟨0, _⟩ => exact Fin.ext (by have h : (x 0).val < 1 := (x 0).isLt; show (x 0).val = 0; omega)
      | ⟨1, _⟩ => exact Fin.ext (by have h : (x 1).val < 1 := (x 1).isLt; show (x 1).val = 0; omega)
      | ⟨2, _⟩ => rfl⟩
    exact (hG b h e).trans (congrArg G (embN x1 x5 x7 x8 x9 x10 x11 b h e).symm)
  · have hy0 : (y 0).val < 4 := (y 0).isLt
    have hy1 : (y 1).val < 4 := (y 1).isLt
    have hy2 : (y 2).val < 256 := (y 2).isLt
    refine ⟨_, pieces_mem (fun b h => pieceN b h x1 x5 x7 x8 x9 x10 x11) ⟨(y 0).val, hy0⟩ ⟨(y 1).val, hy1⟩, (LoadRect.mem_set _).mpr fun a => ?_⟩
    match a with
    | 0 => exact ⟨0, (by decide : 0 < 1), (by omega : (y 0).val = (y 0).val + 1 * 0)⟩
    | 1 => exact ⟨0, (by decide : 0 < 1), (by omega : (y 1).val = (y 1).val + 1 * 0)⟩
    | 2 => exact ⟨(y 2).val, hy2, (by omega : (y 2).val = 0 + 1 * (y 2).val)⟩

/-- Where the store of a head's matrix puts an entry. -/
theorem embC (b h : Fin 4) (e q : Fin 256) : (pieceC b h x1 x2 x5 x6 x8 x9 x10 x11).1.emb (ix5 0 0 0 e q) = ix5 0 b h e q := by
  unfold pieceC
  blk_ext
  all_goals omega

/-- The buffer after the sixteen stores of matrices. -/
theorem canonC (G : S1x4x4x256x256.Idx → EReal)
    (hG : ∀ (b h : Fin 4) (e q : Fin 256), cOut h (decay (gOf b x5) x11 (mOf b x8)) (wts (gOf b x5) x11 (mOf b x8)) (keys x9 x10 (fOf b x1)) (vals (vOf b x2)) (cOf b h x6)
      (ix5 0 0 0 e q) = G (ix5 0 b h e q))
    (y : S1x4x4x256x256.Idx) : View.canon (Val := Elt Ideal) [pieceC 3 3 x1 x2 x5 x6 x8 x9 x10 x11, pieceC 3 2 x1 x2 x5 x6 x8 x9 x10 x11, pieceC 3 1 x1 x2 x5 x6 x8 x9 x10 x11, pieceC 3 0 x1 x2 x5 x6 x8 x9 x10 x11, pieceC 2 3 x1 x2 x5 x6 x8 x9 x10 x11, pieceC 2 2 x1 x2 x5 x6 x8 x9 x10 x11, pieceC 2 1 x1 x2 x5 x6 x8 x9 x10 x11, pieceC 2 0 x1 x2 x5 x6 x8 x9 x10 x11, pieceC 1 3 x1 x2 x5 x6 x8 x9 x10 x11, pieceC 1 2 x1 x2 x5 x6 x8 x9 x10 x11, pieceC 1 1 x1 x2 x5 x6 x8 x9 x10 x11, pieceC 1 0 x1 x2 x5 x6 x8 x9 x10 x11, pieceC 0 3 x1 x2 x5 x6 x8 x9 x10 x11, pieceC 0 2 x1 x2 x5 x6 x8 x9 x10 x11, pieceC 0 1 x1 x2 x5 x6 x8 x9 x10 x11, pieceC 0 0 x1 x2 x5 x6 x8 x9 x10 x11] y = G y := by
  refine View.canon_apply_of_pieces (Val := Elt Ideal) (e := .f32) G _ (fun p hp x => ?_) y ?_
  · obtain ⟨b, h, rfl⟩ := mem_pieces (fun b h => pieceC b h x1 x2 x5 x6 x8 x9 x10 x11) p hp
    obtain ⟨e, q, rfl⟩ : ∃ e q : Fin 256, x = ix5 0 0 0 e q := ⟨x 3, x 4, funext fun a => by
      match a with
      | ⟨0, _⟩ => exact Fin.ext (by have h : (x 0).val < 1 := (x 0).isLt; show (x 0).val = 0; omega)
      | ⟨1, _⟩ => exact Fin.ext (by have h : (x 1).val < 1 := (x 1).isLt; show (x 1).val = 0; omega)
      | ⟨2, _⟩ => exact Fin.ext (by have h : (x 2).val < 1 := (x 2).isLt; show (x 2).val = 0; omega)
      | ⟨3, _⟩ => rfl
      | ⟨4, _⟩ => rfl⟩
    exact (hG b h e q).trans (congrArg G (embC x1 x2 x5 x6 x8 x9 x10 x11 b h e q).symm)
  · have hy0 : (y 0).val < 1 := (y 0).isLt
    have hy1 : (y 1).val < 4 := (y 1).isLt
    have hy2 : (y 2).val < 4 := (y 2).isLt
    have hy3 : (y 3).val < 256 := (y 3).isLt
    have hy4 : (y 4).val < 256 := (y 4).isLt
    refine ⟨_, pieces_mem (fun b h => pieceC b h x1 x2 x5 x6 x8 x9 x10 x11) ⟨(y 1).val, hy1⟩ ⟨(y 2).val, hy2⟩, (LoadRect.mem_set _).mpr fun a => ?_⟩
    match a with
    | 0 => exact ⟨0, (by decide : 0 < 1), (by omega : (y 0).val = 0 + 1 * 0)⟩
    | 1 => exact ⟨0, (by decide : 0 < 1), (by omega : (y 1).val = (y 1).val + 1 * 0)⟩
    | 2 => exact ⟨0, (by decide : 0 < 1), (by omega : (y 2).val = (y 2).val + 1 * 0)⟩
    | 3 => exact ⟨(y 3).val, hy3, (by omega : (y 3).val = 0 + 1 * (y 3).val)⟩
    | 4 => exact ⟨(y 4).val, hy4, (by omega : (y 4).val = 0 + 1 * (y 4).val)⟩

end Stores

variable (c : Dev nD) (t : Fin cfg0.N)

/-- A point's gates are the array's. -/
theorem gates (b : Fin 4) : gf (gOf b (iblk m c 5 t)) = sg (m ((c.tc : Thread nD τ).loc main_arg1)) (seq t b) :=
  funext fun j => funext fun e => (gOf_at b _ j e).trans (iblk5 m c t b j e)

/-- A point's biases are the array's. -/
theorem biases : bf (iblk m c 11 t) = sb (m ((c.tc : Thread nD τ).loc main_arg10)) := funext fun e => iblk11 m c t e

/-- A point's keys are the array's. -/
theorem keys_at (b j : Fin 4) (e : Fin 1024) :
    keys (iblk m c 9 t) (iblk m c 10 t) (fOf b (iblk m c 1 t)) (ix2 ⟨j, by omega⟩ e)
      = kF (fun j e => m ((c.tc : Thread nD τ).loc main_arg8) (ix2 j e)) (fun e => m ((c.tc : Thread nD τ).loc main_arg9) (ix2 0 e))
        (fun i e => m ((c.tc : Thread nD τ).loc main_arg3) (ix3 (seq t b) i e)) j e := by
  rw [k_at]
  simp only [fOf_at, iblk1, iblk9, iblk10]

/-- A head's new vector is the reference's. -/
theorem vec_at (hr : Real4 (m ((c.tc : Thread nD τ).loc main_arg1)) (m ((c.tc : Thread nD τ).loc main_arg10))) (b h : Fin 4) (e : Fin 256) :
    nOut h (decay (gOf b (iblk m c 5 t)) (iblk m c 11 t) (mOf b (iblk m c 8 t))) (wts (gOf b (iblk m c 5 t)) (iblk m c 11 t) (mOf b (iblk m c 8 t)))
      (keys (iblk m c 9 t) (iblk m c 10 t) (fOf b (iblk m c 1 t))) (nOf b h (iblk m c 7 t)) (ix3 0 0 e)
    = Cert.Reference4Ideal.Read.val_main_v92 (F := Ideal) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg8)) (m ((c.tc : Thread nD τ).loc main_arg9))
      (m ((c.tc : Thread nD τ).loc main_arg10)) (ix3 (seq t b) h e) := by
  refine ((n_at h _ _ _ _ (fun x hx e => k_zero _ _ _ x hx e) e).trans ?_).trans (ref_vec_at _ _ _ _ _ hr (seq t b) h e).symm
  simp only [d_at, w_at, gates, biases, mOf_at, iblk8, keys_at, nOf_at, iblk7]

/-- A head's new matrix is the reference's. -/
theorem mat_at (hr : Real4 (m ((c.tc : Thread nD τ).loc main_arg1)) (m ((c.tc : Thread nD τ).loc main_arg10))) (b h : Fin 4) (e q : Fin 256) :
    cOut h (decay (gOf b (iblk m c 5 t)) (iblk m c 11 t) (mOf b (iblk m c 8 t))) (wts (gOf b (iblk m c 5 t)) (iblk m c 11 t) (mOf b (iblk m c 8 t)))
      (keys (iblk m c 9 t) (iblk m c 10 t) (fOf b (iblk m c 1 t))) (vals (vOf b (iblk m c 2 t))) (cOf b h (iblk m c 6 t)) (ix5 0 0 0 e q)
    = Cert.Reference4Ideal.Read.val_main_v97 (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (ix5 1 (seq t b) h e q) := by
  refine ((c_at h _ _ _ _ _ (fun x hx e => k_zero _ _ _ x hx e) e q).trans ?_).trans (ref_mat_at _ _ _ _ _ _ _ hr (seq t b) h e q).symm
  simp only [d_at, w_at, gates, biases, mOf_at, iblk8, keys_at, v_at, vOf_at, iblk2, cOf_at, iblk6]

/-- The new maxima's array is the reference's. -/
theorem array_m (hr : Real4 (m ((c.tc : Thread nD τ).loc main_arg1)) (m ((c.tc : Thread nD τ).loc main_arg10))) :
    (dats m 0 c).arrAt 16 cfg0.N = Cert.Reference4Ideal.Read.val_main_v98 (F := Ideal) (m ((c.tc : Thread nD τ).loc main_arg1)) (m ((c.tc : Thread nD τ).loc main_arg6))
      (m ((c.tc : Thread nD τ).loc main_arg10)) := by
  refine (dats m 0 c).arrAt_eq_of_covers 16 _ (by decide +kernel) fun t hf y => ?_
  blk_simp
  rw [after0_16]
  unfold outsAt0
  rw [blockM]
  refine View.canon_apply_of_pieces (fun y => Cert.Reference4Ideal.Read.val_main_v98 (F := Ideal) (m ((c.tc : Thread nD τ).loc main_arg1))
    (m ((c.tc : Thread nD τ).loc main_arg6)) (m ((c.tc : Thread nD τ).loc main_arg10)) ((win0_16.blk t).view.emb y)) _ (fun p hp x => ?_) y ?_
  · obtain ⟨b, rfl⟩ : ∃ b, p = pieceM b (iblk m c 5 t) (iblk m c 8 t) (iblk m c 11 t) := by
      simp only [List.mem_cons, List.not_mem_nil, or_false] at hp
      rcases hp with e | e | e | e <;> exact ⟨_, e⟩
    obtain ⟨l, rfl⟩ : ∃ l : Fin 128, x = ix3 0 0 l := ⟨x 2, funext fun a => by
      match a with
      | ⟨0, _⟩ => exact Fin.ext (by have h : (x 0).val < 1 := (x 0).isLt; show (x 0).val = 0; omega)
      | ⟨1, _⟩ => exact Fin.ext (by have h : (x 1).val < 1 := (x 1).isLt; show (x 1).val = 0; omega)
      | ⟨2, _⟩ => rfl⟩
    have he : (win0_16.blk t).view.emb ((pieceM b (iblk m c 5 t) (iblk m c 8 t) (iblk m c 11 t)).1.emb (ix3 0 0 l)) = ix3 (seq t b) 0 l := by
      have h0 : (pt t : ℕ) = (grid0.coords t 0 : ℕ) := rfl
      unfold pieceM
      blk_ext [idx16]
      all_goals omega
    refine Eq.trans ?_ (congrArg _ he.symm)
    refine ((m_at _ _ _ l).trans ?_).trans (ref_max_at _ hr (seq t b) l).symm
    rw [gates, biases, mOf_at, iblk8]
  · have hy0 : (y 0).val < 4 := (y 0).isLt
    have hy1 : (y 1).val < 1 := (y 1).isLt
    have hy2 : (y 2).val < 128 := (y 2).isLt
    refine ⟨pieceM ⟨(y 0).val, hy0⟩ (iblk m c 5 t) (iblk m c 8 t) (iblk m c 11 t), ?_, ?_⟩
    · have all : ∀ b : Fin 4, pieceM b (iblk m c 5 t) (iblk m c 8 t) (iblk m c 11 t) ∈ [pieceM 3 (iblk m c 5 t) (iblk m c 8 t) (iblk m c 11 t), pieceM 2 (iblk m c 5 t) (iblk m c 8 t) (iblk m c 11 t),
          pieceM 1 (iblk m c 5 t) (iblk m c 8 t) (iblk m c 11 t), pieceM 0 (iblk m c 5 t) (iblk m c 8 t) (iblk m c 11 t)] := by
        intro b; fin_cases b <;> simp
      exact all _
    · refine (LoadRect.mem_set _).mpr fun a => ?_
      match a with
      | 0 => exact ⟨0, (by decide : 0 < 1), (by omega : (y 0).val = (y 0).val + 1 * 0)⟩
      | 1 => exact ⟨0, (by decide : 0 < 1), (by omega : (y 1).val = 0 + 1 * 0)⟩
      | 2 => exact ⟨(y 2).val, hy2, (by omega : (y 2).val = 0 + 1 * (y 2).val)⟩

/-- Where a point's block of new vectors stands in the array. -/
theorem blkN (b h : Fin 4) (e : Fin 256) : (win0_15.blk t).view.emb (ix3 b h e) = ix3 (seq t b) h e := by
  have h0 : (pt t : ℕ) = (grid0.coords t 0 : ℕ) := rfl
  blk_ext [idx15]
  all_goals omega

/-- What a point leaves of the new vectors. -/
theorem afterN (y : S4x4x256.Idx) (hr : Real4 (m ((c.tc : Thread nD τ).loc main_arg1)) (m ((c.tc : Thread nD τ).loc main_arg10))) :
    (dats m 0 c).after 15 t y = Cert.Reference4Ideal.Read.val_main_v92 (F := Ideal) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg8)) (m ((c.tc : Thread nD τ).loc main_arg9))
      (m ((c.tc : Thread nD τ).loc main_arg10)) ((win0_15.blk t).view.emb y) := by
  rw [after0_15]
  unfold outsAt0
  dsimp only
  rw [blockN]
  exact canonN (iblk m c 1 t) (iblk m c 5 t) (iblk m c 7 t) (iblk m c 8 t) (iblk m c 9 t) (iblk m c 10 t) (iblk m c 11 t) (fun y => Cert.Reference4Ideal.Read.val_main_v92 (F := Ideal) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg8)) (m ((c.tc : Thread nD τ).loc main_arg9))
      (m ((c.tc : Thread nD τ).loc main_arg10)) ((win0_15.blk t).view.emb y)) (fun b h e => (vec_at m c t hr b h e).trans (congrArg (Cert.Reference4Ideal.Read.val_main_v92 (F := Ideal) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg8)) (m ((c.tc : Thread nD τ).loc main_arg9))
      (m ((c.tc : Thread nD τ).loc main_arg10))) (blkN t b h e).symm)) y

/-- Where a point's block of new matrices stands in the array. -/
theorem blkC (b h : Fin 4) (e q : Fin 256) : (win0_14.blk t).view.emb (ix5 0 b h e q) = ix5 1 (seq t b) h e q := by
  have h0 : (pt t : ℕ) = (grid0.coords t 0 : ℕ) := rfl
  blk_ext [idx14]
  all_goals omega

/-- What a point leaves of the new matrices. -/
theorem afterC (y : S1x4x4x256x256.Idx) (hr : Real4 (m ((c.tc : Thread nD τ).loc main_arg1)) (m ((c.tc : Thread nD τ).loc main_arg10))) :
    (dats m 0 c).after 14 t y = Cert.Reference4Ideal.Read.val_main_v97 (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) ((win0_14.blk t).view.emb y) := by
  rw [after0_14]
  unfold outsAt0
  dsimp only
  rw [blockC]
  exact canonC (iblk m c 1 t) (iblk m c 2 t) (iblk m c 5 t) (iblk m c 6 t) (iblk m c 8 t) (iblk m c 9 t) (iblk m c 10 t) (iblk m c 11 t) (fun y => Cert.Reference4Ideal.Read.val_main_v97 (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) ((win0_14.blk t).view.emb y)) (fun b h e q => (mat_at m c t hr b h e q).trans (congrArg (Cert.Reference4Ideal.Read.val_main_v97 (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))) (blkC t b h e q).symm)) y

/-- The new vectors' array is the reference's. -/
theorem array_n (hr : Real4 (m ((c.tc : Thread nD τ).loc main_arg1)) (m ((c.tc : Thread nD τ).loc main_arg10))) :
    (dats m 0 c).arrAt 15 cfg0.N = Cert.Reference4Ideal.Read.val_main_v92 (F := Ideal) (m ((c.tc : Thread nD τ).loc main_arg1)) (m ((c.tc : Thread nD τ).loc main_arg3))
      (m ((c.tc : Thread nD τ).loc main_arg5)) (m ((c.tc : Thread nD τ).loc main_arg6)) (m ((c.tc : Thread nD τ).loc main_arg8)) (m ((c.tc : Thread nD τ).loc main_arg9))
      (m ((c.tc : Thread nD τ).loc main_arg10)) := by
  refine (dats m 0 c).arrAt_eq_of_covers 15 _ (by decide +kernel) fun t hf y => ?_
  blk_simp
  exact afterN m c t y hr

/-- The region finds the matrices' result as the copy of the argument that was made before it. -/
theorem V_mats : V m c main_v0_1 = m ((c.tc : Thread nD τ).loc main_arg7) := by
  simp only [V, hostOps0, StableHlo.after_cons, StableHlo.after_nil]
  rw [StableHlo.unary_result]
  rfl

/-- The new matrices' array is the reference's. -/
theorem array_c (hr : Real4 (m ((c.tc : Thread nD τ).loc main_arg1)) (m ((c.tc : Thread nD τ).loc main_arg10))) :
    (dats m 0 c).arrAt 14 cfg0.N = Cert.Reference4Ideal.Read.val_main_v97 (F := Ideal) (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  refine (dats m 0 c).arrAt_eq_of_coversWhere_of_agree 14 _ (fun β => β (0 : Fin _) = 1) (by decide +kernel) (fun t hf y => ?_) (fun j hj => ?_)
  · blk_simp
    exact afterC m c t y hr
  · obtain ⟨g, s, h, p, q, rfl⟩ : ∃ (g : Fin 2) (s : Fin 128) (h : Fin 4) (p q : Fin 256), j = ix5 g s h p q := ⟨j 0, j 1, j 2, j 3, j 4, funext fun a => by
      match a with
      | ⟨0, _⟩ => rfl
      | ⟨1, _⟩ => rfl
      | ⟨2, _⟩ => rfl
      | ⟨3, _⟩ => rfl
      | ⟨4, _⟩ => rfl⟩
    blk_simp [Pipeline.Window.cell_apply] at hj
    have hg : g = 0 := by omega
    subst hg
    refine (congrFun ((A_eq m c 14).trans (V_mats m c)) (ix5 0 s h p q)).trans (ref_page0 _ _ _ _ _ _ _ _ _ s h p q).symm

/-! ## The precondition -/

/-- The precondition says that the forget gates' columns and biases are real. -/
theorem real4 (u : Vec Ideal S512x13312 .f32) (g : Vec Ideal S512x256 .f32) (fq fk : Vec Ideal S128x8x1024 .f32) (sc : Vec Ideal S2x128x4x256x256 .f32)
    (sn : Vec Ideal S2x128x4x256 .f32) (m0 : Vec Ideal S128x1x128 .f32) (cp : Vec Ideal S2x128x4x256x256 .f32) (cw : Vec Ideal S4x2048 .f32) (cb : Vec Ideal S1x2048 .f32)
    (br : Vec Ideal S1x256 .f32) (nw : Vec Ideal S1x1024 .f32)
    (h1 : (Cert.Pre_finite4.fn (F := Ideal) u g fq fk sc sn m0 cp cw cb br nw).1 = fun _ => 1#1)
    (h2 : (Cert.Pre_finite4.fn (F := Ideal) u g fq fk sc sn m0 cp cw cb br nw).2 = fun _ => 1#1) : Real4 g br := by
  refine ⟨fun r l => ⟨_, Cert.Finite.real_of_lt _ (Eq.trans ?_ (congrFun h1 (ix2 r l)))⟩, fun l => ⟨_, Cert.Finite.real_of_lt _ (Eq.trans ?_ (congrFun h2 (ix2 0 l)))⟩⟩
  · pointwise [Cert.Pre_finite4.fn]
  · pointwise [Cert.Pre_finite4.fn]

end Cert.Kernel4Ideal.Mem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Final
public import proofs.«01_k».proof.Proof.Finite
public import proofs.«01_k».proof.Proof.Out
public import proofs.«01_k».proof.Proof.Proj
public import proofs.«01_k».proof.Proof.ProjVal
public import proofs.«01_k».proof.Proof.Gen.Kernel3.Skeleton
public import proofs.«01_k».proof.Proof.Gen.Kernel3Ideal.Skeleton
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Quiescent
public import Idealize.ShloMosaic.Adequacy
public import Idealize.ShloMosaic.Init
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.MemVal

@[expose] public section

noncomputable section

namespace Cert.Proof

open Idealize.ShloMosaic Idealize.SL.Sem Cert.Kernel

/-- The reference's run leaves its arguments unchanged and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) _⟩) (Cert.ReferenceIdeal.Value.run m g)

/-- The kernel and the reference, from memories that agree on finite arguments, end with the same attention. -/
theorem algebraic : Cert.algebraic_KernelIdeal_ReferenceIdeal_pre_finite := by
  intro m g m' g' hpre hargs
  refine ⟨fun c => Cert.ReferenceIdeal.Read.val_main_v71 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run _ _ _).mono (fun r h c => ?_) (Cert.KernelIdeal.Value.run_blocks m g)
    obtain ⟨Λ, hΛ⟩ := Cert.Finite.lam_real _ (Cert.Finite.vecs _ _ _ (hpre c).2)
    exact ⟨(h c).1.trans (Cert.KernelIdeal.Final.array m c (Cert.Finite.cols _ _ _ (hpre c).1) Λ ((Cert.ReferenceIdeal.Stages.lam_at _ _).trans hΛ)), (h c).2⟩
  · refine (θ_run _ _ _).mono (fun r h c => ?_) (Cert.ReferenceIdeal.Value.run m' g')
    refine ⟨(h c).1.trans ?_, (h c).2⟩
    rw [Cert.ReferenceIdeal.Read.val_main_v71_eq, (hargs c).1, (hargs c).2.1, (hargs c).2.2]

/-- The output projection's reference leaves its arguments unchanged and every counter at zero. -/
theorem out_reference_frame : Cert.quiescent_Reference2Ideal := fun m g _ =>
  (θ_run _ _ _).mono (fun r h => ⟨fun c => (h c).2, sem_eq_zero_of_no_sems (by decide) _⟩) (Cert.Reference2Ideal.Value.run m g)

/-- The output projection and its reference, from memories that agree on the arguments, end with the same rows. -/
theorem out_algebraic : Cert.algebraic_Kernel2Ideal_Reference2Ideal := by
  intro m g m' g' hpre hargs
  refine ⟨fun c => Cert.Reference2Ideal.Read.val_main_v37 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7)), ?_, ?_⟩
  · refine (θ_run _ _ _).mono (fun r h c => ?_) (Cert.Kernel2Ideal.Value.run_blocks m g)
    exact ⟨(h c).1.trans (Cert.Kernel2Ideal.Out.array m c), (h c).2⟩
  · refine (θ_run _ _ _).mono (fun r h c => ?_) (Cert.Reference2Ideal.Value.run m' g')
    refine ⟨(h c).1.trans ?_, (h c).2⟩
    rw [Cert.Reference2Ideal.Read.val_main_v37_eq, (hargs c).1, (hargs c).2.1, (hargs c).2.2.1, (hargs c).2.2.2.1, (hargs c).2.2.2.2.1, (hargs c).2.2.2.2.2.1, (hargs c).2.2.2.2.2.2.1, (hargs c).2.2.2.2.2.2.2]

/-- The bodies of the input projection and of its idealization are the same. -/
theorem proj_defs₀ : (Cert.Kernel3.defs₀ (F := Bits)) = (Cert.Kernel3Ideal.defs₀ (F := Bits)) := by
  unfold Cert.Kernel3.defs₀ Cert.Kernel3Ideal.defs₀
  refine congrArg Defs.onTc (funext fun l => funext fun a => ?_)
  match l, a with
  | 0, (t, s) => rfl

/-- So are the bodies with the pipeline around them. -/
theorem proj_defs : (Cert.Kernel3.defs (F := Bits)) = (Cert.Kernel3Ideal.defs (F := Bits)) :=
  congrArg (Pipeline.defs (Cert.Kernel3Ideal.pcfgs (F := Bits))) proj_defs₀

/-- The input projection leaves its arguments unchanged and every counter at zero. -/
theorem proj_frame : Cert.quiescent_Kernel3 := fun m g _ => by
  rw [proj_defs]
  exact Cert.Kernel3Ideal.Proj.frame (F := Bits) m g

/-- The input projection's reference leaves its arguments unchanged and every counter at zero. -/
theorem proj_reference_frame : Cert.quiescent_Reference3Ideal := fun m g _ =>
  (θ_run _ _ _).mono (fun r h => ⟨fun c => (h c).2.2.2.2, sem_eq_zero_of_no_sems (by decide) _⟩) (Cert.Reference3Ideal.Value.run m g)

/-- The input projection and its reference, from memories that agree on the arguments, end with the same four results. -/
theorem proj_algebraic : Cert.algebraic_Kernel3Ideal_Reference3Ideal := by
  intro m g m' g' hpre hargs
  refine ⟨fun c => Cert.Reference3Ideal.Read.val_main_v14 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)),
    fun c => Cert.Reference3Ideal.Read.val_main_v20 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg3)),
    fun c => Cert.Reference3Ideal.Read.val_main_v25 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg4)),
    fun c => Cert.Reference3Ideal.Read.val_main_v30 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg5)), ?_, ?_⟩
  · refine (θ_run _ _ _).mono (fun r h c => ?_) (Cert.Kernel3Ideal.Proj.run_values (F := Ideal) m g)
    exact ⟨(h.1 c).2.1.trans (Cert.Kernel3Ideal.Proj.array_u m c), (h.1 c).2.2.1.trans (Cert.Kernel3Ideal.Proj.array_g m c),
      (h.1 c).2.2.2.1.trans (Cert.Kernel3Ideal.Proj.array_keys m c), (h.1 c).2.2.2.2.trans (Cert.Kernel3Ideal.Proj.array_values m c),
      (h.1 c).1⟩
  · refine (θ_run _ _ _).mono (fun r h c => ?_) (Cert.Reference3Ideal.Value.run m' g')
    refine ⟨(h c).1.trans ?_, (h c).2.1.trans ?_, (h c).2.2.1.trans ?_, (h c).2.2.2.1.trans ?_, (h c).2.2.2.2⟩
    · rw [Cert.Reference3Ideal.Read.val_main_v14_eq, (hargs c).1, (hargs c).2.1, (hargs c).2.2.1]
    · rw [Cert.Reference3Ideal.Read.val_main_v20_eq, (hargs c).1, (hargs c).2.1, (hargs c).2.2.2.1]
    · rw [Cert.Reference3Ideal.Read.val_main_v25_eq, (hargs c).1, (hargs c).2.1, (hargs c).2.2.1, (hargs c).2.2.2.2.1]
    · rw [Cert.Reference3Ideal.Read.val_main_v30_eq, (hargs c).1, (hargs c).2.1, (hargs c).2.2.1, (hargs c).2.2.2.2.2]

/-- The sample mLSTM's reference leaves its arguments unchanged and every counter at zero. -/
theorem mem_reference_frame : Cert.quiescent_Reference4Ideal := fun m g _ =>
  (θ_run _ _ _).mono (fun r h => ⟨fun c => (h c).2.2.2, sem_eq_zero_of_no_sems (by decide) _⟩) (Cert.Reference4Ideal.Value.run m g)

/-- The sample mLSTM and its reference, from memories that agree on arguments with real forget gates, end with the same
matrices, vectors and maxima. -/
theorem mem_algebraic : Cert.algebraic_Kernel4Ideal_Reference4Ideal_pre_finite4 := by
  intro m g m' g' hpre hargs
  refine ⟨fun c => Cert.Reference4Ideal.Read.val_main_v97 (F := Ideal) (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg7))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10)),
    fun c => Cert.Reference4Ideal.Read.val_main_v92 (F := Ideal) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg5))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg8))
      (m ((c.tc : Thread Cert.Kernel4Ideal.nD Cert.Kernel4Ideal.τ).loc Cert.Kernel4Ideal.main_arg9))
      (m ((c.tc : Thread Cert.Kernel4Ideal.nD Cert.Kernel4Ideal.τ).loc Cert.Kernel4Ideal.main_arg10)),
    fun c => Cert.Reference4Ideal.Read.val_main_v98 (F := Ideal) (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg6))
      (m ((c.tc : Thread Cert.Kernel4Ideal.nD Cert.Kernel4Ideal.τ).loc Cert.Kernel4Ideal.main_arg10)), ?_, ?_⟩
  · refine (θ_run _ _ _).mono (fun r h c => ?_) (Cert.Kernel4Ideal.Value.run_blocks m g)
    have hr := Cert.Kernel4Ideal.Mem.real4 _ _ _ _ _ _ _ _ _ _ _ _ (hpre c).1 (hpre c).2
    exact ⟨(h c).2.1.trans (Cert.Kernel4Ideal.Mem.array_c m c hr), (h c).2.2.1.trans (Cert.Kernel4Ideal.Mem.array_n m c hr),
      (h c).2.2.2.1.trans (Cert.Kernel4Ideal.Mem.array_m m c hr), (h c).2.2.2.2⟩
  · refine (θ_run _ _ _).mono (fun r h c => ?_) (Cert.Reference4Ideal.Value.run m' g')
    refine ⟨(h c).1.trans ?_, (h c).2.1.trans ?_, (h c).2.2.1.trans ?_, (h c).2.2.2⟩
    · rw [Cert.Reference4Ideal.Read.val_main_v97_eq, (hargs c).1, (hargs c).2.1, (hargs c).2.2.2.1, (hargs c).2.2.2.2.1, (hargs c).2.2.2.2.2.2.1, (hargs c).2.2.2.2.2.2.2.1, (hargs c).2.2.2.2.2.2.2.2.1, (hargs c).2.2.2.2.2.2.2.2.2.1, (hargs c).2.2.2.2.2.2.2.2.2.2.1]
    · rw [Cert.Reference4Ideal.Read.val_main_v92_eq, (hargs c).2.1, (hargs c).2.2.2.1, (hargs c).2.2.2.2.2.1, (hargs c).2.2.2.2.2.2.1, (hargs c).2.2.2.2.2.2.2.2.1, (hargs c).2.2.2.2.2.2.2.2.2.1, (hargs c).2.2.2.2.2.2.2.2.2.2.1]
    · rw [Cert.Reference4Ideal.Read.val_main_v98_eq, (hargs c).2.1, (hargs c).2.2.2.2.2.2.1, (hargs c).2.2.2.2.2.2.2.2.2.2.1]

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_finite4.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    out_reference_frame,
    proj_frame,
    fun m g _ => Cert.Kernel3Ideal.Proj.frame m g,
    proj_reference_frame,
    fun m g _ => Cert.Kernel4.Gen.frame m g,
    fun m g _ => Cert.Kernel4Ideal.Gen.frame m g,
    fun m g _ => Cert.Kernel4Ideal.Gen.frame m g,
    mem_reference_frame,
    fun m g _ => mem_reference_frame m g trivial,
    IdealRules.named_const.statement Cert.KernelIdeal.κ "scale_log2e" .f32 0x3E38AA3B#32 _ rfl,
    algebraic,
    trivial,
    out_algebraic,
    trivial,
    proj_algebraic,
    trivial,
    mem_algebraic⟩

end Cert.Proof

end
